-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sparse_overlaps [hPre_sparse_overlaps : Cert.Pre_sparse_overlaps.Facts] (m : (ℓ : Loc Cert.KernelIdeal.nD Cert.KernelIdeal.τ Cert.KernelIdeal.sig) → Buf (Elt Ideal) ℓ) : Prop :=
  ∀ c : Dev Cert.KernelIdeal.nD,
    (Cert.Pre_sparse_overlaps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sparse_overlaps [hPre_sparse_overlaps : Cert.Pre_sparse_overlaps.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sparse_overlaps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_sparse_overlaps [hKernelIdeal : Cert.KernelIdeal.Facts] [hPre_sparse_overlaps : Cert.Pre_sparse_overlaps.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sparse_overlaps m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_sparse_overlaps [hReferenceIdeal : Cert.ReferenceIdeal.Facts] [hPre_sparse_overlaps : Cert.Pre_sparse_overlaps.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sparse_overlaps m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_sparse_overlaps [hKernelIdeal : Cert.KernelIdeal.Facts] [hReferenceIdeal : Cert.ReferenceIdeal.Facts] [hPre_sparse_overlaps : Cert.Pre_sparse_overlaps.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sparse_overlaps m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_sparse_overlaps : Cert.Pre_sparse_overlaps.Facts),
    quiescent_Kernel (hKernel := hKernel)
    ∧ quiescent_KernelIdeal (hKernelIdeal := hKernelIdeal)
    ∧ quiescent_KernelIdeal_pre_sparse_overlaps (hKernelIdeal := hKernelIdeal) (hPre_sparse_overlaps := hPre_sparse_overlaps)
    ∧ quiescent_ReferenceIdeal (hReferenceIdeal := hReferenceIdeal)
    ∧ quiescent_ReferenceIdeal_pre_sparse_overlaps (hReferenceIdeal := hReferenceIdeal) (hPre_sparse_overlaps := hPre_sparse_overlaps)
    ∧ preserves_Kernel_KernelIdeal
    ∧ algebraic_KernelIdeal_ReferenceIdeal_pre_sparse_overlaps (hKernelIdeal := hKernelIdeal) (hReferenceIdeal := hReferenceIdeal) (hPre_sparse_overlaps := hPre_sparse_overlaps)
-- ==== Pre_sparse_overlaps.lean ====
abbrev S8x810x64x64 : Shape := ⟨4, ![8, 810, 64, 64]⟩
abbrev S8x810x32x32 : Shape := ⟨4, ![8, 810, 32, 32]⟩
abbrev S8x810x16x16 : Shape := ⟨4, ![8, 810, 16, 16]⟩
abbrev S8x810x8x8 : Shape := ⟨4, ![8, 810, 8, 8]⟩
abbrev S8x810x4x4 : Shape := ⟨4, ![8, 810, 4, 4]⟩
abbrev S8x36x64x64 : Shape := ⟨4, ![8, 36, 64, 64]⟩
abbrev S8x36x32x32 : Shape := ⟨4, ![8, 36, 32, 32]⟩
abbrev S8x36x16x16 : Shape := ⟨4, ![8, 36, 16, 16]⟩
abbrev S8x36x8x8 : Shape := ⟨4, ![8, 36, 8, 8]⟩
abbrev S8x36x4x4 : Shape := ⟨4, ![8, 36, 4, 4]⟩
abbrev S8 : Shape := ⟨1, ![8]⟩
abbrev S49104x4 : Shape := ⟨2, ![49104, 4]⟩
abbrev S8x64x64x810 : Shape := ⟨4, ![8, 64, 64, 810]⟩
abbrev S8x36864x90 : Shape := ⟨3, ![8, 36864, 90]⟩
abbrev S8x32x32x810 : Shape := ⟨4, ![8, 32, 32, 810]⟩
abbrev S8x9216x90 : Shape := ⟨3, ![8, 9216, 90]⟩
abbrev S8x16x16x810 : Shape := ⟨4, ![8, 16, 16, 810]⟩
abbrev S8x2304x90 : Shape := ⟨3, ![8, 2304, 90]⟩
abbrev S8x8x8x810 : Shape := ⟨4, ![8, 8, 8, 810]⟩
abbrev S8x576x90 : Shape := ⟨3, ![8, 576, 90]⟩
abbrev S8x4x4x810 : Shape := ⟨4, ![8, 4, 4, 810]⟩
abbrev S8x144x90 : Shape := ⟨3, ![8, 144, 90]⟩
abbrev S8x49104x90 : Shape := ⟨3, ![8, 49104, 90]⟩
abbrev S8x64x64x36 : Shape := ⟨4, ![8, 64, 64, 36]⟩
abbrev S8x36864x4 : Shape := ⟨3, ![8, 36864, 4]⟩
abbrev S8x32x32x36 : Shape := ⟨4, ![8, 32, 32, 36]⟩
abbrev S8x9216x4 : Shape := ⟨3, ![8, 9216, 4]⟩
abbrev S8x16x16x36 : Shape := ⟨4, ![8, 16, 16, 36]⟩
abbrev S8x2304x4 : Shape := ⟨3, ![8, 2304, 4]⟩
abbrev S8x8x8x36 : Shape := ⟨4, ![8, 8, 8, 36]⟩
abbrev S8x576x4 : Shape := ⟨3, ![8, 576, 4]⟩
abbrev S8x4x4x36 : Shape := ⟨4, ![8, 4, 4, 36]⟩
abbrev S8x144x4 : Shape := ⟨3, ![8, 144, 4]⟩
abbrev S8x49104x4 : Shape := ⟨3, ![8, 49104, 4]⟩
abbrev S8x4419360 : Shape := ⟨2, ![8, 4419360]⟩
abbrev S8x5000 : Shape := ⟨2, ![8, 5000]⟩
abbrev S_ : Shape := ⟨0, ![]⟩
abbrev S8x5000x1 : Shape := ⟨3, ![8, 5000, 1]⟩
abbrev S8x5000x4 : Shape := ⟨3, ![8, 5000, 4]⟩
abbrev S8x1x5000 : Shape := ⟨3, ![8, 1, 5000]⟩
abbrev S8x5000x5000 : Shape := ⟨3, ![8, 5000, 5000]⟩

class Facts : Prop where
  transposes_S8x810x64x64_S8x64x64x810_0_2_3_1 : S8x810x64x64.Transposes [0, 2, 3, 1] S8x64x64x810
  shapeCasts_S8x64x64x810_S8x36864x90 : S8x64x64x810.ShapeCasts S8x36864x90
  transposes_S8x810x32x32_S8x32x32x810_0_2_3_1 : S8x810x32x32.Transposes [0, 2, 3, 1] S8x32x32x810
  shapeCasts_S8x32x32x810_S8x9216x90 : S8x32x32x810.ShapeCasts S8x9216x90
  transposes_S8x810x16x16_S8x16x16x810_0_2_3_1 : S8x810x16x16.Transposes [0, 2, 3, 1] S8x16x16x810
  shapeCasts_S8x16x16x810_S8x2304x90 : S8x16x16x810.ShapeCasts S8x2304x90
  transposes_S8x810x8x8_S8x8x8x810_0_2_3_1 : S8x810x8x8.Transposes [0, 2, 3, 1] S8x8x8x810
  shapeCasts_S8x8x8x810_S8x576x90 : S8x8x8x810.ShapeCasts S8x576x90
  transposes_S8x810x4x4_S8x4x4x810_0_2_3_1 : S8x810x4x4.Transposes [0, 2, 3, 1] S8x4x4x810
  shapeCasts_S8x4x4x810_S8x144x90 : S8x4x4x810.ShapeCasts S8x144x90
  concatenates_S8x36864x90_S8x9216x90_S8x2304x90_S8x576x90_S8x144x90_S8x49104x90_d1 : Shape.Concatenates [S8x36864x90, S8x9216x90, S8x2304x90, S8x576x90, S8x144x90] S8x49104x90 1
  transposes_S8x36x64x64_S8x64x64x36_0_2_3_1 : S8x36x64x64.Transposes [0, 2, 3, 1] S8x64x64x36
  shapeCasts_S8x64x64x36_S8x36864x4 : S8x64x64x36.ShapeCasts S8x36864x4
  transposes_S8x36x32x32_S8x32x32x36_0_2_3_1 : S8x36x32x32.Transposes [0, 2, 3, 1] S8x32x32x36
  shapeCasts_S8x32x32x36_S8x9216x4 : S8x32x32x36.ShapeCasts S8x9216x4
  transposes_S8x36x16x16_S8x16x16x36_0_2_3_1 : S8x36x16x16.Transposes [0, 2, 3, 1] S8x16x16x36
  shapeCasts_S8x16x16x36_S8x2304x4 : S8x16x16x36.ShapeCasts S8x2304x4
  transposes_S8x36x8x8_S8x8x8x36_0_2_3_1 : S8x36x8x8.Transposes [0, 2, 3, 1] S8x8x8x36
  shapeCasts_S8x8x8x36_S8x576x4 : S8x8x8x36.ShapeCasts S8x576x4
  transposes_S8x36x4x4_S8x4x4x36_0_2_3_1 : S8x36x4x4.Transposes [0, 2, 3, 1] S8x4x4x36
  shapeCasts_S8x4x4x36_S8x144x4 : S8x4x4x36.ShapeCasts S8x144x4
  concatenates_S8x36864x4_S8x9216x4_S8x2304x4_S8x576x4_S8x144x4_S8x49104x4_d1 : Shape.Concatenates [S8x36864x4, S8x9216x4, S8x2304x4, S8x576x4, S8x144x4] S8x49104x4 1
  shapeCasts_S8x49104x90_S8x4419360 : S8x49104x90.ShapeCasts S8x4419360
  sliceFits_S8x4419360_S8x5000 : S8x4419360.Slices (fun _ => 0) S8x5000
  bcast_S_S8x5000 : S_.BroadcastsInDim S8x5000 (![] : Fin 0 → Fin S8x5000.rank)
  bcast_S8x5000_S8x5000x1_0_1 : S8x5000.BroadcastsInDim S8x5000x1 (![0, 1] : Fin 2 → Fin S8x5000x1.rank)
  bcast_S_S8x5000x1 : S_.BroadcastsInDim S8x5000x1 (![] : Fin 0 → Fin S8x5000x1.rank)
  slices_S8x5000x4_S8x5000x1_0_0_0 : S8x5000x4.Slices ![0, 0, 0] S8x5000x1
  shapeCasts_S8x5000x1_S8x5000 : S8x5000x1.ShapeCasts S8x5000
  slices_S8x5000x4_S8x5000x1_0_0_2 : S8x5000x4.Slices ![0, 0, 2] S8x5000x1
  slices_S8x5000x4_S8x5000x1_0_0_1 : S8x5000x4.Slices ![0, 0, 1] S8x5000x1
  slices_S8x5000x4_S8x5000x1_0_0_3 : S8x5000x4.Slices ![0, 0, 3] S8x5000x1
  bcast_S8x5000_S8x1x5000_0_2 : S8x5000.BroadcastsInDim S8x1x5000 (![0, 2] : Fin 2 → Fin S8x1x5000.rank)
  bcast_S8x5000x1_S8x5000x5000_0_1_2 : S8x5000x1.BroadcastsInDim S8x5000x5000 (![0, 1, 2] : Fin 3 → Fin S8x5000x5000.rank)
  bcast_S8x1x5000_S8x5000x5000_0_1_2 : S8x1x5000.BroadcastsInDim S8x5000x5000 (![0, 1, 2] : Fin 3 → Fin S8x5000x5000.rank)
  bcast_S_S8x5000x5000 : S_.BroadcastsInDim S8x5000x5000 (![] : Fin 0 → Fin S8x5000x5000.rank)
  reducesTo_S8x5000x5000_S8x5000_d2 : S8x5000x5000.ReducesTo [2] S8x5000
  h_S_ : 0 < S_.numel
  gather_S8x49104x4_S8x5000x1_S8x5000x4_2_1_0_0_1_2_114_wf : GatherDims.WF S8x49104x4 S8x5000x1 S8x5000x4 [2] [1] [0] [1] [0] 2 ![1, 1, 4]
  gather_S49104x4_S8x5000x1_S8x5000x4_2_0_n_n_0_2_14_wf : GatherDims.WF S49104x4 S8x5000x1 S8x5000x4 [2] [0] [] [0] [] 2 ![1, 4]

variable [Facts]

def gather_S8x49104x4_S8x5000x1_S8x5000x4_2_1_0_0_1_2_114 : GatherDims S8x49104x4 S8x5000x1 S8x5000x4 where
  offsetDims := [2]
  collapsedSliceDims := [1]
  operandBatchingDims := [0]
  startIndicesBatchingDims := [0]
  startIndexMap := [1]
  indexVectorDim := 2
  sliceSizes := ![1, 1, 4]
  wf := gather_S8x49104x4_S8x5000x1_S8x5000x4_2_1_0_0_1_2_114_wf
def gather_S49104x4_S8x5000x1_S8x5000x4_2_0_n_n_0_2_14 : GatherDims S49104x4 S8x5000x1 S8x5000x4 where
  offsetDims := [2]
  collapsedSliceDims := [0]
  operandBatchingDims := []
  startIndicesBatchingDims := []
  startIndexMap := [0]
  indexVectorDim := 2
  sliceSizes := ![1, 4]
  wf := gather_S49104x4_S8x5000x1_S8x5000x4_2_0_n_n_0_2_14_wf
def fn_take_along_axis {F : FTy → Type} [FloatOps F] (arg0 : FVec F S8x49104x4 .f32) (arg1 : IVec S8x5000x1 32) : FVec F S8x5000x4 .f32 :=
  let c : IVec S_ 32 := constantI S_ 32 0#32
  let v0 : IVec S8x5000x1 32 := broadcastInDim S8x5000x1 ![] bcast_S_S8x5000x1 c
  let v1 : IVec S8x5000x1 1 := cmpi .slt arg1 v0
  let c_0 : IVec S_ 32 := constantI S_ 32 49104#32
  let v2 : IVec S8x5000x1 32 := broadcastInDim S8x5000x1 ![] bcast_S_S8x5000x1 c_0
  let v3 : IVec S8x5000x1 32 := addi arg1 v2
  let v4 : IVec S8x5000x1 32 := select v1 v3 arg1
  let v5 : FVec F S8x5000x4 .f32 := (fun x i => Host.gather gather_S8x49104x4_S8x5000x1_S8x5000x4_2_1_0_0_1_2_114 x i) arg0 v4
  v5

def fn_clip {F : FTy → Type} [FloatOps F] (arg0 : FVec F S8x5000 .f32) (arg1 : FVec F S_ .f32) (arg2 : FVec F S_ .f32) : FVec F S8x5000 .f32 :=
  let v0 : FVec F S_ .f32 := id arg1
  let v1 : FVec F S8x5000 .f32 := broadcastInDim S8x5000 ![] bcast_S_S8x5000 v0
  let v2 : FVec F S8x5000 .f32 := maximumf v1 arg0
  let v3 : FVec F S_ .f32 := id arg2
  let v4 : FVec F S8x5000 .f32 := broadcastInDim S8x5000 ![] bcast_S_S8x5000 v3
  let v5 : FVec F S8x5000 .f32 := minimumf v4 v2
  v5

def fn_part8 {F : FTy → Type} [FloatOps F] (main_v121 : IVec S8x5000 1) (main_v161 : FVec F S8x5000x5000 .f32) (main_cst_25 : FVec F S_ .f32) : IVec S8x5000 1 :=
  let main_v162 : FVec F S8x5000x5000 .f32 := broadcastInDim S8x5000x5000 ![] bcast_S_S8x5000x5000 main_cst_25
  let main_v163 : IVec S8x5000x5000 1 := cmpf .ogt main_v161 main_v162
  let main_v164 : FVec F S8x5000x5000 .f32 := uitofp .f32 main_v163
  let main_cst_26 : FVec F S_ .f32 := constant S_ .f32 0x00000000#32
  let main_v165 : FVec F S8x5000 .f32 := (fun x v => Host.reduceAdd x v reducesTo_S8x5000x5000_S8x5000_d2 h_S_) main_v164 main_cst_26
  let main_cst_27 : FVec F S_ .f32 := constant S_ .f32 0x42480000#32
  let main_v166 : FVec F S8x5000 .f32 := broadcastInDim S8x5000 ![] bcast_S_S8x5000 main_cst_27
  let main_v167 : IVec S8x5000 1 := cmpf .ole main_v165 main_v166
  let main_v168 : IVec S8x5000 1 := andi main_v121 main_v167
  main_v168

def fn_part7 {F : FTy → Type} [FloatOps F] (main_v121 : IVec S8x5000 1) (main_v122 : FVec F S8x5000x1 .f32) (main_v123 : FVec F S8x5000x1 .f32) (main_v124 : FVec F S8x5000x1 .f32) (main_v125 : FVec F S8x5000x1 .f32) (main_v126 : FVec F S8x1x5000 .f32) (main_v127 : FVec F S8x1x5000 .f32) (main_v128 : FVec F S8x1x5000 .f32) (main_v129 : FVec F S8x1x5000 .f32) (main_v132 : FVec F S8x5000x5000 .f32) (main_v135 : FVec F S8x5000x5000 .f32) (main_v138 : FVec F S8x5000x5000 .f32) (main_v141 : FVec F S8x5000x5000 .f32) : IVec S8x5000 1 :=
  let main_v142 : FVec F S8x5000x5000 .f32 := subf main_v138 main_v132
  let main_cst_22 : FVec F S_ .f32 := constant S_ .f32 0x00000000#32
  let main_v143 : FVec F S8x5000x5000 .f32 := broadcastInDim S8x5000x5000 ![] bcast_S_S8x5000x5000 main_cst_22
  let main_v144 : FVec F S8x5000x5000 .f32 := maximumf main_v142 main_v143
  let main_v145 : FVec F S8x5000x5000 .f32 := subf main_v141 main_v135
  let main_cst_23 : FVec F S_ .f32 := constant S_ .f32 0x00000000#32
  let main_v146 : FVec F S8x5000x5000 .f32 := broadcastInDim S8x5000x5000 ![] bcast_S_S8x5000x5000 main_cst_23
  let main_v147 : FVec F S8x5000x5000 .f32 := maximumf main_v145 main_v146
  let main_v148 : FVec F S8x5000x5000 .f32 := mulf main_v144 main_v147
  let main_v149 : FVec F S8x5000x1 .f32 := subf main_v124 main_v122
  let main_v150 : FVec F S8x5000x1 .f32 := subf main_v125 main_v123
  let main_v151 : FVec F S8x5000x1 .f32 := mulf main_v149 main_v150
  let main_v152 : FVec F S8x1x5000 .f32 := subf main_v128 main_v126
  let main_v153 : FVec F S8x1x5000 .f32 := subf main_v129 main_v127
  let main_v154 : FVec F S8x1x5000 .f32 := mulf main_v152 main_v153
  let main_v155 : FVec F S8x5000x5000 .f32 := broadcastInDim S8x5000x5000 ![0, 1, 2] bcast_S8x5000x1_S8x5000x5000_0_1_2 main_v151
  let main_v156 : FVec F S8x5000x5000 .f32 := broadcastInDim S8x5000x5000 ![0, 1, 2] bcast_S8x1x5000_S8x5000x5000_0_1_2 main_v154
  let main_v157 : FVec F S8x5000x5000 .f32 := addf main_v155 main_v156
  let main_v158 : FVec F S8x5000x5000 .f32 := subf main_v157 main_v148
  let main_cst_24 : FVec F S_ .f32 := constant S_ .f32 0x322BCC77#32
  let main_v159 : FVec F S8x5000x5000 .f32 := broadcastInDim S8x5000x5000 ![] bcast_S_S8x5000x5000 main_cst_24
  let main_v160 : FVec F S8x5000x5000 .f32 := addf main_v158 main_v159
  let main_v161 : FVec F S8x5000x5000 .f32 := Host.divf main_v148 main_v160
  let main_cst_25 : FVec F S_ .f32 := constant S_ .f32 0x3F000000#32
  fn_part8 (F := F) main_v121 main_v161 main_cst_25

def fn_part6 {F : FTy → Type} [FloatOps F] (main_v88 : FVec F S8x5000 .f32) (main_v89 : FVec F S8x5000 .f32) (main_v90 : FVec F S8x5000 .f32) (main_v91 : FVec F S8x5000 .f32) (main_v108 : FVec F S8x5000 .f32) (main_v118 : FVec F S8x5000 .f32) : IVec S8x5000 1 :=
  let main_v119 : FVec F S8x5000 .f32 := Host.divf main_v108 main_v118
  let main_cst_21 : FVec F S_ .f32 := constant S_ .f32 0x3F000000#32
  let main_v120 : FVec F S8x5000 .f32 := broadcastInDim S8x5000 ![] bcast_S_S8x5000 main_cst_21
  let main_v121 : IVec S8x5000 1 := cmpf .ogt main_v119 main_v120
  let main_v122 : FVec F S8x5000x1 .f32 := broadcastInDim S8x5000x1 ![0, 1] bcast_S8x5000_S8x5000x1_0_1 main_v88
  let main_v123 : FVec F S8x5000x1 .f32 := broadcastInDim S8x5000x1 ![0, 1] bcast_S8x5000_S8x5000x1_0_1 main_v89
  let main_v124 : FVec F S8x5000x1 .f32 := broadcastInDim S8x5000x1 ![0, 1] bcast_S8x5000_S8x5000x1_0_1 main_v90
  let main_v125 : FVec F S8x5000x1 .f32 := broadcastInDim S8x5000x1 ![0, 1] bcast_S8x5000_S8x5000x1_0_1 main_v91
  let main_v126 : FVec F S8x1x5000 .f32 := broadcastInDim S8x1x5000 ![0, 2] bcast_S8x5000_S8x1x5000_0_2 main_v88
  let main_v127 : FVec F S8x1x5000 .f32 := broadcastInDim S8x1x5000 ![0, 2] bcast_S8x5000_S8x1x5000_0_2 main_v89
  let main_v128 : FVec F S8x1x5000 .f32 := broadcastInDim S8x1x5000 ![0, 2] bcast_S8x5000_S8x1x5000_0_2 main_v90
  let main_v129 : FVec F S8x1x5000 .f32 := broadcastInDim S8x1x5000 ![0, 2] bcast_S8x5000_S8x1x5000_0_2 main_v91
  let main_v130 : FVec F S8x5000x5000 .f32 := broadcastInDim S8x5000x5000 ![0, 1, 2] bcast_S8x5000x1_S8x5000x5000_0_1_2 main_v122
  let main_v131 : FVec F S8x5000x5000 .f32 := broadcastInDim S8x5000x5000 ![0, 1, 2] bcast_S8x1x5000_S8x5000x5000_0_1_2 main_v126
  let main_v132 : FVec F S8x5000x5000 .f32 := maximumf main_v130 main_v131
  let main_v133 : FVec F S8x5000x5000 .f32 := broadcastInDim S8x5000x5000 ![0, 1, 2] bcast_S8x5000x1_S8x5000x5000_0_1_2 main_v123
  let main_v134 : FVec F S8x5000x5000 .f32 := broadcastInDim S8x5000x5000 ![0, 1, 2] bcast_S8x1x5000_S8x5000x5000_0_1_2 main_v127
  let main_v135 : FVec F S8x5000x5000 .f32 := maximumf main_v133 main_v134
  let main_v136 : FVec F S8x5000x5000 .f32 := broadcastInDim S8x5000x5000 ![0, 1, 2] bcast_S8x5000x1_S8x5000x5000_0_1_2 main_v124
  let main_v137 : FVec F S8x5000x5000 .f32 := broadcastInDim S8x5000x5000 ![0, 1, 2] bcast_S8x1x5000_S8x5000x5000_0_1_2 main_v128
  let main_v138 : FVec F S8x5000x5000 .f32 := minimumf main_v136 main_v137
  let main_v139 : FVec F S8x5000x5000 .f32 := broadcastInDim S8x5000x5000 ![0, 1, 2] bcast_S8x5000x1_S8x5000x5000_0_1_2 main_v125
  let main_v140 : FVec F S8x5000x5000 .f32 := broadcastInDim S8x5000x5000 ![0, 1, 2] bcast_S8x1x5000_S8x5000x5000_0_1_2 main_v129
  let main_v141 : FVec F S8x5000x5000 .f32 := minimumf main_v139 main_v140
  fn_part7 (F := F) main_v121 main_v122 main_v123 main_v124 main_v125 main_v126 main_v127 main_v128 main_v129 main_v132 main_v135 main_v138 main_v141

def fn_part5 {F : FTy → Type} [FloatOps F] (main_v88 : FVec F S8x5000 .f32) (main_v89 : FVec F S8x5000 .f32) (main_v90 : FVec F S8x5000 .f32) (main_v91 : FVec F S8x5000 .f32) : IVec S8x5000 1 :=
  let main_v98 : FVec F S8x5000 .f32 := maximumf main_v88 main_v88
  let main_v99 : FVec F S8x5000 .f32 := maximumf main_v89 main_v89
  let main_v100 : FVec F S8x5000 .f32 := minimumf main_v90 main_v90
  let main_v101 : FVec F S8x5000 .f32 := minimumf main_v91 main_v91
  let main_v102 : FVec F S8x5000 .f32 := subf main_v100 main_v98
  let main_cst_18 : FVec F S_ .f32 := constant S_ .f32 0x00000000#32
  let main_v103 : FVec F S8x5000 .f32 := broadcastInDim S8x5000 ![] bcast_S_S8x5000 main_cst_18
  let main_v104 : FVec F S8x5000 .f32 := maximumf main_v102 main_v103
  let main_v105 : FVec F S8x5000 .f32 := subf main_v101 main_v99
  let main_cst_19 : FVec F S_ .f32 := constant S_ .f32 0x00000000#32
  let main_v106 : FVec F S8x5000 .f32 := broadcastInDim S8x5000 ![] bcast_S_S8x5000 main_cst_19
  let main_v107 : FVec F S8x5000 .f32 := maximumf main_v105 main_v106
  let main_v108 : FVec F S8x5000 .f32 := mulf main_v104 main_v107
  let main_v109 : FVec F S8x5000 .f32 := subf main_v90 main_v88
  let main_v110 : FVec F S8x5000 .f32 := subf main_v91 main_v89
  let main_v111 : FVec F S8x5000 .f32 := mulf main_v109 main_v110
  let main_v112 : FVec F S8x5000 .f32 := subf main_v90 main_v88
  let main_v113 : FVec F S8x5000 .f32 := subf main_v91 main_v89
  let main_v114 : FVec F S8x5000 .f32 := mulf main_v112 main_v113
  let main_v115 : FVec F S8x5000 .f32 := addf main_v111 main_v114
  let main_v116 : FVec F S8x5000 .f32 := subf main_v115 main_v108
  let main_cst_20 : FVec F S_ .f32 := constant S_ .f32 0x322BCC77#32
  let main_v117 : FVec F S8x5000 .f32 := broadcastInDim S8x5000 ![] bcast_S_S8x5000 main_cst_20
  let main_v118 : FVec F S8x5000 .f32 := addf main_v116 main_v117
  fn_part6 (F := F) main_v88 main_v89 main_v90 main_v91 main_v108 main_v118

def fn_part4 {F : FTy → Type} [FloatOps F] (main_values : FVec F S8x5000 .f32) (main_v69 : FVec F S8x5000 .f32) (main_v75 : FVec F S8x5000 .f32) (main_v78 : FVec F S8x5000 .f32) (main_v81 : FVec F S8x5000 .f32) (main_v84 : FVec F S8x5000 .f32) : IVec S8x5000 1 :=
  let main_cst_7 : FVec F S_ .f32 := constant S_ .f32 0x40000000#32
  let main_v85 : FVec F S8x5000 .f32 := broadcastInDim S8x5000 ![] bcast_S_S8x5000 main_cst_7
  let main_v86 : FVec F S8x5000 .f32 := Host.divf main_v69 main_v85
  let main_v87 : FVec F S8x5000 .f32 := addf main_v75 main_v86
  let main_cst_8 : FVec F S_ .f32 := constant S_ .f32 0x00000000#32
  let main_cst_9 : FVec F S_ .f32 := constant S_ .f32 0x44000000#32
  let main_v88 : FVec F S8x5000 .f32 := fn_clip (F := F) main_v78 main_cst_8 main_cst_9
  let main_cst_10 : FVec F S_ .f32 := constant S_ .f32 0x00000000#32
  let main_cst_11 : FVec F S_ .f32 := constant S_ .f32 0x44000000#32
  let main_v89 : FVec F S8x5000 .f32 := fn_clip (F := F) main_v81 main_cst_10 main_cst_11
  let main_cst_12 : FVec F S_ .f32 := constant S_ .f32 0x00000000#32
  let main_cst_13 : FVec F S_ .f32 := constant S_ .f32 0x44000000#32
  let main_v90 : FVec F S8x5000 .f32 := fn_clip (F := F) main_v84 main_cst_12 main_cst_13
  let main_cst_14 : FVec F S_ .f32 := constant S_ .f32 0x00000000#32
  let main_cst_15 : FVec F S_ .f32 := constant S_ .f32 0x44000000#32
  let main_v91 : FVec F S8x5000 .f32 := fn_clip (F := F) main_v87 main_cst_14 main_cst_15
  let main_v92 : FVec F S8x5000 .f32 := Host.negf main_values
  let main_v93 : FVec F S8x5000 .f32 := Host.exp main_v92
  let main_cst_16 : FVec F S_ .f32 := constant S_ .f32 0x3F800000#32
  let main_v94 : FVec F S8x5000 .f32 := broadcastInDim S8x5000 ![] bcast_S_S8x5000 main_cst_16
  let main_v95 : FVec F S8x5000 .f32 := addf main_v94 main_v93
  let main_cst_17 : FVec F S_ .f32 := constant S_ .f32 0x3F800000#32
  let main_v96 : FVec F S8x5000 .f32 := broadcastInDim S8x5000 ![] bcast_S_S8x5000 main_cst_17
  let main_v97 : FVec F S8x5000 .f32 := Host.divf main_v96 main_v95
  fn_part5 (F := F) main_v88 main_v89 main_v90 main_v91

def fn_part3 {F : FTy → Type} [FloatOps F] (main_values : FVec F S8x5000 .f32) (main_v28 : FVec F S8x5000x4 .f32) (main_v42 : FVec F S8x5000 .f32) (main_v49 : FVec F S8x5000 .f32) (main_v54 : FVec F S8x5000 .f32) (main_v59 : FVec F S8x5000 .f32) (main_v61 : FVec F S8x5000 .f32) (main_v63 : FVec F S8x5000 .f32) : IVec S8x5000 1 :=
  let main_v64 : FVec F S8x5000x1 .f32 := (extractStridedSlice S8x5000x1 ![0, 0, 2] · slices_S8x5000x4_S8x5000x1_0_0_2) main_v28
  let main_v65 : FVec F S8x5000 .f32 := shapeCast S8x5000 main_v64 shapeCasts_S8x5000x1_S8x5000
  let main_v66 : FVec F S8x5000x1 .f32 := (extractStridedSlice S8x5000x1 ![0, 0, 3] · slices_S8x5000x4_S8x5000x1_0_0_3) main_v28
  let main_v67 : FVec F S8x5000 .f32 := shapeCast S8x5000 main_v66 shapeCasts_S8x5000x1_S8x5000
  let main_v68 : FVec F S8x5000 .f32 := Host.exp main_v67
  let main_v69 : FVec F S8x5000 .f32 := mulf main_v68 main_v59
  let main_v70 : FVec F S8x5000 .f32 := Host.exp main_v65
  let main_v71 : FVec F S8x5000 .f32 := mulf main_v70 main_v54
  let main_v72 : FVec F S8x5000 .f32 := mulf main_v61 main_v54
  let main_v73 : FVec F S8x5000 .f32 := addf main_v72 main_v42
  let main_v74 : FVec F S8x5000 .f32 := mulf main_v63 main_v59
  let main_v75 : FVec F S8x5000 .f32 := addf main_v74 main_v49
  let main_cst_4 : FVec F S_ .f32 := constant S_ .f32 0x40000000#32
  let main_v76 : FVec F S8x5000 .f32 := broadcastInDim S8x5000 ![] bcast_S_S8x5000 main_cst_4
  let main_v77 : FVec F S8x5000 .f32 := Host.divf main_v71 main_v76
  let main_v78 : FVec F S8x5000 .f32 := subf main_v73 main_v77
  let main_cst_5 : FVec F S_ .f32 := constant S_ .f32 0x40000000#32
  let main_v79 : FVec F S8x5000 .f32 := broadcastInDim S8x5000 ![] bcast_S_S8x5000 main_cst_5
  let main_v80 : FVec F S8x5000 .f32 := Host.divf main_v69 main_v79
  let main_v81 : FVec F S8x5000 .f32 := subf main_v75 main_v80
  let main_cst_6 : FVec F S_ .f32 := constant S_ .f32 0x40000000#32
  let main_v82 : FVec F S8x5000 .f32 := broadcastInDim S8x5000 ![] bcast_S_S8x5000 main_cst_6
  let main_v83 : FVec F S8x5000 .f32 := Host.divf main_v71 main_v82
  let main_v84 : FVec F S8x5000 .f32 := addf main_v73 main_v83
  fn_part4 (F := F) main_values main_v69 main_v75 main_v78 main_v81 main_v84

def fn_part2 {F : FTy → Type} [FloatOps F] (main_values : FVec F S8x5000 .f32) (main_v28 : FVec F S8x5000x4 .f32) (main_v35 : FVec F S8x5000x4 .f32) (main_v40 : FVec F S8x5000 .f32) (main_cst : FVec F S_ .f32) : IVec S8x5000 1 :=
  let main_v41 : FVec F S8x5000 .f32 := broadcastInDim S8x5000 ![] bcast_S_S8x5000 main_cst
  let main_v42 : FVec F S8x5000 .f32 := Host.divf main_v40 main_v41
  let main_v43 : FVec F S8x5000x1 .f32 := (extractStridedSlice S8x5000x1 ![0, 0, 1] · slices_S8x5000x4_S8x5000x1_0_0_1) main_v35
  let main_v44 : FVec F S8x5000 .f32 := shapeCast S8x5000 main_v43 shapeCasts_S8x5000x1_S8x5000
  let main_v45 : FVec F S8x5000x1 .f32 := (extractStridedSlice S8x5000x1 ![0, 0, 3] · slices_S8x5000x4_S8x5000x1_0_0_3) main_v35
  let main_v46 : FVec F S8x5000 .f32 := shapeCast S8x5000 main_v45 shapeCasts_S8x5000x1_S8x5000
  let main_v47 : FVec F S8x5000 .f32 := addf main_v44 main_v46
  let main_cst_3 : FVec F S_ .f32 := constant S_ .f32 0x40000000#32
  let main_v48 : FVec F S8x5000 .f32 := broadcastInDim S8x5000 ![] bcast_S_S8x5000 main_cst_3
  let main_v49 : FVec F S8x5000 .f32 := Host.divf main_v47 main_v48
  let main_v50 : FVec F S8x5000x1 .f32 := (extractStridedSlice S8x5000x1 ![0, 0, 2] · slices_S8x5000x4_S8x5000x1_0_0_2) main_v35
  let main_v51 : FVec F S8x5000 .f32 := shapeCast S8x5000 main_v50 shapeCasts_S8x5000x1_S8x5000
  let main_v52 : FVec F S8x5000x1 .f32 := (extractStridedSlice S8x5000x1 ![0, 0, 0] · slices_S8x5000x4_S8x5000x1_0_0_0) main_v35
  let main_v53 : FVec F S8x5000 .f32 := shapeCast S8x5000 main_v52 shapeCasts_S8x5000x1_S8x5000
  let main_v54 : FVec F S8x5000 .f32 := subf main_v51 main_v53
  let main_v55 : FVec F S8x5000x1 .f32 := (extractStridedSlice S8x5000x1 ![0, 0, 3] · slices_S8x5000x4_S8x5000x1_0_0_3) main_v35
  let main_v56 : FVec F S8x5000 .f32 := shapeCast S8x5000 main_v55 shapeCasts_S8x5000x1_S8x5000
  let main_v57 : FVec F S8x5000x1 .f32 := (extractStridedSlice S8x5000x1 ![0, 0, 1] · slices_S8x5000x4_S8x5000x1_0_0_1) main_v35
  let main_v58 : FVec F S8x5000 .f32 := shapeCast S8x5000 main_v57 shapeCasts_S8x5000x1_S8x5000
  let main_v59 : FVec F S8x5000 .f32 := subf main_v56 main_v58
  let main_v60 : FVec F S8x5000x1 .f32 := (extractStridedSlice S8x5000x1 ![0, 0, 0] · slices_S8x5000x4_S8x5000x1_0_0_0) main_v28
  let main_v61 : FVec F S8x5000 .f32 := shapeCast S8x5000 main_v60 shapeCasts_S8x5000x1_S8x5000
  let main_v62 : FVec F S8x5000x1 .f32 := (extractStridedSlice S8x5000x1 ![0, 0, 1] · slices_S8x5000x4_S8x5000x1_0_0_1) main_v28
  let main_v63 : FVec F S8x5000 .f32 := shapeCast S8x5000 main_v62 shapeCasts_S8x5000x1_S8x5000
  fn_part3 (F := F) main_values main_v28 main_v42 main_v49 main_v54 main_v59 main_v61 main_v63

def fn_part1 {F : FTy → Type} [FloatOps F] (main_arg11 : FVec F S49104x4 .f32) (main_v21 : FVec F S8x49104x4 .f32) (main_v22 : FVec F S8x4419360 .f32) (main_values : FVec F S8x5000 .f32) : IVec S8x5000 1 :=
  let main_indices : IVec S8x5000 32 := (fun x => (Host.topK S8x5000 1 (FloatOps.cmpfTotal .gt) x sliceFits_S8x4419360_S8x5000).2) main_v22
  let main_c : IVec S_ 32 := constantI S_ 32 90#32
  let main_v23 : IVec S8x5000 32 := broadcastInDim S8x5000 ![] bcast_S_S8x5000 main_c
  let main_v24 : IVec S8x5000 32 := Host.divsi main_indices main_v23
  let main_c_0 : IVec S_ 32 := constantI S_ 32 90#32
  let main_v25 : IVec S8x5000 32 := broadcastInDim S8x5000 ![] bcast_S_S8x5000 main_c_0
  let main_v26 : IVec S8x5000 32 := Host.remsi main_indices main_v25
  let main_v27 : IVec S8x5000x1 32 := broadcastInDim S8x5000x1 ![0, 1] bcast_S8x5000_S8x5000x1_0_1 main_v24
  let main_v28 : FVec F S8x5000x4 .f32 := fn_take_along_axis (F := F) main_v21 main_v27
  let main_c_1 : IVec S_ 32 := constantI S_ 32 0#32
  let main_v29 : IVec S8x5000 32 := broadcastInDim S8x5000 ![] bcast_S_S8x5000 main_c_1
  let main_v30 : IVec S8x5000 1 := cmpi .slt main_v24 main_v29
  let main_c_2 : IVec S_ 32 := constantI S_ 32 49104#32
  let main_v31 : IVec S8x5000 32 := broadcastInDim S8x5000 ![] bcast_S_S8x5000 main_c_2
  let main_v32 : IVec S8x5000 32 := addi main_v24 main_v31
  let main_v33 : IVec S8x5000 32 := select main_v30 main_v32 main_v24
  let main_v34 : IVec S8x5000x1 32 := broadcastInDim S8x5000x1 ![0, 1] bcast_S8x5000_S8x5000x1_0_1 main_v33
  let main_v35 : FVec F S8x5000x4 .f32 := (fun x i => Host.gather gather_S49104x4_S8x5000x1_S8x5000x4_2_0_n_n_0_2_14 x i) main_arg11 main_v34
  let main_v36 : FVec F S8x5000x1 .f32 := (extractStridedSlice S8x5000x1 ![0, 0, 0] · slices_S8x5000x4_S8x5000x1_0_0_0) main_v35
  let main_v37 : FVec F S8x5000 .f32 := shapeCast S8x5000 main_v36 shapeCasts_S8x5000x1_S8x5000
  let main_v38 : FVec F S8x5000x1 .f32 := (extractStridedSlice S8x5000x1 ![0, 0, 2] · slices_S8x5000x4_S8x5000x1_0_0_2) main_v35
  let main_v39 : FVec F S8x5000 .f32 := shapeCast S8x5000 main_v38 shapeCasts_S8x5000x1_S8x5000
  let main_v40 : FVec F S8x5000 .f32 := addf main_v37 main_v39
  let main_cst : FVec F S_ .f32 := constant S_ .f32 0x40000000#32
  fn_part2 (F := F) main_values main_v28 main_v35 main_v40 main_cst

def fn {F : FTy → Type} [FloatOps F] (main_arg0 : FVec F S8x810x64x64 .f32) (main_arg1 : FVec F S8x810x32x32 .f32) (main_arg2 : FVec F S8x810x16x16 .f32) (main_arg3 : FVec F S8x810x8x8 .f32) (main_arg4 : FVec F S8x810x4x4 .f32) (main_arg5 : FVec F S8x36x64x64 .f32) (main_arg6 : FVec F S8x36x32x32 .f32) (main_arg7 : FVec F S8x36x16x16 .f32) (main_arg8 : FVec F S8x36x8x8 .f32) (main_arg9 : FVec F S8x36x4x4 .f32) (main_arg10 : FVec F S8 .f32) (main_arg11 : FVec F S49104x4 .f32) : IVec S8x5000 1 :=
  let main_v0 : FVec F S8x64x64x810 .f32 := (transpose S8x64x64x810 [0, 2, 3, 1] · transposes_S8x810x64x64_S8x64x64x810_0_2_3_1) main_arg0
  let main_v1 : FVec F S8x36864x90 .f32 := shapeCast S8x36864x90 main_v0 shapeCasts_S8x64x64x810_S8x36864x90
  let main_v2 : FVec F S8x32x32x810 .f32 := (transpose S8x32x32x810 [0, 2, 3, 1] · transposes_S8x810x32x32_S8x32x32x810_0_2_3_1) main_arg1
  let main_v3 : FVec F S8x9216x90 .f32 := shapeCast S8x9216x90 main_v2 shapeCasts_S8x32x32x810_S8x9216x90
  let main_v4 : FVec F S8x16x16x810 .f32 := (transpose S8x16x16x810 [0, 2, 3, 1] · transposes_S8x810x16x16_S8x16x16x810_0_2_3_1) main_arg2
  let main_v5 : FVec F S8x2304x90 .f32 := shapeCast S8x2304x90 main_v4 shapeCasts_S8x16x16x810_S8x2304x90
  let main_v6 : FVec F S8x8x8x810 .f32 := (transpose S8x8x8x810 [0, 2, 3, 1] · transposes_S8x810x8x8_S8x8x8x810_0_2_3_1) main_arg3
  let main_v7 : FVec F S8x576x90 .f32 := shapeCast S8x576x90 main_v6 shapeCasts_S8x8x8x810_S8x576x90
  let main_v8 : FVec F S8x4x4x810 .f32 := (transpose S8x4x4x810 [0, 2, 3, 1] · transposes_S8x810x4x4_S8x4x4x810_0_2_3_1) main_arg4
  let main_v9 : FVec F S8x144x90 .f32 := shapeCast S8x144x90 main_v8 shapeCasts_S8x4x4x810_S8x144x90
  let main_v10 : FVec F S8x49104x90 .f32 := concatenate S8x49104x90 1 [⟨S8x36864x90, main_v1⟩, ⟨S8x9216x90, main_v3⟩, ⟨S8x2304x90, main_v5⟩, ⟨S8x576x90, main_v7⟩, ⟨S8x144x90, main_v9⟩] concatenates_S8x36864x90_S8x9216x90_S8x2304x90_S8x576x90_S8x144x90_S8x49104x90_d1
  let main_v11 : FVec F S8x64x64x36 .f32 := (transpose S8x64x64x36 [0, 2, 3, 1] · transposes_S8x36x64x64_S8x64x64x36_0_2_3_1) main_arg5
  let main_v12 : FVec F S8x36864x4 .f32 := shapeCast S8x36864x4 main_v11 shapeCasts_S8x64x64x36_S8x36864x4
  let main_v13 : FVec F S8x32x32x36 .f32 := (transpose S8x32x32x36 [0, 2, 3, 1] · transposes_S8x36x32x32_S8x32x32x36_0_2_3_1) main_arg6
  let main_v14 : FVec F S8x9216x4 .f32 := shapeCast S8x9216x4 main_v13 shapeCasts_S8x32x32x36_S8x9216x4
  let main_v15 : FVec F S8x16x16x36 .f32 := (transpose S8x16x16x36 [0, 2, 3, 1] · transposes_S8x36x16x16_S8x16x16x36_0_2_3_1) main_arg7
  let main_v16 : FVec F S8x2304x4 .f32 := shapeCast S8x2304x4 main_v15 shapeCasts_S8x16x16x36_S8x2304x4
  let main_v17 : FVec F S8x8x8x36 .f32 := (transpose S8x8x8x36 [0, 2, 3, 1] · transposes_S8x36x8x8_S8x8x8x36_0_2_3_1) main_arg8
  let main_v18 : FVec F S8x576x4 .f32 := shapeCast S8x576x4 main_v17 shapeCasts_S8x8x8x36_S8x576x4
  let main_v19 : FVec F S8x4x4x36 .f32 := (transpose S8x4x4x36 [0, 2, 3, 1] · transposes_S8x36x4x4_S8x4x4x36_0_2_3_1) main_arg9
  let main_v20 : FVec F S8x144x4 .f32 := shapeCast S8x144x4 main_v19 shapeCasts_S8x4x4x36_S8x144x4
  let main_v21 : FVec F S8x49104x4 .f32 := concatenate S8x49104x4 1 [⟨S8x36864x4, main_v12⟩, ⟨S8x9216x4, main_v14⟩, ⟨S8x2304x4, main_v16⟩, ⟨S8x576x4, main_v18⟩, ⟨S8x144x4, main_v20⟩] concatenates_S8x36864x4_S8x9216x4_S8x2304x4_S8x576x4_S8x144x4_S8x49104x4_d1
  let main_v22 : FVec F S8x4419360 .f32 := shapeCast S8x4419360 main_v10 shapeCasts_S8x49104x90_S8x4419360
  let main_values : FVec F S8x5000 .f32 := (fun x => (Host.topK S8x5000 1 (FloatOps.cmpfTotal .gt) x sliceFits_S8x4419360_S8x5000).1) main_v22
  fn_part1 (F := F) main_arg11 main_v21 main_v22 main_values
-- ==== Kernel.lean ====
abbrev S8x810x64x64 : Shape := ⟨4, ![8, 810, 64, 64]⟩
abbrev S8x810x32x32 : Shape := ⟨4, ![8, 810, 32, 32]⟩
abbrev S8x810x16x16 : Shape := ⟨4, ![8, 810, 16, 16]⟩
abbrev S8x810x8x8 : Shape := ⟨4, ![8, 810, 8, 8]⟩
abbrev S8x810x4x4 : Shape := ⟨4, ![8, 810, 4, 4]⟩
abbrev S8x36x64x64 : Shape := ⟨4, ![8, 36, 64, 64]⟩
abbrev S8x36x32x32 : Shape := ⟨4, ![8, 36, 32, 32]⟩
abbrev S8x36x16x16 : Shape := ⟨4, ![8, 36, 16, 16]⟩
abbrev S8x36x8x8 : Shape := ⟨4, ![8, 36, 8, 8]⟩
abbrev S8x36x4x4 : Shape := ⟨4, ![8, 36, 4, 4]⟩
abbrev S8 : Shape := ⟨1, ![8]⟩
abbrev S49104x4 : Shape := ⟨2, ![49104, 4]⟩
abbrev S8x810x4096 : Shape := ⟨3, ![8, 810, 4096]⟩
abbrev S8x9x4096 : Shape := ⟨3, ![8, 9, 4096]⟩
abbrev S1x810x1024 : Shape := ⟨3, ![1, 810, 1024]⟩
abbrev S1x9x1024 : Shape := ⟨3, ![1, 9, 1024]⟩
abbrev S810x1024 : Shape := ⟨2, ![810, 1024]⟩
abbrev S9x90x1024 : Shape := ⟨3, ![9, 90, 1024]⟩
abbrev S9x1024 : Shape := ⟨2, ![9, 1024]⟩
abbrev S9x1x1024 : Shape := ⟨3, ![9, 1, 1024]⟩
abbrev S8x810x1024 : Shape := ⟨3, ![8, 810, 1024]⟩
abbrev S8x9x1024 : Shape := ⟨3, ![8, 9, 1024]⟩
abbrev S8x810x256 : Shape := ⟨3, ![8, 810, 256]⟩
abbrev S8x9x256 : Shape := ⟨3, ![8, 9, 256]⟩
abbrev S1x810x256 : Shape := ⟨3, ![1, 810, 256]⟩
abbrev S1x9x256 : Shape := ⟨3, ![1, 9, 256]⟩
abbrev S810x256 : Shape := ⟨2, ![810, 256]⟩
abbrev S9x90x256 : Shape := ⟨3, ![9, 90, 256]⟩
abbrev S9x256 : Shape := ⟨2, ![9, 256]⟩
abbrev S9x1x256 : Shape := ⟨3, ![9, 1, 256]⟩
abbrev S8x810x64 : Shape := ⟨3, ![8, 810, 64]⟩
abbrev S8x9x64 : Shape := ⟨3, ![8, 9, 64]⟩
abbrev S1x810x64 : Shape := ⟨3, ![1, 810, 64]⟩
abbrev S1x9x64 : Shape := ⟨3, ![1, 9, 64]⟩
abbrev S810x64 : Shape := ⟨2, ![810, 64]⟩
abbrev S9x90x64 : Shape := ⟨3, ![9, 90, 64]⟩
abbrev S9x64 : Shape := ⟨2, ![9, 64]⟩
abbrev S9x1x64 : Shape := ⟨3, ![9, 1, 64]⟩
abbrev S8x810x16 : Shape := ⟨3, ![8, 810, 16]⟩
abbrev S8x9x16 : Shape := ⟨3, ![8, 9, 16]⟩
abbrev S1x810x16 : Shape := ⟨3, ![1, 810, 16]⟩
abbrev S1x9x16 : Shape := ⟨3, ![1, 9, 16]⟩
abbrev S810x16 : Shape := ⟨2, ![810, 16]⟩
abbrev S9x90x16 : Shape := ⟨3, ![9, 90, 16]⟩
abbrev S9x16 : Shape := ⟨2, ![9, 16]⟩
abbrev S9x1x16 : Shape := ⟨3, ![9, 1, 16]⟩
abbrev S8x9x5456 : Shape := ⟨3, ![8, 9, 5456]⟩
abbrev S8x5456x9 : Shape := ⟨3, ![8, 5456, 9]⟩
abbrev S8x49104 : Shape := ⟨2, ![8, 49104]⟩
abbrev S8x5120 : Shape := ⟨2, ![8, 5120]⟩
abbrev S_ : Shape := ⟨0, ![]⟩
abbrev S8x5120x1 : Shape := ⟨3, ![8, 5120, 1]⟩
abbrev S1 : Shape := ⟨1, ![1]⟩
abbrev S1x1x1 : Shape := ⟨3, ![1, 1, 1]⟩
abbrev S8x5120x4 : Shape := ⟨3, ![8, 5120, 4]⟩
abbrev S8x36x4096 : Shape := ⟨3, ![8, 36, 4096]⟩
abbrev S8x36x1024 : Shape := ⟨3, ![8, 36, 1024]⟩
abbrev S8x36x256 : Shape := ⟨3, ![8, 36, 256]⟩
abbrev S8x36x64 : Shape := ⟨3, ![8, 36, 64]⟩
abbrev S8x36x16 : Shape := ⟨3, ![8, 36, 16]⟩
abbrev S8x36x5456 : Shape := ⟨3, ![8, 36, 5456]⟩
abbrev S8x9x4x5456 : Shape := ⟨4, ![8, 9, 4, 5456]⟩
abbrev S8x4x5456x9 : Shape := ⟨4, ![8, 4, 5456, 9]⟩
abbrev S8x4x49104 : Shape := ⟨3, ![8, 4, 49104]⟩
abbrev S8x1x5120 : Shape := ⟨3, ![8, 1, 5120]⟩
abbrev S8x4x5120 : Shape := ⟨3, ![8, 4, 5120]⟩
abbrev S8x1 : Shape := ⟨2, ![8, 1]⟩
abbrev S8x100x6 : Shape := ⟨3, ![8, 100, 6]⟩
abbrev S8x6 : Shape := ⟨2, ![8, 6]⟩
abbrev S8x1x6 : Shape := ⟨3, ![8, 1, 6]⟩

abbrev nBuf : Space → Nat
  | .hbm => 135
  | .vmem => 42
  | .smem => 0
  | _ => 0

abbrev hbmTy0_0 (i : Nat) : BufTy := match i % 128 with
  | 0 => ⟨S8x810x64x64, .f32⟩
  | 1 => ⟨S8x810x32x32, .f32⟩
  | 2 => ⟨S8x810x16x16, .f32⟩
  | 3 => ⟨S8x810x8x8, .f32⟩
  | 4 => ⟨S8x810x4x4, .f32⟩
  | 5 => ⟨S8x36x64x64, .f32⟩
  | 6 => ⟨S8x36x32x32, .f32⟩
  | 7 => ⟨S8x36x16x16, .f32⟩
  | 8 => ⟨S8x36x8x8, .f32⟩
  | 9 => ⟨S8x36x4x4, .f32⟩
  | 10 => ⟨S8, .f32⟩
  | 11 => ⟨S49104x4, .f32⟩
  | 12 => ⟨S8x810x4096, .f32⟩
  | 13 => ⟨S8x9x4096, .f32⟩
  | 14 => ⟨S8x9x4096, .i32⟩
  | 15 => ⟨S8x810x1024, .f32⟩
  | 16 => ⟨S8x9x1024, .f32⟩
  | 17 => ⟨S8x9x1024, .i32⟩
  | 18 => ⟨S8x810x256, .f32⟩
  | 19 => ⟨S8x9x256, .f32⟩
  | 20 => ⟨S8x9x256, .i32⟩
  | 21 => ⟨S8x810x64, .f32⟩
  | 22 => ⟨S8x9x64, .f32⟩
  | 23 => ⟨S8x9x64, .i32⟩
  | 24 => ⟨S8x810x16, .f32⟩
  | 25 => ⟨S8x9x16, .f32⟩
  | 26 => ⟨S8x9x16, .i32⟩
  | 27 => ⟨S8x9x5456, .f32⟩
  | 28 => ⟨S8x5456x9, .f32⟩
  | 29 => ⟨S8x49104, .f32⟩
  | 30 => ⟨S8x9x5456, .i32⟩
  | 31 => ⟨S8x5456x9, .i32⟩
  | 32 => ⟨S8x49104, .i32⟩
  | 33 => ⟨S8x5120, .f32⟩
  | 34 => ⟨S8x5120, .i32⟩
  | 35 => ⟨S_, .i32⟩
  | 36 => ⟨S8x5120, .i32⟩
  | 37 => ⟨S8x5120, .i1⟩
  | 38 => ⟨S_, .i32⟩
  | 39 => ⟨S8x5120, .i32⟩
  | 40 => ⟨S8x5120, .i32⟩
  | 41 => ⟨S8x5120, .i32⟩
  | 42 => ⟨S8x5120x1, .i32⟩
  | 43 => ⟨S1, .i32⟩
  | 44 => ⟨S_, .i32⟩
  | 45 => ⟨S8x5120x1, .i32⟩
  | 46 => ⟨S8x5120x1, .i1⟩
  | 47 => ⟨S1x1x1, .i32⟩
  | 48 => ⟨S8x5120x1, .i32⟩
  | 49 => ⟨S8x5120x1, .i1⟩
  | 50 => ⟨S8x5120x1, .i1⟩
  | 51 => ⟨S_, .i1⟩
  | 52 => ⟨S8x5120, .i1⟩
  | 53 => ⟨S8x5120, .i32⟩
  | 54 => ⟨S_, .i32⟩
  | 55 => ⟨S8x5120, .i32⟩
  | 56 => ⟨S8x5120, .i32⟩
  | 57 => ⟨S8x5120, .f32⟩
  | 58 => ⟨S_, .f32⟩
  | 59 => ⟨S8x5120, .f32⟩
  | 60 => ⟨S8x5120, .f32⟩
  | 61 => ⟨S_, .i32⟩
  | 62 => ⟨S8x5120, .i32⟩
  | 63 => ⟨S8x5120, .i1⟩
  | 64 => ⟨S_, .i32⟩
  | 65 => ⟨S8x5120, .i32⟩
  | 66 => ⟨S8x5120, .i32⟩
  | 67 => ⟨S8x5120, .i32⟩
  | 68 => ⟨S8x5120x1, .i32⟩
  | 69 => ⟨S1, .i32⟩
  | 70 => ⟨S_, .i32⟩
  | 71 => ⟨S8x5120x1, .i32⟩
  | 72 => ⟨S8x5120x1, .i1⟩
  | 73 => ⟨S1x1x1, .i32⟩
  | 74 => ⟨S8x5120x1, .i32⟩
  | 75 => ⟨S8x5120x1, .i1⟩
  | 76 => ⟨S8x5120x1, .i1⟩
  | 77 => ⟨S_, .i1⟩
  | 78 => ⟨S8x5120, .i1⟩
  | 79 => ⟨S8x5120x4, .f32⟩
  | 80 => ⟨S8x5120x4, .i1⟩
  | 81 => ⟨S_, .f32⟩
  | 82 => ⟨S8x5120x4, .f32⟩
  | 83 => ⟨S8x5120x4, .f32⟩
  | 84 => ⟨S8x5120x1, .f32⟩
  | 85 => ⟨S8x5120, .f32⟩
  | 86 => ⟨S8x5120x1, .f32⟩
  | 87 => ⟨S8x5120, .f32⟩
  | 88 => ⟨S8x5120x1, .f32⟩
  | 89 => ⟨S8x5120, .f32⟩
  | 90 => ⟨S8x5120x1, .f32⟩
  | 91 => ⟨S8x5120, .f32⟩
  | 92 => ⟨S8x36x4096, .f32⟩
  | 93 => ⟨S8x36x1024, .f32⟩
  | 94 => ⟨S8x36x256, .f32⟩
  | 95 => ⟨S8x36x64, .f32⟩
  | 96 => ⟨S8x36x16, .f32⟩
  | 97 => ⟨S8x36x5456, .f32⟩
  | 98 => ⟨S8x9x4x5456, .f32⟩
  | 99 => ⟨S8x4x5456x9, .f32⟩
  | 100 => ⟨S8x4x49104, .f32⟩
  | 101 => ⟨S8x1x5120, .i32⟩
  | 102 => ⟨S_, .i32⟩
  | 103 => ⟨S8x1x5120, .i32⟩
  | 104 => ⟨S8x1x5120, .i1⟩
  | 105 => ⟨S_, .i32⟩
  | 106 => ⟨S8x1x5120, .i32⟩
  | 107 => ⟨S8x1x5120, .i32⟩
  | 108 => ⟨S8x1x5120, .i32⟩
  | 109 => ⟨S8x5120x1, .i32⟩
  | 110 => ⟨S1, .i32⟩
  | 111 => ⟨S_, .i32⟩
  | 112 => ⟨S8x5120x1, .i32⟩
  | 113 => ⟨S8x5120x1, .i1⟩
  | 114 => ⟨S1x1x1, .i32⟩
  | 115 => ⟨S8x5120x1, .i32⟩
  | 116 => ⟨S8x5120x1, .i1⟩
  | 117 => ⟨S8x5120x1, .i1⟩
  | 118 => ⟨S_, .i1⟩
  | 119 => ⟨S8x5120, .i1⟩
  | 120 => ⟨S8x4x5120, .f32⟩
  | 121 => ⟨S8x4x5120, .i1⟩
  | 122 => ⟨S_, .f32⟩
  | 123 => ⟨S8x4x5120, .f32⟩
  | 124 => ⟨S8x4x5120, .f32⟩
  | 125 => ⟨S8x1x5120, .f32⟩
  | 126 => ⟨S8x5120, .f32⟩
  | 127 => ⟨S8x1x5120, .f32⟩
  | _ => ⟨S8x810x64x64, .f32⟩

abbrev hbmTy0_1 (i : Nat) : BufTy := match i % 128 with
  | 0 => ⟨S8x5120, .f32⟩
  | 1 => ⟨S8x1x5120, .f32⟩
  | 2 => ⟨S8x5120, .f32⟩
  | 3 => ⟨S8x1x5120, .f32⟩
  | 4 => ⟨S8x5120, .f32⟩
  | 5 => ⟨S8x1, .f32⟩
  | 6 => ⟨S8x100x6, .f32⟩
  | _ => ⟨S8x810x64x64, .f32⟩

abbrev hbmTy (i : Nat) : BufTy := match i / 128 with
  | 0 => hbmTy0_0 i
  | 1 => hbmTy0_1 i
  | _ => ⟨S8x810x64x64, .f32⟩

abbrev bufTy : (tb : Table) → Fin (tcTables nBuf tb) → BufTy
  | .hbm, ⟨i, _⟩ => hbmTy i
  | .local _ .vmem, ⟨0, _⟩ => ⟨S1x810x1024, .f32⟩
  | .local _ .vmem, ⟨1, _⟩ => ⟨S1x810x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x9x1024, .i32⟩
  | .local _ .vmem, ⟨5, _⟩ => ⟨S1x9x1024, .i32⟩
  | .local _ .vmem, ⟨6, _⟩ => ⟨S1x810x1024, .f32⟩
  | .local _ .vmem, ⟨7, _⟩ => ⟨S1x810x1024, .f32⟩
  | .local _ .vmem, ⟨8, _⟩ => ⟨S1x9x1024, .f32⟩
  | .local _ .vmem, ⟨9, _⟩ => ⟨S1x9x1024, .f32⟩
  | .local _ .vmem, ⟨10, _⟩ => ⟨S1x9x1024, .i32⟩
  | .local _ .vmem, ⟨11, _⟩ => ⟨S1x9x1024, .i32⟩
  | .local _ .vmem, ⟨12, _⟩ => ⟨S1x810x256, .f32⟩
  | .local _ .vmem, ⟨13, _⟩ => ⟨S1x810x256, .f32⟩
  | .local _ .vmem, ⟨14, _⟩ => ⟨S1x9x256, .f32⟩
  | .local _ .vmem, ⟨15, _⟩ => ⟨S1x9x256, .f32⟩
  | .local _ .vmem, ⟨16, _⟩ => ⟨S1x9x256, .i32⟩
  | .local _ .vmem, ⟨17, _⟩ => ⟨S1x9x256, .i32⟩
  | .local _ .vmem, ⟨18, _⟩ => ⟨S1x810x64, .f32⟩
  | .local _ .vmem, ⟨19, _⟩ => ⟨S1x810x64, .f32⟩
  | .local _ .vmem, ⟨20, _⟩ => ⟨S1x9x64, .f32⟩
  | .local _ .vmem, ⟨21, _⟩ => ⟨S1x9x64, .f32⟩
  | .local _ .vmem, ⟨22, _⟩ => ⟨S1x9x64, .i32⟩
  | .local _ .vmem, ⟨23, _⟩ => ⟨S1x9x64, .i32⟩
  | .local _ .vmem, ⟨24, _⟩ => ⟨S1x810x16, .f32⟩
  | .local _ .vmem, ⟨25, _⟩ => ⟨S1x810x16, .f32⟩
  | .local _ .vmem, ⟨26, _⟩ => ⟨S1x9x16, .f32⟩
  | .local _ .vmem, ⟨27, _⟩ => ⟨S1x9x16, .f32⟩
  | .local _ .vmem, ⟨28, _⟩ => ⟨S1x9x16, .i32⟩
  | .local _ .vmem, ⟨29, _⟩ => ⟨S1x9x16, .i32⟩
  | .local _ .vmem, ⟨30, _⟩ => ⟨S8x5120, .f32⟩
  | .local _ .vmem, ⟨31, _⟩ => ⟨S8x5120, .f32⟩
  | .local _ .vmem, ⟨32, _⟩ => ⟨S8x5120, .f32⟩
  | .local _ .vmem, ⟨33, _⟩ => ⟨S8x5120, .f32⟩
  | .local _ .vmem, ⟨34, _⟩ => ⟨S8x5120, .f32⟩
  | .local _ .vmem, ⟨35, _⟩ => ⟨S8x5120, .f32⟩
  | .local _ .vmem, ⟨36, _⟩ => ⟨S8x5120, .f32⟩
  | .local _ .vmem, ⟨37, _⟩ => ⟨S8x5120, .f32⟩
  | .local _ .vmem, ⟨38, _⟩ => ⟨S8x5120, .f32⟩
  | .local _ .vmem, ⟨39, _⟩ => ⟨S8x5120, .f32⟩
  | .local _ .vmem, ⟨40, _⟩ => ⟨S8x1, .f32⟩
  | .local _ .vmem, ⟨41, _⟩ => ⟨S8x100x6, .f32⟩
  | _, _ => ⟨S8x810x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev main_v2 : Ref sig .tc := ⟨.hbm, 15, rfl⟩
abbrev main_v3_0 : Ref sig .tc := ⟨.hbm, 16, rfl⟩
abbrev main_v3_1 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev main_v6 : Ref sig .tc := ⟨.hbm, 21, rfl⟩
abbrev main_v7_0 : Ref sig .tc := ⟨.hbm, 22, rfl⟩
abbrev main_v7_1 : Ref sig .tc := ⟨.hbm, 23, rfl⟩
abbrev main_v8 : Ref sig .tc := ⟨.hbm, 24, rfl⟩
abbrev main_v9_0 : Ref sig .tc := ⟨.hbm, 25, rfl⟩
abbrev main_v9_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_values : Ref sig .tc := ⟨.hbm, 33, rfl⟩
abbrev main_indices : Ref sig .tc := ⟨.hbm, 34, rfl⟩
abbrev main_call0_c : Ref sig .tc := ⟨.hbm, 35, rfl⟩
abbrev main_call0_v0 : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_c_1 : Ref sig .tc := ⟨.hbm, 43, rfl⟩
abbrev main_call0_c_2 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_3 : Ref sig .tc := ⟨.hbm, 51, rfl⟩
abbrev main_call0_v12 : Ref sig .tc := ⟨.hbm, 52, rfl⟩
abbrev main_call0_v13 : Ref sig .tc := ⟨.hbm, 53, rfl⟩
abbrev main_call0_c_4 : Ref sig .tc := ⟨.hbm, 54, rfl⟩
abbrev main_call0_v14 : Ref sig .tc := ⟨.hbm, 55, rfl⟩
abbrev main_v16 : Ref sig .tc := ⟨.hbm, 56, rfl⟩
abbrev main_v17 : Ref sig .tc := ⟨.hbm, 57, rfl⟩
abbrev main_cst : Ref sig .tc := ⟨.hbm, 58, rfl⟩
abbrev main_v18 : Ref sig .tc := ⟨.hbm, 59, rfl⟩
abbrev main_v19 : Ref sig .tc := ⟨.hbm, 60, rfl⟩
abbrev main_call1_c : Ref sig .tc := ⟨.hbm, 61, rfl⟩
abbrev main_call1_v0 : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_c_1 : Ref sig .tc := ⟨.hbm, 69, rfl⟩
abbrev main_call1_c_2 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_c_3 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_call1_cst : Ref sig .tc := ⟨.hbm, 81, rfl⟩
abbrev main_call1_v15 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_call2_c : Ref sig .tc := ⟨.hbm, 102, rfl⟩
abbrev main_call2_v0 : Ref sig .tc := ⟨.hbm, 103, rfl⟩
abbrev main_call2_v1 : Ref sig .tc := ⟨.hbm, 104, rfl⟩
abbrev main_call2_c_0 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_call2_v5 : Ref sig .tc := ⟨.hbm, 109, rfl⟩
abbrev main_call2_c_1 : Ref sig .tc := ⟨.hbm, 110, rfl⟩
abbrev main_call2_c_2 : Ref sig .tc := ⟨.hbm, 111, rfl⟩
abbrev main_call2_v6 : Ref sig .tc := ⟨.hbm, 112, rfl⟩
abbrev main_call2_v7 : Ref sig .tc := ⟨.hbm, 113, rfl⟩
abbrev main_call2_v8 : Ref sig .tc := ⟨.hbm, 114, rfl⟩
abbrev main_call2_v9 : Ref sig .tc := ⟨.hbm, 115, rfl⟩
abbrev main_call2_v10 : Ref sig .tc := ⟨.hbm, 116, rfl⟩
abbrev main_call2_v11 : Ref sig .tc := ⟨.hbm, 117, rfl⟩
abbrev main_call2_c_3 : Ref sig .tc := ⟨.hbm, 118, rfl⟩
abbrev main_call2_v12 : Ref sig .tc := ⟨.hbm, 119, rfl⟩
abbrev main_call2_v13 : Ref sig .tc := ⟨.hbm, 120, rfl⟩
abbrev main_call2_v14 : Ref sig .tc := ⟨.hbm, 121, rfl⟩
abbrev main_call2_cst : Ref sig .tc := ⟨.hbm, 122, rfl⟩
abbrev main_call2_v15 : Ref sig .tc := ⟨.hbm, 123, rfl⟩
abbrev main_v39 : Ref sig .tc := ⟨.hbm, 124, rfl⟩
abbrev main_v40 : Ref sig .tc := ⟨.hbm, 125, rfl⟩
abbrev main_v41 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg6_0 : Ref sig .tc := ⟨.vmem, 36, rfl⟩
abbrev cc5_stg7_0 : Ref sig .tc := ⟨.vmem, 37, rfl⟩
abbrev cc5_stg8_0 : Ref sig .tc := ⟨.vmem, 38, rfl⟩
abbrev cc5_stg9_0 : Ref sig .tc := ⟨.vmem, 39, rfl⟩
abbrev cc5_stg10_0 : Ref sig .tc := ⟨.vmem, 40, rfl⟩
abbrev cc5_stg11_0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem7_0 : DmaSem sig := 37
abbrev cc5_sem8_0 : DmaSem sig := 38
abbrev cc5_sem9_0 : DmaSem sig := 39
abbrev cc5_sem10_0 : DmaSem sig := 40
abbrev cc5_sem11_0 : DmaSem sig := 41

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x810x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x9x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x810x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x9x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x9x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x810x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x9x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x9x256 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![8, 1], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage3_0 : Fin 2 → Memref sig .tc .vmem S1x810x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x9x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x9x64 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![8, 1], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage4_0 : Fin 2 → Memref sig .tc .vmem S1x810x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x9x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x9x16 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := .none

@[reducible] def k5_t1_loop : Scf.Loop 32 :=
  let c0_i32 : BitVec 32 := 0#32
  let c100_i32 : BitVec 32 := 100#32
  let v77 : BitVec 32 := Scalar.addi c0_i32 c100_i32
  let c1_i32 : BitVec 32 := 1#32
  ⟨c0_i32, v77, c1_i32⟩
def k5_off1 (k5_t1 : Fin k5_t1_loop.trips) : Fin 3 → Nat :=
  let c0_50 : Index := 0#32
  let c0_i32 : BitVec 32 := 0#32
  let c1_i32 : BitVec 32 := 1#32
  let arg12 : BitVec 32 := Scf.iv c0_i32 c1_i32 k5_t1
  let v140 : Index := Scalar.indexCast arg12
  let c0_51 : Index := 0#32
  ![0, v140.toNat, 0]
abbrev stage5_0 : Fin 1 → Memref sig .tc .vmem S8x5120 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S8x5120 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S8x5120 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S8x5120 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S8x5120 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S8x5120 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev stage5_6 : Fin 1 → Memref sig .tc .vmem S8x5120 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))

abbrev stage5_7 : Fin 1 → Memref sig .tc .vmem S8x5120 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))

abbrev stage5_8 : Fin 1 → Memref sig .tc .vmem S8x5120 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))

abbrev stage5_9 : Fin 1 → Memref sig .tc .vmem S8x5120 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))

abbrev stage5_10 : Fin 1 → Memref sig .tc .vmem S8x1 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))

abbrev stage5_11 : Fin 1 → Memref sig .tc .vmem S8x100x6 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
-- ==== ReferenceIdeal.lean ====
abbrev S8x810x64x64 : Shape := ⟨4, ![8, 810, 64, 64]⟩
abbrev S8x810x32x32 : Shape := ⟨4, ![8, 810, 32, 32]⟩
abbrev S8x810x16x16 : Shape := ⟨4, ![8, 810, 16, 16]⟩
abbrev S8x810x8x8 : Shape := ⟨4, ![8, 810, 8, 8]⟩
abbrev S8x810x4x4 : Shape := ⟨4, ![8, 810, 4, 4]⟩
abbrev S8x36x64x64 : Shape := ⟨4, ![8, 36, 64, 64]⟩
abbrev S8x36x32x32 : Shape := ⟨4, ![8, 36, 32, 32]⟩
abbrev S8x36x16x16 : Shape := ⟨4, ![8, 36, 16, 16]⟩
abbrev S8x36x8x8 : Shape := ⟨4, ![8, 36, 8, 8]⟩
abbrev S8x36x4x4 : Shape := ⟨4, ![8, 36, 4, 4]⟩
abbrev S8 : Shape := ⟨1, ![8]⟩
abbrev S49104x4 : Shape := ⟨2, ![49104, 4]⟩
abbrev S8x64x64x810 : Shape := ⟨4, ![8, 64, 64, 810]⟩
abbrev S8x36864x90 : Shape := ⟨3, ![8, 36864, 90]⟩
abbrev S8x32x32x810 : Shape := ⟨4, ![8, 32, 32, 810]⟩
abbrev S8x9216x90 : Shape := ⟨3, ![8, 9216, 90]⟩
abbrev S8x16x16x810 : Shape := ⟨4, ![8, 16, 16, 810]⟩
abbrev S8x2304x90 : Shape := ⟨3, ![8, 2304, 90]⟩
abbrev S8x8x8x810 : Shape := ⟨4, ![8, 8, 8, 810]⟩
abbrev S8x576x90 : Shape := ⟨3, ![8, 576, 90]⟩
abbrev S8x4x4x810 : Shape := ⟨4, ![8, 4, 4, 810]⟩
abbrev S8x144x90 : Shape := ⟨3, ![8, 144, 90]⟩
abbrev S8x49104x90 : Shape := ⟨3, ![8, 49104, 90]⟩
abbrev S8x64x64x36 : Shape := ⟨4, ![8, 64, 64, 36]⟩
abbrev S8x36864x4 : Shape := ⟨3, ![8, 36864, 4]⟩
abbrev S8x32x32x36 : Shape := ⟨4, ![8, 32, 32, 36]⟩
abbrev S8x9216x4 : Shape := ⟨3, ![8, 9216, 4]⟩
abbrev S8x16x16x36 : Shape := ⟨4, ![8, 16, 16, 36]⟩
abbrev S8x2304x4 : Shape := ⟨3, ![8, 2304, 4]⟩
abbrev S8x8x8x36 : Shape := ⟨4, ![8, 8, 8, 36]⟩
abbrev S8x576x4 : Shape := ⟨3, ![8, 576, 4]⟩
abbrev S8x4x4x36 : Shape := ⟨4, ![8, 4, 4, 36]⟩
abbrev S8x144x4 : Shape := ⟨3, ![8, 144, 4]⟩
abbrev S8x49104x4 : Shape := ⟨3, ![8, 49104, 4]⟩
abbrev S8x4419360 : Shape := ⟨2, ![8, 4419360]⟩
abbrev S8x5000 : Shape := ⟨2, ![8, 5000]⟩
abbrev S_ : Shape := ⟨0, ![]⟩
abbrev S8x5000x1 : Shape := ⟨3, ![8, 5000, 1]⟩
abbrev S8x5000x4 : Shape := ⟨3, ![8, 5000, 4]⟩
abbrev S8x1 : Shape := ⟨2, ![8, 1]⟩
abbrev S100x8x6 : Shape := ⟨3, ![100, 8, 6]⟩
abbrev S8x1x1 : Shape := ⟨3, ![8, 1, 1]⟩
abbrev S5000 : Shape := ⟨1, ![5000]⟩
abbrev S1x5000 : Shape := ⟨2, ![1, 5000]⟩
abbrev S8x6 : Shape := ⟨2, ![8, 6]⟩
abbrev S1x8x6 : Shape := ⟨3, ![1, 8, 6]⟩
abbrev S8x100x6 : Shape := ⟨3, ![8, 100, 6]⟩

abbrev nBuf : Space → Nat
  | .hbm => 283
  | .vmem => 0
  | .smem => 0
  | _ => 0

abbrev hbmTy0_0 (i : Nat) : BufTy := match i % 128 with
  | 0 => ⟨S8x810x64x64, .f32⟩
  | 1 => ⟨S8x810x32x32, .f32⟩
  | 2 => ⟨S8x810x16x16, .f32⟩
  | 3 => ⟨S8x810x8x8, .f32⟩
  | 4 => ⟨S8x810x4x4, .f32⟩
  | 5 => ⟨S8x36x64x64, .f32⟩
  | 6 => ⟨S8x36x32x32, .f32⟩
  | 7 => ⟨S8x36x16x16, .f32⟩
  | 8 => ⟨S8x36x8x8, .f32⟩
  | 9 => ⟨S8x36x4x4, .f32⟩
  | 10 => ⟨S8, .f32⟩
  | 11 => ⟨S49104x4, .f32⟩
  | 12 => ⟨S8x64x64x810, .f32⟩
  | 13 => ⟨S8x36864x90, .f32⟩
  | 14 => ⟨S8x32x32x810, .f32⟩
  | 15 => ⟨S8x9216x90, .f32⟩
  | 16 => ⟨S8x16x16x810, .f32⟩
  | 17 => ⟨S8x2304x90, .f32⟩
  | 18 => ⟨S8x8x8x810, .f32⟩
  | 19 => ⟨S8x576x90, .f32⟩
  | 20 => ⟨S8x4x4x810, .f32⟩
  | 21 => ⟨S8x144x90, .f32⟩
  | 22 => ⟨S8x49104x90, .f32⟩
  | 23 => ⟨S8x64x64x36, .f32⟩
  | 24 => ⟨S8x36864x4, .f32⟩
  | 25 => ⟨S8x32x32x36, .f32⟩
  | 26 => ⟨S8x9216x4, .f32⟩
  | 27 => ⟨S8x16x16x36, .f32⟩
  | 28 => ⟨S8x2304x4, .f32⟩
  | 29 => ⟨S8x8x8x36, .f32⟩
  | 30 => ⟨S8x576x4, .f32⟩
  | 31 => ⟨S8x4x4x36, .f32⟩
  | 32 => ⟨S8x144x4, .f32⟩
  | 33 => ⟨S8x49104x4, .f32⟩
  | 34 => ⟨S8x4419360, .f32⟩
  | 35 => ⟨S8x5000, .f32⟩
  | 36 => ⟨S8x5000, .i32⟩
  | 37 => ⟨S_, .i32⟩
  | 38 => ⟨S8x5000, .i32⟩
  | 39 => ⟨S8x5000, .i32⟩
  | 40 => ⟨S_, .i32⟩
  | 41 => ⟨S8x5000, .i32⟩
  | 42 => ⟨S8x5000, .i32⟩
  | 43 => ⟨S8x5000x1, .i32⟩
  | 44 => ⟨S_, .i32⟩
  | 45 => ⟨S8x5000x1, .i32⟩
  | 46 => ⟨S8x5000x1, .i1⟩
  | 47 => ⟨S_, .i32⟩
  | 48 => ⟨S8x5000x1, .i32⟩
  | 49 => ⟨S8x5000x1, .i32⟩
  | 50 => ⟨S8x5000x1, .i32⟩
  | 51 => ⟨S8x5000x4, .f32⟩
  | 52 => ⟨S_, .i32⟩
  | 53 => ⟨S8x5000, .i32⟩
  | 54 => ⟨S8x5000, .i1⟩
  | 55 => ⟨S_, .i32⟩
  | 56 => ⟨S8x5000, .i32⟩
  | 57 => ⟨S8x5000, .i32⟩
  | 58 => ⟨S8x5000, .i32⟩
  | 59 => ⟨S8x5000x1, .i32⟩
  | 60 => ⟨S8x5000x4, .f32⟩
  | 61 => ⟨S8x5000x1, .f32⟩
  | 62 => ⟨S8x5000, .f32⟩
  | 63 => ⟨S8x5000x1, .f32⟩
  | 64 => ⟨S8x5000, .f32⟩
  | 65 => ⟨S8x5000, .f32⟩
  | 66 => ⟨S_, .f32⟩
  | 67 => ⟨S8x5000, .f32⟩
  | 68 => ⟨S8x5000, .f32⟩
  | 69 => ⟨S8x5000x1, .f32⟩
  | 70 => ⟨S8x5000, .f32⟩
  | 71 => ⟨S8x5000x1, .f32⟩
  | 72 => ⟨S8x5000, .f32⟩
  | 73 => ⟨S8x5000, .f32⟩
  | 74 => ⟨S_, .f32⟩
  | 75 => ⟨S8x5000, .f32⟩
  | 76 => ⟨S8x5000, .f32⟩
  | 77 => ⟨S8x5000x1, .f32⟩
  | 78 => ⟨S8x5000, .f32⟩
  | 79 => ⟨S8x5000x1, .f32⟩
  | 80 => ⟨S8x5000, .f32⟩
  | 81 => ⟨S8x5000, .f32⟩
  | 82 => ⟨S8x5000x1, .f32⟩
  | 83 => ⟨S8x5000, .f32⟩
  | 84 => ⟨S8x5000x1, .f32⟩
  | 85 => ⟨S8x5000, .f32⟩
  | 86 => ⟨S8x5000, .f32⟩
  | 87 => ⟨S8x5000x1, .f32⟩
  | 88 => ⟨S8x5000, .f32⟩
  | 89 => ⟨S8x5000x1, .f32⟩
  | 90 => ⟨S8x5000, .f32⟩
  | 91 => ⟨S8x5000x1, .f32⟩
  | 92 => ⟨S8x5000, .f32⟩
  | 93 => ⟨S8x5000x1, .f32⟩
  | 94 => ⟨S8x5000, .f32⟩
  | 95 => ⟨S8x5000, .f32⟩
  | 96 => ⟨S8x5000, .f32⟩
  | 97 => ⟨S8x5000, .f32⟩
  | 98 => ⟨S8x5000, .f32⟩
  | 99 => ⟨S8x5000, .f32⟩
  | 100 => ⟨S8x5000, .f32⟩
  | 101 => ⟨S8x5000, .f32⟩
  | 102 => ⟨S8x5000, .f32⟩
  | 103 => ⟨S_, .f32⟩
  | 104 => ⟨S8x5000, .f32⟩
  | 105 => ⟨S8x5000, .f32⟩
  | 106 => ⟨S8x5000, .f32⟩
  | 107 => ⟨S_, .f32⟩
  | 108 => ⟨S8x5000, .f32⟩
  | 109 => ⟨S8x5000, .f32⟩
  | 110 => ⟨S8x5000, .f32⟩
  | 111 => ⟨S_, .f32⟩
  | 112 => ⟨S8x5000, .f32⟩
  | 113 => ⟨S8x5000, .f32⟩
  | 114 => ⟨S8x5000, .f32⟩
  | 115 => ⟨S_, .f32⟩
  | 116 => ⟨S8x5000, .f32⟩
  | 117 => ⟨S8x5000, .f32⟩
  | 118 => ⟨S8x5000, .f32⟩
  | 119 => ⟨S_, .f32⟩
  | 120 => ⟨S_, .f32⟩
  | 121 => ⟨S_, .f32⟩
  | 122 => ⟨S8x5000, .f32⟩
  | 123 => ⟨S8x5000, .f32⟩
  | 124 => ⟨S_, .f32⟩
  | 125 => ⟨S8x5000, .f32⟩
  | 126 => ⟨S8x5000, .f32⟩
  | 127 => ⟨S_, .f32⟩
  | _ => ⟨S8x810x64x64, .f32⟩

abbrev hbmTy0_1 (i : Nat) : BufTy := match i % 128 with
  | 0 => ⟨S_, .f32⟩
  | 1 => ⟨S_, .f32⟩
  | 2 => ⟨S8x5000, .f32⟩
  | 3 => ⟨S8x5000, .f32⟩
  | 4 => ⟨S_, .f32⟩
  | 5 => ⟨S8x5000, .f32⟩
  | 6 => ⟨S8x5000, .f32⟩
  | 7 => ⟨S_, .f32⟩
  | 8 => ⟨S_, .f32⟩
  | 9 => ⟨S_, .f32⟩
  | 10 => ⟨S8x5000, .f32⟩
  | 11 => ⟨S8x5000, .f32⟩
  | 12 => ⟨S_, .f32⟩
  | 13 => ⟨S8x5000, .f32⟩
  | 14 => ⟨S8x5000, .f32⟩
  | 15 => ⟨S_, .f32⟩
  | 16 => ⟨S_, .f32⟩
  | 17 => ⟨S_, .f32⟩
  | 18 => ⟨S8x5000, .f32⟩
  | 19 => ⟨S8x5000, .f32⟩
  | 20 => ⟨S_, .f32⟩
  | 21 => ⟨S8x5000, .f32⟩
  | 22 => ⟨S8x5000, .f32⟩
  | 23 => ⟨S8x5000, .f32⟩
  | 24 => ⟨S8x5000, .f32⟩
  | 25 => ⟨S_, .f32⟩
  | 26 => ⟨S8x5000, .f32⟩
  | 27 => ⟨S8x5000, .f32⟩
  | 28 => ⟨S_, .f32⟩
  | 29 => ⟨S8x5000, .f32⟩
  | 30 => ⟨S8x5000, .f32⟩
  | 31 => ⟨S8x1, .f32⟩
  | 32 => ⟨S_, .f32⟩
  | 33 => ⟨S100x8x6, .f32⟩
  | 34 => ⟨S_, .i32⟩
  | 35 => ⟨S8x5000, .f32⟩
  | 36 => ⟨S8x5000, .f32⟩
  | 37 => ⟨S8x5000, .f32⟩
  | 38 => ⟨S8x5000, .f32⟩
  | 39 => ⟨S8x5000, .i32⟩
  | 40 => ⟨S8x1, .f32⟩
  | 41 => ⟨S_, .i32⟩
  | 42 => ⟨S8x5000, .f32⟩
  | 43 => ⟨S100x8x6, .f32⟩
  | 44 => ⟨S_, .i32⟩
  | 45 => ⟨S_, .i1⟩
  | 46 => ⟨S8x1, .f32⟩
  | 47 => ⟨S8x1, .i32⟩
  | 48 => ⟨S_, .i32⟩
  | 49 => ⟨S8x1, .i32⟩
  | 50 => ⟨S8x1, .i1⟩
  | 51 => ⟨S_, .i32⟩
  | 52 => ⟨S8x1, .i32⟩
  | 53 => ⟨S8x1, .i32⟩
  | 54 => ⟨S8x1, .i32⟩
  | 55 => ⟨S8x1x1, .i32⟩
  | 56 => ⟨S8x1, .f32⟩
  | 57 => ⟨S_, .i32⟩
  | 58 => ⟨S8x1, .i32⟩
  | 59 => ⟨S8x1, .i1⟩
  | 60 => ⟨S_, .i32⟩
  | 61 => ⟨S8x1, .i32⟩
  | 62 => ⟨S8x1, .i32⟩
  | 63 => ⟨S8x1, .i32⟩
  | 64 => ⟨S8x1x1, .i32⟩
  | 65 => ⟨S8x1, .f32⟩
  | 66 => ⟨S_, .i32⟩
  | 67 => ⟨S8x1, .i32⟩
  | 68 => ⟨S8x1, .i1⟩
  | 69 => ⟨S_, .i32⟩
  | 70 => ⟨S8x1, .i32⟩
  | 71 => ⟨S8x1, .i32⟩
  | 72 => ⟨S8x1, .i32⟩
  | 73 => ⟨S8x1x1, .i32⟩
  | 74 => ⟨S8x1, .f32⟩
  | 75 => ⟨S_, .i32⟩
  | 76 => ⟨S8x1, .i32⟩
  | 77 => ⟨S8x1, .i1⟩
  | 78 => ⟨S_, .i32⟩
  | 79 => ⟨S8x1, .i32⟩
  | 80 => ⟨S8x1, .i32⟩
  | 81 => ⟨S8x1, .i32⟩
  | 82 => ⟨S8x1x1, .i32⟩
  | 83 => ⟨S8x1, .f32⟩
  | 84 => ⟨S_, .i32⟩
  | 85 => ⟨S8x1, .i32⟩
  | 86 => ⟨S8x1, .i1⟩
  | 87 => ⟨S_, .i32⟩
  | 88 => ⟨S8x1, .i32⟩
  | 89 => ⟨S8x1, .i32⟩
  | 90 => ⟨S8x1, .i32⟩
  | 91 => ⟨S8x1x1, .i32⟩
  | 92 => ⟨S8x1, .i32⟩
  | 93 => ⟨S8x1, .f32⟩
  | 94 => ⟨S_, .f32⟩
  | 95 => ⟨S8x1, .f32⟩
  | 96 => ⟨S8x1, .f32⟩
  | 97 => ⟨S8x5000, .f32⟩
  | 98 => ⟨S8x5000, .f32⟩
  | 99 => ⟨S8x5000, .f32⟩
  | 100 => ⟨S8x5000, .f32⟩
  | 101 => ⟨S8x5000, .f32⟩
  | 102 => ⟨S8x5000, .f32⟩
  | 103 => ⟨S8x5000, .f32⟩
  | 104 => ⟨S8x5000, .f32⟩
  | 105 => ⟨S8x5000, .f32⟩
  | 106 => ⟨S_, .f32⟩
  | 107 => ⟨S8x5000, .f32⟩
  | 108 => ⟨S8x5000, .f32⟩
  | 109 => ⟨S8x5000, .f32⟩
  | 110 => ⟨S_, .f32⟩
  | 111 => ⟨S8x5000, .f32⟩
  | 112 => ⟨S8x5000, .f32⟩
  | 113 => ⟨S8x5000, .f32⟩
  | 114 => ⟨S8x1, .f32⟩
  | 115 => ⟨S8x1, .f32⟩
  | 116 => ⟨S8x1, .f32⟩
  | 117 => ⟨S8x5000, .f32⟩
  | 118 => ⟨S8x5000, .f32⟩
  | 119 => ⟨S8x5000, .f32⟩
  | 120 => ⟨S8x5000, .f32⟩
  | 121 => ⟨S8x5000, .f32⟩
  | 122 => ⟨S8x5000, .f32⟩
  | 123 => ⟨S_, .f32⟩
  | 124 => ⟨S8x5000, .f32⟩
  | 125 => ⟨S8x5000, .f32⟩
  | 126 => ⟨S8x5000, .f32⟩
  | 127 => ⟨S_, .f32⟩
  | _ => ⟨S8x810x64x64, .f32⟩

abbrev hbmTy0_2 (i : Nat) : BufTy := match i % 128 with
  | 0 => ⟨S8x5000, .f32⟩
  | 1 => ⟨S8x5000, .i1⟩
  | 2 => ⟨S_, .f32⟩
  | 3 => ⟨S_, .f32⟩
  | 4 => ⟨S8x5000, .f32⟩
  | 5 => ⟨S8x5000, .f32⟩
  | 6 => ⟨S5000, .i32⟩
  | 7 => ⟨S1x5000, .i32⟩
  | 8 => ⟨S8x5000, .i32⟩
  | 9 => ⟨S8x5000, .i32⟩
  | 10 => ⟨S8x5000, .i1⟩
  | 11 => ⟨S_, .f32⟩
  | 12 => ⟨S_, .f32⟩
  | 13 => ⟨S8x5000, .f32⟩
  | 14 => ⟨S8x5000, .f32⟩
  | 15 => ⟨S8x1, .f32⟩
  | 16 => ⟨S8x1, .f32⟩
  | 17 => ⟨S8x1, .f32⟩
  | 18 => ⟨S8x1, .f32⟩
  | 19 => ⟨S8x6, .f32⟩
  | 20 => ⟨S1x8x6, .f32⟩
  | 21 => ⟨S_, .i32⟩
  | 22 => ⟨S_, .i32⟩
  | 23 => ⟨S100x8x6, .f32⟩
  | 24 => ⟨S_, .i32⟩
  | 25 => ⟨S_, .i32⟩
  | 26 => ⟨S8x100x6, .f32⟩
  | _ => ⟨S8x810x64x64, .f32⟩

abbrev hbmTy (i : Nat) : BufTy := match i / 128 with
  | 0 => hbmTy0_0 i
  | 1 => hbmTy0_1 i
  | 2 => hbmTy0_2 i
  | _ => ⟨S8x810x64x64, .f32⟩

abbrev bufTy : (tb : Table) → Fin (tcTables nBuf tb) → BufTy
  | .hbm, ⟨i, _⟩ => hbmTy i
  | _, _ => ⟨S8x810x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_values : Ref sig .tc := ⟨.hbm, 35, rfl⟩
abbrev main_indices : Ref sig .tc := ⟨.hbm, 36, rfl⟩
abbrev main_c : Ref sig .tc := ⟨.hbm, 37, rfl⟩
abbrev main_v23 : Ref sig .tc := ⟨.hbm, 38, rfl⟩
abbrev main_v24 : Ref sig .tc := ⟨.hbm, 39, rfl⟩
abbrev main_c_0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_c : Ref sig .tc := ⟨.hbm, 44, rfl⟩
abbrev main_call0_v0 : Ref sig .tc := ⟨.hbm, 45, rfl⟩
abbrev main_call0_v1 : Ref sig .tc := ⟨.hbm, 46, rfl⟩
abbrev main_call0_c_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v28 : Ref sig .tc := ⟨.hbm, 51, rfl⟩
abbrev main_c_1 : Ref sig .tc := ⟨.hbm, 52, rfl⟩
abbrev main_v29 : Ref sig .tc := ⟨.hbm, 53, rfl⟩
abbrev main_v30 : Ref sig .tc := ⟨.hbm, 54, rfl⟩
abbrev main_c_2 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_3 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_4 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_5 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_6 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_7 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_8 : Ref sig .tc := ⟨.hbm, 119, rfl⟩
abbrev main_cst_9 : Ref sig .tc := ⟨.hbm, 120, rfl⟩
abbrev main_call1_v0 : Ref sig .tc := ⟨.hbm, 121, rfl⟩
abbrev main_call1_v1 : Ref sig .tc := ⟨.hbm, 122, rfl⟩
abbrev main_call1_v2 : Ref sig .tc := ⟨.hbm, 123, rfl⟩
abbrev main_call1_v3 : Ref sig .tc := ⟨.hbm, 124, rfl⟩
abbrev main_call1_v4 : Ref sig .tc := ⟨.hbm, 125, rfl⟩
abbrev main_v88 : Ref sig .tc := ⟨.hbm, 126, rfl⟩
abbrev main_cst_10 : Ref sig .tc := ⟨.hbm, 127, rfl⟩
abbrev main_cst_11 : Ref sig .tc := ⟨.hbm, 128, rfl⟩
abbrev main_call2_v0 : Ref sig .tc := ⟨.hbm, 129, rfl⟩
abbrev main_call2_v1 : Ref sig .tc := ⟨.hbm, 130, rfl⟩
abbrev main_call2_v2 : Ref sig .tc := ⟨.hbm, 131, rfl⟩
abbrev main_call2_v3 : Ref sig .tc := ⟨.hbm, 132, rfl⟩
abbrev main_call2_v4 : Ref sig .tc := ⟨.hbm, 133, rfl⟩
abbrev main_v89 : Ref sig .tc := ⟨.hbm, 134, rfl⟩
abbrev main_cst_12 : Ref sig .tc := ⟨.hbm, 135, rfl⟩
abbrev main_cst_13 : Ref sig .tc := ⟨.hbm, 136, rfl⟩
abbrev main_call3_v0 : Ref sig .tc := ⟨.hbm, 137, rfl⟩
abbrev main_call3_v1 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_v90 : Ref sig .tc := ⟨.hbm, 142, rfl⟩
abbrev main_cst_14 : Ref sig .tc := ⟨.hbm, 143, rfl⟩
abbrev main_cst_15 : Ref sig .tc := ⟨.hbm, 144, rfl⟩
abbrev main_call4_v0 : Ref sig .tc := ⟨.hbm, 145, rfl⟩
abbrev main_call4_v1 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_16 : Ref sig .tc := ⟨.hbm, 153, rfl⟩
abbrev main_v94 : Ref sig .tc := ⟨.hbm, 154, rfl⟩
abbrev main_v95 : Ref sig .tc := ⟨.hbm, 155, rfl⟩
abbrev main_cst_17 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_cst_18 : Ref sig .tc := ⟨.hbm, 160, rfl⟩
abbrev main_v99 : Ref sig .tc := ⟨.hbm, 161, rfl⟩
abbrev main_c_19 : Ref sig .tc := ⟨.hbm, 162, rfl⟩
abbrev main_v100_0 : Ref sig .tc := ⟨.hbm, 163, rfl⟩
abbrev main_v100_1 : Ref sig .tc := ⟨.hbm, 164, rfl⟩
abbrev main_v100_2 : Ref sig .tc := ⟨.hbm, 165, rfl⟩
abbrev main_v100_3 : Ref sig .tc := ⟨.hbm, 166, rfl⟩
abbrev main_v100_4 : Ref sig .tc := ⟨.hbm, 167, rfl⟩
abbrev main_v100_5 : Ref sig .tc := ⟨.hbm, 168, rfl⟩
abbrev main_v100_6 : Ref sig .tc := ⟨.hbm, 169, rfl⟩
abbrev main_v100_7 : Ref sig .tc := ⟨.hbm, 170, rfl⟩
abbrev main_v100_8 : Ref sig .tc := ⟨.hbm, 171, rfl⟩
abbrev main_while0c_c_28 : Ref sig .tc := ⟨.hbm, 172, rfl⟩
abbrev main_while0c_v102 : Ref sig .tc := ⟨.hbm, 173, rfl⟩
abbrev main_while0b_values_28 : Ref sig .tc := ⟨.hbm, 174, rfl⟩
abbrev main_while0b_indices_29 : Ref sig .tc := ⟨.hbm, 175, rfl⟩
abbrev main_while0b_call5_c : Ref sig .tc := ⟨.hbm, 176, rfl⟩
abbrev main_while0b_call5_v0 : Ref sig .tc := ⟨.hbm, 177, rfl⟩
abbrev main_while0b_call5_v1 : Ref sig .tc := ⟨.hbm, 178, rfl⟩
abbrev main_while0b_call5_c_0 : Ref sig .tc := ⟨.hbm, 179, rfl⟩
abbrev main_while0b_call5_v2 : Ref sig .tc := ⟨.hbm, 180, rfl⟩
abbrev main_while0b_call5_v3 : Ref sig .tc := ⟨.hbm, 181, rfl⟩
abbrev main_while0b_call5_v4 : Ref sig .tc := ⟨.hbm, 182, rfl⟩
abbrev main_while0b_call5_v5 : Ref sig .tc := ⟨.hbm, 183, rfl⟩
abbrev main_while0b_v102 : Ref sig .tc := ⟨.hbm, 184, rfl⟩
abbrev main_while0b_call6_c : Ref sig .tc := ⟨.hbm, 185, rfl⟩
abbrev main_while0b_call6_v0 : Ref sig .tc := ⟨.hbm, 186, rfl⟩
abbrev main_while0b_call6_v1 : Ref sig .tc := ⟨.hbm, 187, rfl⟩
abbrev main_while0b_call6_c_0 : Ref sig .tc := ⟨.hbm, 188, rfl⟩
abbrev main_while0b_call6_v2 : Ref sig .tc := ⟨.hbm, 189, rfl⟩
abbrev main_while0b_call6_v3 : Ref sig .tc := ⟨.hbm, 190, rfl⟩
abbrev main_while0b_call6_v4 : Ref sig .tc := ⟨.hbm, 191, rfl⟩
abbrev main_while0b_call6_v5 : Ref sig .tc := ⟨.hbm, 192, rfl⟩
abbrev main_while0b_v103 : Ref sig .tc := ⟨.hbm, 193, rfl⟩
abbrev main_while0b_call7_c : Ref sig .tc := ⟨.hbm, 194, rfl⟩
abbrev main_while0b_call7_v0 : Ref sig .tc := ⟨.hbm, 195, rfl⟩
abbrev main_while0b_call7_v1 : Ref sig .tc := ⟨.hbm, 196, rfl⟩
abbrev main_while0b_call7_c_0 : Ref sig .tc := ⟨.hbm, 197, rfl⟩
abbrev main_while0b_call7_v2 : Ref sig .tc := ⟨.hbm, 198, rfl⟩
abbrev main_while0b_call7_v3 : Ref sig .tc := ⟨.hbm, 199, rfl⟩
abbrev main_while0b_call7_v4 : Ref sig .tc := ⟨.hbm, 200, rfl⟩
abbrev main_while0b_call7_v5 : Ref sig .tc := ⟨.hbm, 201, rfl⟩
abbrev main_while0b_v104 : Ref sig .tc := ⟨.hbm, 202, rfl⟩
abbrev main_while0b_call8_c : Ref sig .tc := ⟨.hbm, 203, rfl⟩
abbrev main_while0b_call8_v0 : Ref sig .tc := ⟨.hbm, 204, rfl⟩
abbrev main_while0b_call8_v1 : Ref sig .tc := ⟨.hbm, 205, rfl⟩
abbrev main_while0b_call8_c_0 : Ref sig .tc := ⟨.hbm, 206, rfl⟩
abbrev main_while0b_call8_v2 : Ref sig .tc := ⟨.hbm, 207, rfl⟩
abbrev main_while0b_call8_v3 : Ref sig .tc := ⟨.hbm, 208, rfl⟩
abbrev main_while0b_call8_v4 : Ref sig .tc := ⟨.hbm, 209, rfl⟩
abbrev main_while0b_call8_v5 : Ref sig .tc := ⟨.hbm, 210, rfl⟩
abbrev main_while0b_v105 : Ref sig .tc := ⟨.hbm, 211, rfl⟩
abbrev main_while0b_call9_c : Ref sig .tc := ⟨.hbm, 212, rfl⟩
abbrev main_while0b_call9_v0 : Ref sig .tc := ⟨.hbm, 213, rfl⟩
abbrev main_while0b_call9_v1 : Ref sig .tc := ⟨.hbm, 214, rfl⟩
abbrev main_while0b_call9_c_0 : Ref sig .tc := ⟨.hbm, 215, rfl⟩
abbrev main_while0b_call9_v2 : Ref sig .tc := ⟨.hbm, 216, rfl⟩
abbrev main_while0b_call9_v3 : Ref sig .tc := ⟨.hbm, 217, rfl⟩
abbrev main_while0b_call9_v4 : Ref sig .tc := ⟨.hbm, 218, rfl⟩
abbrev main_while0b_call9_v5 : Ref sig .tc := ⟨.hbm, 219, rfl⟩
abbrev main_while0b_v106 : Ref sig .tc := ⟨.hbm, 220, rfl⟩
abbrev main_while0b_v107 : Ref sig .tc := ⟨.hbm, 221, rfl⟩
abbrev main_while0b_cst_30 : Ref sig .tc := ⟨.hbm, 222, rfl⟩
abbrev main_while0b_v108 : Ref sig .tc := ⟨.hbm, 223, rfl⟩
abbrev main_while0b_v109 : Ref sig .tc := ⟨.hbm, 224, rfl⟩
abbrev main_while0b_v110 : Ref sig .tc := ⟨.hbm, 225, rfl⟩
abbrev main_while0b_v111 : Ref sig .tc := ⟨.hbm, 226, rfl⟩
abbrev main_while0b_v112 : Ref sig .tc := ⟨.hbm, 227, rfl⟩
abbrev main_while0b_v113 : Ref sig .tc := ⟨.hbm, 228, rfl⟩
abbrev main_while0b_v114 : Ref sig .tc := ⟨.hbm, 229, rfl⟩
abbrev main_while0b_v115 : Ref sig .tc := ⟨.hbm, 230, rfl⟩
abbrev main_while0b_v116 : Ref sig .tc := ⟨.hbm, 231, rfl⟩
abbrev main_while0b_v117 : Ref sig .tc := ⟨.hbm, 232, rfl⟩
abbrev main_while0b_v118 : Ref sig .tc := ⟨.hbm, 233, rfl⟩
abbrev main_while0b_cst_31 : Ref sig .tc := ⟨.hbm, 234, rfl⟩
abbrev main_while0b_v119 : Ref sig .tc := ⟨.hbm, 235, rfl⟩
abbrev main_while0b_v120 : Ref sig .tc := ⟨.hbm, 236, rfl⟩
abbrev main_while0b_v121 : Ref sig .tc := ⟨.hbm, 237, rfl⟩
abbrev main_while0b_cst_32 : Ref sig .tc := ⟨.hbm, 238, rfl⟩
abbrev main_while0b_v122 : Ref sig .tc := ⟨.hbm, 239, rfl⟩
abbrev main_while0b_v123 : Ref sig .tc := ⟨.hbm, 240, rfl⟩
abbrev main_while0b_v124 : Ref sig .tc := ⟨.hbm, 241, rfl⟩
abbrev main_while0b_v125 : Ref sig .tc := ⟨.hbm, 242, rfl⟩
abbrev main_while0b_v126 : Ref sig .tc := ⟨.hbm, 243, rfl⟩
abbrev main_while0b_v127 : Ref sig .tc := ⟨.hbm, 244, rfl⟩
abbrev main_while0b_v128 : Ref sig .tc := ⟨.hbm, 245, rfl⟩
abbrev main_while0b_v129 : Ref sig .tc := ⟨.hbm, 246, rfl⟩
abbrev main_while0b_v130 : Ref sig .tc := ⟨.hbm, 247, rfl⟩
abbrev main_while0b_v131 : Ref sig .tc := ⟨.hbm, 248, rfl⟩
abbrev main_while0b_v132 : Ref sig .tc := ⟨.hbm, 249, rfl⟩
abbrev main_while0b_v133 : Ref sig .tc := ⟨.hbm, 250, rfl⟩
abbrev main_while0b_cst_33 : Ref sig .tc := ⟨.hbm, 251, rfl⟩
abbrev main_while0b_v134 : Ref sig .tc := ⟨.hbm, 252, rfl⟩
abbrev main_while0b_v135 : Ref sig .tc := ⟨.hbm, 253, rfl⟩
abbrev main_while0b_v136 : Ref sig .tc := ⟨.hbm, 254, rfl⟩
abbrev main_while0b_cst_34 : Ref sig .tc := ⟨.hbm, 255, rfl⟩
abbrev main_while0b_v137 : Ref sig .tc := ⟨.hbm, 256, rfl⟩
abbrev main_while0b_v138 : Ref sig .tc := ⟨.hbm, 257, rfl⟩
abbrev main_while0b_cst_35 : Ref sig .tc := ⟨.hbm, 258, rfl⟩
abbrev main_while0b_call10_v0 : Ref sig .tc := ⟨.hbm, 259, rfl⟩
abbrev main_while0b_call10_v1 : Ref sig .tc := ⟨.hbm, 260, rfl⟩
abbrev main_while0b_v139 : Ref sig .tc := ⟨.hbm, 261, rfl⟩
abbrev main_while0b_v140 : Ref sig .tc := ⟨.hbm, 262, rfl⟩
abbrev main_while0b_v141 : Ref sig .tc := ⟨.hbm, 263, rfl⟩
abbrev main_while0b_v142 : Ref sig .tc := ⟨.hbm, 264, rfl⟩
abbrev main_while0b_v143 : Ref sig .tc := ⟨.hbm, 265, rfl⟩
abbrev main_while0b_v144 : Ref sig .tc := ⟨.hbm, 266, rfl⟩
abbrev main_while0b_cst_36 : Ref sig .tc := ⟨.hbm, 267, rfl⟩
abbrev main_while0b_call11_v0 : Ref sig .tc := ⟨.hbm, 268, rfl⟩
abbrev main_while0b_call11_v1 : Ref sig .tc := ⟨.hbm, 269, rfl⟩
abbrev main_while0b_v145 : Ref sig .tc := ⟨.hbm, 270, rfl⟩
abbrev main_while0b_v146 : Ref sig .tc := ⟨.hbm, 271, rfl⟩
abbrev main_while0b_v147 : Ref sig .tc := ⟨.hbm, 272, rfl⟩
abbrev main_while0b_v148 : Ref sig .tc := ⟨.hbm, 273, rfl⟩
abbrev main_while0b_v149 : Ref sig .tc := ⟨.hbm, 274, rfl⟩
abbrev main_while0b_v150 : Ref sig .tc := ⟨.hbm, 275, rfl⟩
abbrev main_while0b_call12_v0 : Ref sig .tc := ⟨.hbm, 276, rfl⟩
abbrev main_while0b_call12_c : Ref sig .tc := ⟨.hbm, 277, rfl⟩
abbrev main_while0b_call12_c_0 : Ref sig .tc := ⟨.hbm, 278, rfl⟩
abbrev main_while0b_v151 : Ref sig .tc := ⟨.hbm, 279, rfl⟩
abbrev main_while0b_c_37 : Ref sig .tc := ⟨.hbm, 280, rfl⟩
abbrev main_while0b_v152 : Ref sig .tc := ⟨.hbm, 281, rfl⟩
abbrev main_v101 : Ref sig .tc := ⟨.hbm, 282, rfl⟩

abbrev nD : Nat := 1
abbrev τ : Topo := Topo.v7x

variable {F : FTy → Type} [FloatOps F]

abbrev main_while0_count : Scf.Loop 32 := ⟨0#32, 100#32, 1#32⟩
-- ==== Proof.Pick.lean ====
/-
  The mathematics of the claim, free of any program: two greedy selections over one family of boxes pick the same
  boxes.  One walks the best pairs of an anchor and a class, the other the best anchors, each standing for its best class.
-/
module

public import Mathlib.Data.EReal.Basic
public import Mathlib.Data.Fintype.Card
public import Mathlib.Data.Fintype.BigOperators
public import Mathlib.Algebra.Order.BigOperators.Group.Finset
public import Idealize.ShloMosaic.Lib.SortFacts

@[expose] public section

namespace Cert.Pick

/-- `p` comes before `q`: it has the greater key, or the same key and the lower place. -/
def Before {n : ℕ} (key : Fin n → EReal) (p q : Fin n) : Prop :=
  key q < key p ∨ (key q = key p ∧ p < q)

/-- `e` lists the first `k` places of the order `Before key`, in that order. -/
structure IsTop {n k : ℕ} (key : Fin n → EReal) (e : Fin k → Fin n) : Prop where
  inj : Function.Injective e
  closed : ∀ (i : Fin k) (p : Fin n), Before key p (e i) → ∃ j, j < i ∧ e j = p

theorem before_total {n : ℕ} (key : Fin n → EReal) (p q : Fin n) (h : p ≠ q) : Before key p q ∨ Before key q p := by
  unfold Before
  rcases lt_trichotomy (key p) (key q) with h1 | h1 | h1
  · exact .inr (.inl h1)
  · rcases lt_or_gt_of_ne h with h2 | h2
    · exact .inl (.inr ⟨h1.symm, h2⟩)
    · exact .inr (.inr ⟨h1, h2⟩)
  · exact .inl (.inl h1)

/-- Earlier in the list is earlier in the order. -/
theorem IsTop.before {n k : ℕ} {key : Fin n → EReal} {e : Fin k → Fin n} (h : IsTop key e) {i j : Fin k} (hij : i < j) :
    Before key (e i) (e j) := by
  rcases before_total key (e i) (e j) (fun he => (ne_of_lt hij) (h.inj he)) with hb | hb
  · exact hb
  · obtain ⟨l, hl, he⟩ := h.closed i (e j) hb
    have := h.inj he
    omega

/-- The keys fall along the list. -/
theorem IsTop.anti {n k : ℕ} {key : Fin n → EReal} {e : Fin k → Fin n} (h : IsTop key e) {i j : Fin k} (hij : i ≤ j) :
    key (e j) ≤ key (e i) := by
  rcases hij.lt_or_eq with hlt | rfl
  · rcases h.before hlt with hb | hb
    · exact hb.le
    · exact hb.1.le
  · exact le_rfl

/-- The two families of a claim: pairs at `n` places, anchors at `a` places; `best r` is the pair that stands for the
    anchor `r`. -/
structure Fam {n a : ℕ} (key : Fin n → EReal) (top : Fin a → EReal) (anc : Fin n → Fin a) (best : Fin a → Fin n) : Prop where
  anc_best : ∀ r, anc (best r) = r
  key_best : ∀ r, key (best r) = top r
  first : ∀ p, p ≠ best (anc p) → Before key (best (anc p)) p
  mono : ∀ r s, r < s → best r < best s

section
variable {n a k l : ℕ} {key : Fin n → EReal} {top : Fin a → EReal} {anc : Fin n → Fin a} {best : Fin a → Fin n}

theorem Fam.before_best (F : Fam key top anc best) {r s : Fin a} (h : Before top r s) : Before key (best r) (best s) := by
  unfold Before at *
  rw [F.key_best, F.key_best]
  rcases h with h | h
  · exact .inl h
  · exact .inr ⟨h.1, F.mono r s h.2⟩

/-- The first pair of the list whose anchor has `Q` is its anchor's best pair, and that anchor is the first of the
    anchors' list to have `Q`. -/
theorem first_agree (F : Fam key top anc best) {e : Fin k → Fin n} {f : Fin l → Fin a} (he : IsTop key e) (hf : IsTop top f)
    (hkl : k < l) (Q : Fin a → Prop) (i : Fin k) (hi : Q (anc (e i))) (hmin : ∀ j, j < i → ¬ Q (anc (e j))) :
    e i = best (anc (e i)) ∧ ∃ q : Fin l, f q = anc (e i) ∧ ∀ j, j < q → ¬ Q (f j) := by
  have hbest : e i = best (anc (e i)) := by
    by_contra hne
    obtain ⟨j, hj, hej⟩ := he.closed i _ (F.first _ hne)
    apply hmin j hj
    rw [hej, F.anc_best]
    exact hi
  -- an anchor before the picked one gives a pair before the picked one
  have hpre : ∀ r, Before top r (anc (e i)) → ∃ j, j < i ∧ e j = best r := by
    intro r hr
    have hb := F.before_best hr
    rw [← hbest] at hb
    exact he.closed i _ hb
  refine ⟨hbest, ?_⟩
  have hmem : ∃ q : Fin l, f q = anc (e i) := by
    by_contra hno
    push Not at hno
    have hall : ∀ q : Fin l, ∃ j : Fin k, e j = best (f q) := by
      intro q
      rcases before_total top (f q) (anc (e i)) (hno q) with hb | hb
      · obtain ⟨j, _, hj⟩ := hpre _ hb
        exact ⟨j, hj⟩
      · obtain ⟨j, _, hj⟩ := hf.closed q _ hb
        exact absurd hj (hno j)
    choose g hg using hall
    have ginj : Function.Injective g := by
      intro q q' hqq
      have h1 : best (f q) = best (f q') := by rw [← hg, ← hg, hqq]
      have h2 := congrArg anc h1
      rw [F.anc_best, F.anc_best] at h2
      exact hf.inj h2
    have := Fintype.card_le_of_injective g ginj
    simp only [Fintype.card_fin] at this
    omega
  obtain ⟨q, hq⟩ := hmem
  refine ⟨q, hq, fun j hj hQ => ?_⟩
  have hb := hf.before hj
  rw [hq] at hb
  obtain ⟨j', hj', hej'⟩ := hpre _ hb
  apply hmin j' hj'
  rw [hej', F.anc_best]
  exact hQ

/-- `i` is the first place at which `s` is greatest. -/
def FirstMax {k : ℕ} (s : Fin k → EReal) (i : Fin k) : Prop :=
  (∀ j, s j ≤ s i) ∧ ∀ j, j < i → s j < s i

/-- Scores that fall along the list, some of them struck out by a value below all: the first greatest place is the first
    place not struck out. -/
theorem firstMax_eq {k : ℕ} {s v : Fin k → EReal} {M : Fin k → Prop} {low : EReal} (hv : ∀ i j, i ≤ j → v j ≤ v i)
    (hlow : ∀ i, low < v i) (hM : ∀ i, M i → s i = low) (hN : ∀ i, ¬ M i → s i = v i)
    {i : Fin k} (hi : FirstMax s i) (hex : ∃ j, ¬ M j) : ¬ M i ∧ ∀ j, j < i → M j := by
  obtain ⟨j, hj⟩ := hex
  have hni : ¬ M i := by
    intro h
    have := hi.1 j
    rw [hM i h, hN j hj] at this
    exact absurd this (not_le.mpr (hlow j))
  refine ⟨hni, fun j' hj' => ?_⟩
  by_contra hn
  have := hi.2 j' hj'
  rw [hN j' hn, hN i hni] at this
  exact absurd this (not_lt.mpr (hv _ _ hj'.le))

/-- A greedy selection over a list: at each step the first greatest score is picked, and it and all it overlaps are
    struck out. -/
structure Greedy {k : ℕ} (ov : Fin k → Fin k → Prop) (v : Fin k → EReal) (low : EReal) (T : ℕ)
    (s : ℕ → Fin k → EReal) (pick : ℕ → Fin k) : Prop where
  start : ∀ j, s 0 j = v j
  picks : ∀ t, t < T → FirstMax (s t) (pick t)
  struck : ∀ t, t < T → ∀ j, ov (pick t) j ∨ j = pick t → s (t + 1) j = low
  kept : ∀ t, t < T → ∀ j, ¬ (ov (pick t) j ∨ j = pick t) → s (t + 1) j = s t j

/-- The scores of a greedy selection whose boxes overlap themselves. -/
theorem Greedy.scores {k : ℕ} {ov : Fin k → Fin k → Prop} {v : Fin k → EReal} {low : EReal} {T : ℕ}
    {s : ℕ → Fin k → EReal} {pick : ℕ → Fin k} (G : Greedy ov v low T s pick) (t : ℕ) (ht : t ≤ T)
    (hself : ∀ u, u < t → ov (pick u) (pick u)) (j : Fin k) :
    ((∃ u, u < t ∧ ov (pick u) j) → s t j = low) ∧ ((¬ ∃ u, u < t ∧ ov (pick u) j) → s t j = v j) := by
  induction t with
  | zero => exact ⟨fun ⟨u, hu, _⟩ => absurd hu (Nat.not_lt_zero u), fun _ => G.start j⟩
  | succ t ih =>
    have ih := ih (by omega) (fun u hu => hself u (by omega))
    have hs := hself t (by omega)
    by_cases hnow : ov (pick t) j
    · refine ⟨fun _ => G.struck t (by omega) j (.inl hnow), fun h => absurd ⟨t, by omega, hnow⟩ h⟩
    · have hne : j ≠ pick t := fun h => hnow (h ▸ hs)
      have hk := G.kept t (by omega) j (by rintro (h | h); exacts [hnow h, hne h])
      rw [hk]
      refine ⟨fun ⟨u, hu, hov⟩ => ih.1 ⟨u, ?_, hov⟩, fun h => ih.2 fun ⟨u, hu, hov⟩ => h ⟨u, by omega, hov⟩⟩
      rcases Nat.lt_succ_iff_lt_or_eq.mp hu with h | h
      · exact h
      · exact absurd (h ▸ hov) hnow

/-- Few overlaps: the list is not exhausted. -/
theorem exists_free {k : ℕ} {ov : Fin k → Fin k → Prop} [∀ i j, Decidable (ov i j)] {d : ℕ}
    (hdeg : ∀ i, (Finset.univ.filter fun j => ov i j).card ≤ d) (pick : ℕ → Fin k) (t : ℕ) (ht : t * d < k) :
    ∃ j, ¬ ∃ u, u < t ∧ ov (pick u) j := by
  by_contra hno
  push Not at hno
  have hsub : (Finset.univ : Finset (Fin k)) ⊆ (Finset.range t).biUnion fun u => Finset.univ.filter fun j => ov (pick u) j := by
    intro j _
    obtain ⟨u, hu, hov⟩ := hno j
    simp only [Finset.mem_biUnion, Finset.mem_range, Finset.mem_filter, Finset.mem_univ, true_and]
    exact ⟨u, hu, hov⟩
  have h1 := Finset.card_le_card hsub
  have h2 := Finset.card_biUnion_le_card_mul (Finset.range t) (fun u => Finset.univ.filter fun j => ov (pick u) j) d
    (fun u _ => hdeg (pick u))
  simp only [Finset.card_univ, Fintype.card_fin, Finset.card_range] at h1 h2
  omega

/-- THE THEOREM: the two greedy selections pick, step by step, the same anchors, the first of them through the anchors'
    best pairs, at equal scores. -/
theorem picks_agree (F : Fam key top anc best) {e : Fin k → Fin n} {f : Fin l → Fin a} (he : IsTop key e) (hf : IsTop top f)
    (hkl : k < l) (ov : Fin a → Fin a → Prop) (sg : EReal → EReal) (hsg : Monotone sg) {low : EReal} (hlow : ∀ x, low < sg x)
    {T d : ℕ} (hself : ∀ i, ov (anc (e i)) (anc (e i)))
    (hdeg : ∀ i, ∃ D : Finset (Fin k), (∀ j, ov (anc (e i)) (anc (e j)) → j ∈ D) ∧ D.card ≤ d) (hT : T * d < k + d)
    {s : ℕ → Fin k → EReal} {pick : ℕ → Fin k}
    (G : Greedy (fun i j => ov (anc (e i)) (anc (e j))) (fun i => sg (key (e i))) low T s pick)
    {s' : ℕ → Fin l → EReal} {pick' : ℕ → Fin l}
    (G' : Greedy (fun i j => ov (f i) (f j)) (fun i => sg (top (f i))) low T s' pick') :
    ∀ t, t < T → e (pick t) = best (f (pick' t)) ∧ s t (pick t) = s' t (pick' t) := by
  classical
  have hdeg' : ∀ i, (Finset.univ.filter fun j => ov (anc (e i)) (anc (e j))).card ≤ d := by
    intro i
    obtain ⟨D, hD, hc⟩ := hdeg i
    refine (Finset.card_le_card fun j hj => hD j ?_).trans hc
    simpa using hj
  intro t
  induction t using Nat.strong_induction_on with
  | _ t ih =>
    intro ht
    have hanc : ∀ u, u < t → anc (e (pick u)) = f (pick' u) := by
      intro u hu
      rw [(ih u hu (by omega)).1, F.anc_best]
    have hself' : ∀ u, u < t → ov (f (pick' u)) (f (pick' u)) := by
      intro u hu
      rw [← hanc u hu]
      exact hself _
    have hsc := G.scores t (by omega) (fun u _ => hself (pick u))
    have hsc' := G'.scores t (by omega) hself'
    have hdt : t * d < k := by
      have : (t + 1) * d ≤ T * d := Nat.mul_le_mul_right d ht
      rw [Nat.add_mul, Nat.one_mul] at this
      omega
    have hfree := exists_free (ov := fun i j => ov (anc (e i)) (anc (e j))) hdeg' pick t hdt
    -- the predicate both selections read: not overlapped by any earlier pick
    let Q : Fin a → Prop := fun r => ¬ ∃ u, u < t ∧ ov (f (pick' u)) r
    have hQ : ∀ j, (∃ u, u < t ∧ ov (anc (e (pick u))) (anc (e j))) ↔ ¬ Q (anc (e j)) := by
      intro j
      simp only [Q, not_not]
      constructor
      · rintro ⟨u, hu, h⟩; exact ⟨u, hu, hanc u hu ▸ h⟩
      · rintro ⟨u, hu, h⟩; exact ⟨u, hu, (hanc u hu).symm ▸ h⟩
    have hQ' : ∀ j, (∃ u, u < t ∧ ov (f (pick' u)) (f j)) ↔ ¬ Q (f j) := by
      intro j; simp only [Q, not_not]
    have h1 := firstMax_eq (s := s t) (v := fun i => sg (key (e i))) (low := low)
      (fun i j hij => hsg (he.anti hij)) (fun i => hlow _) (fun i h => (hsc i).1 h) (fun i h => (hsc i).2 h) (G.picks t ht) hfree
    have hQi : Q (anc (e (pick t))) := by
      intro h; exact h1.1 ((hQ (pick t)).2 (not_not.2 h))
    have hmin : ∀ j, j < pick t → ¬ Q (anc (e j)) := fun j hj => (hQ j).1 (h1.2 j hj)
    obtain ⟨hb, q, hq, hqmin⟩ := first_agree F he hf hkl Q (pick t) hQi hmin
    have hfree' : ∃ j : Fin l, ¬ ∃ u, u < t ∧ ov (f (pick' u)) (f j) := ⟨q, by rw [hQ', hq, not_not]; exact hQi⟩
    have h2 := firstMax_eq (s := s' t) (v := fun i => sg (top (f i))) (low := low)
      (fun i j hij => hsg (hf.anti hij)) (fun i => hlow _) (fun i h => (hsc' i).1 h) (fun i h => (hsc' i).2 h) (G'.picks t ht) hfree'
    have hqeq : pick' t = q := by
      rcases lt_trichotomy (pick' t) q with h | h | h
      · exact absurd (hqmin _ h) (by rw [← hQ']; exact h2.1)
      · exact h
      · have := (hQ' q).1 (h2.2 q h)
        rw [hq] at this
        exact absurd hQi this
    have hfp : f (pick' t) = anc (e (pick t)) := by rw [hqeq, hq]
    refine ⟨by rw [hfp]; exact hb, ?_⟩
    rw [(hsc (pick t)).2 h1.1, (hsc' (pick' t)).2 h2.1, hfp, ← F.key_best, ← hb]

end

end Cert.Pick

end
-- ==== Proof.Folds.lean ====
/-
  Two folds over a finite row: the greatest entry, and the least of a row of words.  Together they give the place of the
  first greatest entry, the way a vector unit finds it: the least position among those that hold the maximum.
-/
module

public import proofs.«01_k».proof.Proof.Pick
public import Idealize.ShloMosaic.Lib.Pointwise
public import Idealize.ShloMosaic.Lib.SortNet.Extract

@[expose] public section

namespace Cert.Folds

open Idealize.ShloMosaic Cert.Pick

/-- The fold of `max` over a row, begun at the least value, is the row's greatest entry. -/
theorem fold_max {n : ℕ} (f : Fin n → EReal) (p : Fin n) (h : ∀ j, f j ≤ f p) :
    Finset.fold max (Ideal.ofBits .f32 0xFF800000#32) f Finset.univ = f p := by
  have hb : Ideal.ofBits .f32 0xFF800000#32 = ⊥ := by simp [Ideal.ofBits, Ideal.ieee]
  rw [hb]
  apply le_antisymm
  · exact (Finset.fold_max_le _).mpr ⟨bot_le, fun j _ => h j⟩
  · exact (Finset.le_fold_max _).mpr (.inr ⟨p, Finset.mem_univ p, le_rfl⟩)

/-- The fold of the signed minimum over a row, when the word `g p` of one place is below every other and below the start. -/
theorem fold_min {n : ℕ} (c : BitVec 32) (g : Fin n → BitVec 32) (p : Fin n) (hc : (g p).toInt ≤ c.toInt)
    (h : ∀ j, (g p).toInt ≤ (g j).toInt) : Finset.fold IntOp.minsi c g Finset.univ = g p := by
  apply BitVec.eq_of_toInt_eq
  have key : ∀ S : Finset (Fin n), (g p).toInt ≤ (Finset.fold IntOp.minsi c g S).toInt ∧
      ∀ j ∈ S, (Finset.fold IntOp.minsi c g S).toInt ≤ (g j).toInt := by
    classical
    intro S
    induction S using Finset.induction_on with
    | empty => exact ⟨by simpa using hc, fun j hj => absurd hj (Finset.notMem_empty j)⟩
    | insert a S ha ih =>
      rw [Finset.fold_insert ha, SortNet.toInt_minsi]
      refine ⟨le_min (h a) ih.1, fun j hj => ?_⟩
      rcases Finset.mem_insert.mp hj with rfl | hj
      · exact min_le_left _ _
      · exact (min_le_right _ _).trans (ih.2 j hj)
  exact le_antisymm ((key Finset.univ).2 p (Finset.mem_univ p)) (key Finset.univ).1

theorem toInt_ofNat {j : ℕ} (h : j < 1073741824) : (BitVec.ofNat 32 j).toInt = j := by
  rw [BitVec.toInt_eq_toNat_cond, BitVec.toNat_ofNat, Nat.mod_eq_of_lt (by omega), if_pos (by omega)]

/-- The least position among those that hold the greatest entry is the first greatest place. -/
theorem fold_first {n : ℕ} (hn : n ≤ 1073741824) (s : Fin n → EReal) (p : Fin n) (hp : FirstMax s p) (c d : BitVec 32)
    (hc : 1073741824 ≤ c.toInt) (hd : (n : ℤ) ≤ d.toInt) :
    Finset.fold IntOp.minsi c (fun x => if s x = s p then BitVec.ofNat 32 x.val else d) Finset.univ
      = BitVec.ofNat 32 p.val := by
  have hpn : p.val < n := p.isLt
  have e : (if s p = s p then BitVec.ofNat 32 p.val else d) = BitVec.ofNat 32 p.val := if_pos rfl
  refine (fold_min c _ p ?_ ?_).trans e
  · rw [e, toInt_ofNat (by omega)]; omega
  · intro j
    have hj : j.val < n := j.isLt
    rw [e, toInt_ofNat (by omega)]
    split
    · rename_i hs
      rw [toInt_ofNat (by omega)]
      have : ¬ j < p := fun hlt => absurd hs (ne_of_lt (hp.2 j hlt))
      have := Fin.not_lt.mp this
      exact_mod_cast this
    · omega

/-- One term of a sum: the others vanish. -/
theorem sum_pick {n : ℕ} (f : Fin n → EReal) (p : Fin n) :
    ∑ j, f j * (if j = p then (1 : EReal) else 0) = f p := by
  rw [Finset.sum_eq_single p]
  · rw [if_pos rfl, mul_one]
  · intro j _ hj; rw [if_neg hj, mul_zero]
  · intro h; exact absurd (Finset.mem_univ p) h

theorem ofNat_inj {n : ℕ} (hn : n ≤ 1073741824) (i j : Fin n) : BitVec.ofNat 32 i.val = BitVec.ofNat 32 j.val ↔ i = j := by
  constructor
  · intro h
    have h1 := congrArg BitVec.toNat h
    simp only [BitVec.toNat_ofNat] at h1
    have := i.isLt; have := j.isLt
    rw [Nat.mod_eq_of_lt (by omega), Nat.mod_eq_of_lt (by omega)] at h1
    exact Fin.ext h1
  · rintro rfl; rfl

end Cert.Folds

end
-- ==== Proof.Box.lean ====
/-
  Boxes over the extended reals: their overlap, their decoding from an anchor, and the values of the constants the two
  programs write.
-/
module

public import Idealize.ShloMosaic.Lib.Pointwise
public import Idealize.ShloMosaic.Lib.IdealHost

@[expose] public section

noncomputable section

namespace Cert.Box

open Idealize.ShloMosaic

/-- The overlap (intersection over union) of two boxes `(y1, x1, y2, x2)`, with the union kept away from zero by a small
    constant. -/
def iou (p q : Fin 4 → EReal) : EReal :=
  Ideal.div (max (min (p 2) (q 2) - max (p 0) (q 0)) 0 * max (min (p 3) (q 3) - max (p 1) (q 1)) 0)
    ((p 2 - p 0) * (p 3 - p 1) + (q 2 - q 0) * (q 3 - q 1)
      - max (min (p 2) (q 2) - max (p 0) (q 0)) 0 * max (min (p 3) (q 3) - max (p 1) (q 1)) 0 + Ideal.ofBits .f32 0x322BCC77#32)

/-- Two boxes overlap by more than one half. -/
def Over (p q : Fin 4 → EReal) : Prop := Ideal.ofBits .f32 0x3F000000#32 < iou p q

/-- A coordinate kept inside the image. -/
def clip (x : EReal) : EReal := min (Ideal.ofBits .f32 0x44000000#32) (max 0 x)

/-- The box of an anchor `(y1, x1, y2, x2)` and its offsets `(ty, tx, th, tw)`. -/
def decode (t a : Fin 4 → EReal) : Fin 4 → EReal :=
  ![clip (t 0 * (a 2 - a 0) + (a 0 + a 2) * Ideal.ofBits .f32 0x3F000000#32
        - Ideal.exp (t 2) * (a 2 - a 0) * Ideal.ofBits .f32 0x3F000000#32),
    clip (t 1 * (a 3 - a 1) + (a 1 + a 3) * Ideal.ofBits .f32 0x3F000000#32
        - Ideal.exp (t 3) * (a 3 - a 1) * Ideal.ofBits .f32 0x3F000000#32),
    clip (t 0 * (a 2 - a 0) + (a 0 + a 2) * Ideal.ofBits .f32 0x3F000000#32
        + Ideal.exp (t 2) * (a 2 - a 0) * Ideal.ofBits .f32 0x3F000000#32),
    clip (t 1 * (a 3 - a 1) + (a 1 + a 3) * Ideal.ofBits .f32 0x3F000000#32
        + Ideal.exp (t 3) * (a 3 - a 1) * Ideal.ofBits .f32 0x3F000000#32)]

/-- The value a struck-out score takes. -/
abbrev low : EReal := Ideal.ofBits .f32 0xD01502F9#32

/-- Halving by division is multiplying by one half. -/
theorem div_two (x : EReal) : Ideal.div x (Ideal.ofBits .f32 0x40000000#32) = x * Ideal.ofBits .f32 0x3F000000#32 := by
  have h2 : Ideal.ofBits .f32 0x40000000#32 = ((2 : ℝ) : EReal) := by
    simp [Ideal.ofBits, Ideal.ieee, -EReal.coe_mul]; norm_num
  have h1 : Ideal.ofBits .f32 0x3F000000#32 = ((2⁻¹ : ℝ) : EReal) := by
    simp [Ideal.ofBits, Ideal.ieee, -EReal.coe_mul]; norm_num
  rw [h1, h2]
  unfold Ideal.div
  rw [if_neg (by norm_cast), EReal.coe_inv]

theorem low_neg : low < 0 := by
  have h : low = ((-10000000000 : ℝ) : EReal) := by
    simp [Ideal.ofBits, Ideal.ieee, -EReal.coe_mul, -EReal.coe_neg]; norm_num
  rw [h]; exact_mod_cast (by norm_num : (-10000000000 : ℝ) < 0)

theorem logistic_nonneg (x : EReal) : 0 ≤ Ideal.logistic x := by
  induction x with
  | bot => simp
  | top => simp
  | coe r => rw [Ideal.logistic_coe]; exact_mod_cast inv_nonneg.mpr (by positivity)

theorem low_lt_logistic (x : EReal) : low < Ideal.logistic x := low_neg.trans_le (logistic_nonneg x)

theorem logistic_mono : Monotone Ideal.logistic := by
  intro x y h
  induction x with
  | bot => rw [Ideal.logistic_bot]; exact logistic_nonneg y
  | top => rw [top_le_iff.mp h]
  | coe r =>
    induction y with
    | bot => exact absurd h (by simp)
    | top =>
      rw [Ideal.logistic_coe, Ideal.logistic_top]
      exact_mod_cast inv_le_one_of_one_le₀ (by linarith [Real.exp_pos (-r)])
    | coe s =>
      have h' : r ≤ s := by exact_mod_cast h
      rw [Ideal.logistic_coe, Ideal.logistic_coe]
      have : Real.exp (-s) ≤ Real.exp (-r) := Real.exp_le_exp.mpr (by linarith)
      exact_mod_cast inv_anti₀ (by positivity) (by linarith)

end Cert.Box

end
-- ==== Proof.NmsStep.lean ====
/-
  One step of the kernel's selection, read at an index: the greatest score of a row, the place of its first occurrence, the
  entry of each plane at that place, the overlaps with every box, the scores that remain, the detection row.
-/
module

public import proofs.«01_k».proof.Proof.Gen.KernelIdeal.Skeleton
public import proofs.«01_k».proof.Proof.Folds
public import proofs.«01_k».proof.Proof.Box

@[expose] public section

set_option maxRecDepth 16384

noncomputable section

namespace Cert.NmsStep

open Idealize.ShloMosaic Idealize.ShloMosaic.TcCoe Cert.Pick Cert.Folds Cert.Box
open Cert.KernelIdeal Cert.KernelIdeal.Gen

/-- Four planes as a family of boxes. -/
def boxes (Y1 X1 Y2 X2 : FVec Ideal S8x5120 .f32) (b : Fin 8) (j : Fin 5120) : Fin 4 → EReal :=
  ![Y1 (ix2 b j), X1 (ix2 b j), Y2 (ix2 b j), X2 (ix2 b j)]

variable (lin : IVec S8x5120 32) (hlin : ∀ b j, lin (ix2 b j) = BitVec.ofNat 32 j.val)
variable (s : FVec Ideal S8x5120 .f32) (b : Fin 8) (p : Fin 5120) (hp : FirstMax (fun j => s (ix2 b j)) p)

include hp in
theorem top_score : k5_pay3 s (ix2 b (0 : Fin 1)) = s (ix2 b p) := by
  pointwise [k5_pay3]
  exact fold_max (fun x => s (ix2 b x)) p hp.1

include hp hlin in
theorem mask (j : Fin 5120) : k5_pay4 lin s (ix2 b j) = if j = p then 1#1 else 0#1 := by
  pointwise [k5_pay4]
  rw [top_score s b p hp]
  simp only [hlin]
  rw [fold_first (by norm_num) (fun j => s (ix2 b j)) p hp _ _ (by decide) (by decide)]
  show BitVec.ofBool (BitVec.ofNat 32 j.val == BitVec.ofNat 32 p.val) = _
  by_cases h : j = p
  · subst h; rw [if_pos rfl, beq_self_eq_true]; rfl
  · rw [if_neg h, beq_eq_false_iff_ne.mpr (fun e => h ((ofNat_inj (by norm_num) j p).mp e))]; rfl

include hp hlin in
theorem weight (j : Fin 5120) : k5_pay5 lin s (ix2 b j) = if j = p then (1 : EReal) else 0 := by
  pointwise [k5_pay5]
  rw [mask lin hlin s b p hp j]
  by_cases h : j = p
  · rw [if_pos h, if_pos h]
    show (((BitVec.setWidth 32 (1#1)).toInt : ℝ) : EReal) = 1
    rw [show (BitVec.setWidth 32 (1#1)).toInt = 1 by decide]; norm_num
  · rw [if_neg h, if_neg h]
    show (((BitVec.setWidth 32 (0#1)).toInt : ℝ) : EReal) = 0
    rw [show (BitVec.setWidth 32 (0#1)).toInt = 0 by decide]; norm_num

variable (v : FVec Ideal S8x5120 .f32)

include hp hlin in
theorem pick6 : k5_pay6 v lin s (ix2 b (0 : Fin 1)) = v (ix2 b p) := by
  pointwise [k5_pay6]
  simp only [weight lin hlin s b p hp]
  exact sum_pick (fun j => v (ix2 b j)) p

include hp hlin in
theorem pick7 : k5_pay7 v lin s (ix2 b (0 : Fin 1)) = v (ix2 b p) := by
  pointwise [k5_pay7]
  simp only [weight lin hlin s b p hp]
  exact sum_pick (fun j => v (ix2 b j)) p

include hp hlin in
theorem pick8 : k5_pay8 v lin s (ix2 b (0 : Fin 1)) = v (ix2 b p) := by
  pointwise [k5_pay8]
  simp only [weight lin hlin s b p hp]
  exact sum_pick (fun j => v (ix2 b j)) p

include hp hlin in
theorem pick9 : k5_pay9 v lin s (ix2 b (0 : Fin 1)) = v (ix2 b p) := by
  pointwise [k5_pay9]
  simp only [weight lin hlin s b p hp]
  exact sum_pick (fun j => v (ix2 b j)) p

include hp hlin in
theorem pick10 : k5_pay10 v lin s (ix2 b (0 : Fin 1)) = v (ix2 b p) := by
  pointwise [k5_pay10]
  simp only [weight lin hlin s b p hp]
  exact sum_pick (fun j => v (ix2 b j)) p

variable (Y1 X1 Y2 X2 AR : FVec Ideal S8x5120 .f32)
  (hAR : ∀ b j, AR (ix2 b j) = (Y2 (ix2 b j) - Y1 (ix2 b j)) * (X2 (ix2 b j) - X1 (ix2 b j)))

/-- The scores after a step, as the kernel computes them. -/
def stepScores : FVec Ideal S8x5120 .f32 :=
  k5_pay1 s (k5_pay4 lin s) (k5_pay11 Y1 X1 Y2 X2 lin s) (k5_pay12 Y1 X1 Y2 X2 AR lin s) (Ideal.ofBits .f32 0x322BCC77#32)

include hp hlin hAR in
open Classical in
theorem stepScores_apply (j : Fin 5120) :
    stepScores lin s Y1 X1 Y2 X2 AR (ix2 b j)
      = if Over (boxes Y1 X1 Y2 X2 b p) (boxes Y1 X1 Y2 X2 b j) ∨ j = p then low else s (ix2 b j) := by
  unfold stepScores
  pointwise [k5_pay1, k5_pay12, k5_pay11]
  rw [mask lin hlin s b p hp j, pick6 lin hlin s b p hp, pick7 lin hlin s b p hp, pick8 lin hlin s b p hp,
    pick9 lin hlin s b p hp, hAR]
  have e : (Ideal.ofBits .f32 0x3F000000#32 < Ideal.div
      (max (min (Y2 (ix2 b p)) (Y2 (ix2 b j)) - max (Y1 (ix2 b p)) (Y1 (ix2 b j))) 0
        * max (min (X2 (ix2 b p)) (X2 (ix2 b j)) - max (X1 (ix2 b p)) (X1 (ix2 b j))) 0)
      ((Y2 (ix2 b p) - Y1 (ix2 b p)) * (X2 (ix2 b p) - X1 (ix2 b p))
        + (Y2 (ix2 b j) - Y1 (ix2 b j)) * (X2 (ix2 b j) - X1 (ix2 b j))
        - max (min (Y2 (ix2 b p)) (Y2 (ix2 b j)) - max (Y1 (ix2 b p)) (Y1 (ix2 b j))) 0
          * max (min (X2 (ix2 b p)) (X2 (ix2 b j)) - max (X1 (ix2 b p)) (X1 (ix2 b j))) 0
        + Ideal.ofBits .f32 0x322BCC77#32)) ↔ Over (boxes Y1 X1 Y2 X2 b p) (boxes Y1 X1 Y2 X2 b j) := Iff.rfl
  simp only [e]
  by_cases h1 : Over (boxes Y1 X1 Y2 X2 b p) (boxes Y1 X1 Y2 X2 b j)
  · by_cases h2 : j = p
    · rw [decide_eq_true h1, if_pos h2, if_pos (Or.inl h1)]; rfl
    · rw [decide_eq_true h1, if_neg h2, if_pos (Or.inl h1)]; rfl
  · by_cases h2 : j = p
    · rw [decide_eq_false h1, if_pos h2, if_pos (Or.inr h2)]; rfl
    · rw [decide_eq_false h1, if_neg h2, if_neg (not_or.mpr ⟨h1, h2⟩)]; rfl

variable (CL : FVec Ideal S8x5120 .f32) (SC : FVec Ideal S8x1 .f32)

/-- A detection: the picked box scaled to the image, its score, its class. -/
def det (B : Fin 4 → EReal) (sc m cl : EReal) : Fin 6 → EReal := ![B 1 * sc, B 0 * sc, B 3 * sc, B 2 * sc, m, cl]

/-- The detection row of a step, as the kernel computes it. -/
def stepRow : FVec Ideal S8x1x6 .f32 :=
  k5_pay2 SC (k5_pay3 s) (k5_pay6 Y1 lin s) (k5_pay7 X1 lin s) (k5_pay8 Y2 lin s) (k5_pay9 X2 lin s) (k5_pay10 CL lin s)

include hp hlin in
theorem stepRow_apply (l : Fin 6) :
    stepRow lin s Y1 X1 Y2 X2 CL SC (ix3 b (0 : Fin 1) l)
      = det (boxes Y1 X1 Y2 X2 b p) (SC (ix2 b (0 : Fin 1))) (s (ix2 b p)) (CL (ix2 b p)) l := by
  unfold stepRow
  pointwise [k5_pay2]
  fin_cases l
  · simp [det, boxes, pick7 lin hlin s b p hp]
  · simp [det, boxes, pick6 lin hlin s b p hp]
  · simp [det, boxes, pick9 lin hlin s b p hp]
  · simp [det, boxes, pick8 lin hlin s b p hp]
  · simp [det, boxes, top_score s b p hp]
  · simp [det, boxes, pick10 lin hlin s b p hp]

end Cert.NmsStep

end
-- ==== Proof.NmsRun.lean ====
/-
  The kernel's selection over its hundred steps: the scores before each step, and the detection array as the rows the
  steps write.
-/
module

public import proofs.«01_k».proof.Proof.Gen.KernelIdeal.Frame
public import proofs.«01_k».proof.Proof.NmsStep
public import Idealize.ShloMosaic.Lib.WritesUnit
public import Idealize.ShloMosaic.Lib.VecWindow

@[expose] public section

set_option maxRecDepth 16384

noncomputable section

namespace Cert.NmsRun

open Idealize.ShloMosaic Idealize.ShloMosaic.TcCoe Cert.NmsStep
open Cert.KernelIdeal Cert.KernelIdeal.Gen

/-- The lane numbers. -/
abbrev lanes : IVec S8x5120 32 := iota Kind.tc S8x5120 32 [1] iota_S8x5120_d1_w32

theorem lanes_apply (b : Fin 8) (j : Fin 5120) : lanes (ix2 b j) = BitVec.ofNat 32 j.val := by
  pointwise [lanes]

section planes
variable (Y1 X1 Y2 X2 AR CL : FVec Ideal S8x5120 .f32) (SC : FVec Ideal S8x1 .f32) (s0 : FVec Ideal S8x5120 .f32)

/-- The scores before step `t`. -/
def scores : ℕ → FVec Ideal S8x5120 .f32
  | 0 => s0
  | t + 1 => stepScores lanes (scores t) Y1 X1 Y2 X2 AR

variable (c : Dev nD) (arg0 : Memref sig .tc .vmem S8x5120 .f32) (harg0 : arg0.IsWhole) (arg1 : Memref sig .tc .vmem S8x5120 .f32) (harg1 : arg1.IsWhole) (arg2 : Memref sig .tc .vmem S8x5120 .f32) (harg2 : arg2.IsWhole) (arg3 : Memref sig .tc .vmem S8x5120 .f32) (harg3 : arg3.IsWhole) (arg4 : Memref sig .tc .vmem S8x5120 .f32) (harg4 : arg4.IsWhole) (arg5 : Memref sig .tc .vmem S8x5120 .f32) (harg5 : arg5.IsWhole) (arg6 : Memref sig .tc .vmem S8x5120 .f32) (harg6 : arg6.IsWhole) (arg7 : Memref sig .tc .vmem S8x5120 .f32) (harg7 : arg7.IsWhole) (arg8 : Memref sig .tc .vmem S8x5120 .f32) (harg8 : arg8.IsWhole) (arg9 : Memref sig .tc .vmem S8x5120 .f32) (harg9 : arg9.IsWhole) (arg10 : Memref sig .tc .vmem S8x1 .f32) (harg10 : arg10.IsWhole) (arg11 : Memref sig .tc .vmem S8x100x6 .f32) (harg11 : arg11.IsWhole)

theorem trip_scores (k : Fin k5_t1_loop.trips) (acc : FVec Ideal S8x5120 .f32) :
    tripR_k5_t1 (F := Ideal) Variants.none c none arg0 harg0 arg1 harg1 arg2 harg2 arg3 harg3 arg4 harg4 arg5 harg5 arg6 harg6 arg7 harg7 arg8 harg8 arg9 harg9 arg10 harg10 arg11 harg11 Y1 X1 Y2 X2 AR CL SC lanes 0#32 1#32 k acc
      = stepScores lanes acc Y1 X1 Y2 X2 AR := by
  unfold tripR_k5_t1 trip_k5_t1; rfl

theorem trip_row (k : Fin k5_t1_loop.trips) (acc : FVec Ideal S8x5120 .f32) :
    tripL_k5_t1 (F := Ideal) Variants.none c none arg0 harg0 arg1 harg1 arg2 harg2 arg3 harg3 arg4 harg4 arg5 harg5 arg6 harg6 arg7 harg7 arg8 harg8 arg9 harg9 arg10 harg10 arg11 harg11 Y1 X1 Y2 X2 AR CL SC lanes 0#32 1#32 k acc
      = [⟨Rect.unit (s := S8x100x6) (k5_off1 k) S8x1x6.size (k5_off1_inb k), stepRow lanes acc Y1 X1 Y2 X2 CL SC⟩] := by
  unfold tripL_k5_t1 trip_k5_t1; rfl

theorem trips_eq : k5_t1_loop.trips = 100 := by decide

theorem off_eq : ∀ k : Fin k5_t1_loop.trips, k5_off1 k = ![0, k.val, 0] := by decide +kernel

theorem state_scores (t : ℕ) (ht : t ≤ 100) :
    (st_k5_t1 (F := Ideal) Variants.none c none arg0 harg0 arg1 harg1 arg2 harg2 arg3 harg3 arg4 harg4 arg5 harg5 arg6 harg6 arg7 harg7 arg8 harg8 arg9 harg9 arg10 harg10 arg11 harg11 Y1 X1 Y2 X2 AR CL SC lanes 0#32 1#32 s0 t).1
      = scores Y1 X1 Y2 X2 AR s0 t := by
  induction t with
  | zero => rfl
  | succ t ih =>
    rw [st_k5_t1_succ (k := ⟨t, by rw [trips_eq]; omega⟩)]
    show tripR_k5_t1 _ _ _ _ _ _ _ _ _ _ _ _ _ _ _ _ _ _ _ _ _ _ _ _ _ _ _ _ _ _ _ _ _ _ _ _ _ _ _ = _
    rw [trip_scores, ih (by omega)]; rfl

theorem state_row (v : View sig .tc .vmem S8x100x6 .f32) (f : v.ty.Contents (Elt Ideal)) (t : ℕ) (ht : t ≤ 100)
    (b : Fin 8) (i : Fin 100) (l : Fin 6) (hi : i.val < t) :
    v.read (Elt Ideal) (v.writes (Elt Ideal) f
        (st_k5_t1 (F := Ideal) Variants.none c none arg0 harg0 arg1 harg1 arg2 harg2 arg3 harg3 arg4 harg4 arg5 harg5 arg6 harg6 arg7 harg7 arg8 harg8 arg9 harg9 arg10 harg10 arg11 harg11 Y1 X1 Y2 X2 AR CL SC lanes 0#32 1#32 s0 t).2) (ix3 b i l)
      = stepRow lanes (scores Y1 X1 Y2 X2 AR s0 i.val) Y1 X1 Y2 X2 CL SC (ix3 b (0 : Fin 1) l) := by
  induction t with
  | zero => omega
  | succ t ih =>
    rw [st_k5_t1_succ (k := ⟨t, by rw [trips_eq]; omega⟩)]
    dsimp only
    rw [trip_row, List.singleton_append]
    by_cases h : i.val = t
    · refine (View.read_writes_cons_unit_of_mem (size := S8x1x6.size) v f (k5_off1_inb ⟨t, by rw [trips_eq]; omega⟩) _ _
        (ix3 b i l) (ix3 b (0 : Fin 1) l) (off_eq ⟨t, by rw [trips_eq]; omega⟩) ?_).trans ?_
      · intro a
        match a with
        | ⟨0, _⟩ => show b.val = 0 + b.val; omega
        | ⟨1, _⟩ => show i.val = t + 0; omega
        | ⟨2, _⟩ => show l.val = 0 + l.val; omega
      · rw [state_scores (ht := by omega), h]
    · refine (View.read_writes_cons_unit_of_not_mem (size := S8x1x6.size) v f (k5_off1_inb ⟨t, by rw [trips_eq]; omega⟩) _ _
        (ix3 b i l) (off_eq ⟨t, by rw [trips_eq]; omega⟩) (1 : Fin 3) (.inl ?_)).trans ?_
      · show i.val < t; omega
      · exact ih (by omega) (by omega)

end planes

section run
variable (c : Dev nD) (arg0 : Memref sig .tc .vmem S8x5120 .f32) (harg0 : arg0.IsWhole) (arg1 : Memref sig .tc .vmem S8x5120 .f32) (harg1 : arg1.IsWhole) (arg2 : Memref sig .tc .vmem S8x5120 .f32) (harg2 : arg2.IsWhole) (arg3 : Memref sig .tc .vmem S8x5120 .f32) (harg3 : arg3.IsWhole) (arg4 : Memref sig .tc .vmem S8x5120 .f32) (harg4 : arg4.IsWhole) (arg5 : Memref sig .tc .vmem S8x5120 .f32) (harg5 : arg5.IsWhole) (arg6 : Memref sig .tc .vmem S8x5120 .f32) (harg6 : arg6.IsWhole) (arg7 : Memref sig .tc .vmem S8x5120 .f32) (harg7 : arg7.IsWhole) (arg8 : Memref sig .tc .vmem S8x5120 .f32) (harg8 : arg8.IsWhole) (arg9 : Memref sig .tc .vmem S8x5120 .f32) (harg9 : arg9.IsWhole) (arg10 : Memref sig .tc .vmem S8x1 .f32) (harg10 : arg10.IsWhole) (arg11 : Memref sig .tc .vmem S8x100x6 .f32) (harg11 : arg11.IsWhole)
  (x0 : Vec Ideal S8x5120 .f32) (x1 : Vec Ideal S8x5120 .f32) (x2 : Vec Ideal S8x5120 .f32) (x3 : Vec Ideal S8x5120 .f32) (x4 : Vec Ideal S8x5120 .f32) (x5 : Vec Ideal S8x5120 .f32) (x6 : Vec Ideal S8x5120 .f32) (x7 : Vec Ideal S8x5120 .f32) (x8 : Vec Ideal S8x5120 .f32) (x9 : Vec Ideal S8x5120 .f32) (x10 : Vec Ideal S8x1 .f32)

/-- The four planes of decoded corners, and their areas. -/
abbrev planeY1 : FVec Ideal S8x5120 .f32 := k5_pay23 x4 x6 x2 x0
abbrev planeX1 : FVec Ideal S8x5120 .f32 := k5_pay24 (k5_pay19 x5 x7 x3) (k5_pay22 x5 x7 x1)
abbrev planeY2 : FVec Ideal S8x5120 .f32 := k5_pay25 (k5_pay20 x4 x6 x2) (k5_pay21 x4 x6 x0)
abbrev planeX2 : FVec Ideal S8x5120 .f32 := k5_pay26 (k5_pay19 x5 x7 x3) (k5_pay22 x5 x7 x1)
abbrev planeArea : FVec Ideal S8x5120 .f32 :=
  k5_pay27 (k5_pay19 x5 x7 x3) (k5_pay20 x4 x6 x2) (k5_pay21 x4 x6 x0) (k5_pay22 x5 x7 x1) (planeY1 x0 x2 x4 x6)

theorem run_pieces :
    (kernelRun5_A (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10).1
      = (st_k5_t1 (F := Ideal) Variants.none c none arg0 harg0 arg1 harg1 arg2 harg2 arg3 harg3 arg4 harg4 arg5 harg5 arg6 harg6 arg7 harg7 arg8 harg8 arg9 harg9 arg10 harg10 arg11 harg11 (planeY1 x0 x2 x4 x6) (planeX1 x1 x3 x5 x7) (planeY2 x0 x2 x4 x6)
          (planeX2 x1 x3 x5 x7) (planeArea x0 x1 x2 x3 x4 x5 x6 x7) (k5_pay28 x9) (k5_pay29 x10) lanes 0#32 1#32 (k5_pay30 x8) 100).2 := by
  unfold kernelRun5_A
  dsimp only
  unfold kernelRun5_A.sl.r_4 kernelRun5_A.sl.r_5 kernelRun5_A.sl.r_6 kernelRun5_A.sl.r_7 kernelRun5_A.sl.r_8 kernelRun5_A.sl.r_9 kernelRun5_A.sl.r_10 kernelRun5_A.sl.r_11 kernelRun5_A.sl.v76 kernelRun5_A.sl.r kernelRun5_A.sl.r_1 kernelRun5_A.sl.r_2 kernelRun5_A.sl.r_3 kernelRun5_A.sl.r_4
  rw [View.readAt_full, View.readAt_full, View.readAt_full, View.readAt_full, View.readAt_full, View.readAt_full, View.readAt_full,
    View.readAt_full, View.readAt_full, View.readAt_full, View.readAt_full]
  rw [harg0.read_unread, harg1.read_unread, harg2.read_unread, harg3.read_unread, harg4.read_unread, harg5.read_unread,
    harg6.read_unread, harg7.read_unread, harg8.read_unread, harg9.read_unread, harg10.read_unread]
  rw [show Scf.trips (0#32) (Scalar.addi 0#32 100#32) 1#32 = 100 by decide]

theorem out_apply (b : Fin 8) (i : Fin 100) (l : Fin 6) :
    out5_A_11 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 (ix3 b i l)
      = stepRow lanes (scores (planeY1 x0 x2 x4 x6) (planeX1 x1 x3 x5 x7) (planeY2 x0 x2 x4 x6)
          (planeX2 x1 x3 x5 x7) (planeArea x0 x1 x2 x3 x4 x5 x6 x7) (k5_pay30 x8) i.val)
        (planeY1 x0 x2 x4 x6) (planeX1 x1 x3 x5 x7) (planeY2 x0 x2 x4 x6) (planeX2 x1 x3 x5 x7) (k5_pay28 x9) (k5_pay29 x10)
        (ix3 b (0 : Fin 1) l) := by
  unfold out5_A_11
  rw [run_pieces]
  exact state_row _ _ _ _ _ _ _ _ c arg0 harg0 arg1 harg1 arg2 harg2 arg3 harg3 arg4 harg4 arg5 harg5 arg6 harg6 arg7 harg7 arg8 harg8 arg9 harg9 arg10 harg10 arg11 harg11 _ _ 100 le_rfl b i l i.isLt

end run

end Cert.NmsRun

end
-- ==== Proof.TopK.lean ====
/-
  The host's top-k of a two-axis array, read at an index: values and places are those of one list of places, `rank`,
  which lists the greatest entries of a row, equal entries by place.
-/
module

public import proofs.«01_k».proof.Proof.Pick
public import Idealize.ShloMosaic.Lib.SortFacts
public import Idealize.ShloMosaic.Lib.Pointwise

@[expose] public section

set_option maxRecDepth 16384

noncomputable section

namespace Cert.Pick

open Idealize.ShloMosaic Idealize.ShloMosaic.TcCoe

/-- Two relations that agree on every pair of the list taken later first sort it alike. -/
theorem stableSort_congr_pairwise {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    refine insertBefore_congr R R' a _ fun b hb => ?_
    exact h.1 b ((perm_stableSort R' l).mem_iff.mp hb)

open Classical in
/-- `Before key` as a Boolean relation. -/
def beforeB {n : ℕ} (key : Fin n → EReal) (p q : Fin n) : Bool := decide (Before key p q)

theorem beforeB_true {n : ℕ} {key : Fin n → EReal} {p q : Fin n} : beforeB key p q = true ↔ Before key p q := by
  classical exact by unfold beforeB; exact decide_eq_true_iff

theorem beforeB_false {n : ℕ} {key : Fin n → EReal} {p q : Fin n} : beforeB key p q = false ↔ ¬ Before key p q := by
  classical exact by unfold beforeB; exact decide_eq_false_iff_not

/-- The stable sort by greater key is the sort by `Before key`. -/
theorem sortedFrom_gt {n : ℕ} (key : Fin n → EReal) (R : Fin n → Fin n → Bool) (hR : ∀ p q, R p q = decide (key q < key p)) :
    sortedFrom R = sortedFrom (beforeB key) := by
  have hs : sortPositions n R = sortPositions n (beforeB key) := by
    unfold sortPositions
    refine stableSort_congr_pairwise _ _ _ ?_
    refine (List.pairwise_lt_finRange n).imp fun {a b} hab => ?_
    rw [hR]
    unfold beforeB Before
    congr 1
    refine propext ⟨fun h => .inl h, fun h => ?_⟩
    rcases h with h | h
    · exact h
    · exact absurd h.2 (not_lt.mpr hab.le)
  funext k
  unfold sortedFrom
  exact List.get_of_eq hs _

/-- The places of the `m` greatest keys, equal keys by place. -/
def rank {n m : ℕ} (h : m ≤ n) (key : Fin n → EReal) (i : Fin m) : Fin n := sortedFrom (beforeB key) (Fin.castLE h i)

theorem rank_isTop {n m : ℕ} (h : m ≤ n) (key : Fin n → EReal) : IsTop key (rank h key) where
  inj := fun i j hij => by
    have := sortedFrom_injective _ hij
    exact Fin.castLE_injective h this
  closed := fun i p hp => by
    obtain ⟨j, hj⟩ := sortedFrom_surjective (beforeB key) p
    have hirr : ∀ a, ¬ Before key a a := fun a ha => by
      rcases ha with ha | ha
      · exact lt_irrefl _ ha
      · exact lt_irrefl _ ha.2
    have hasymm : ∀ a b, Before key a b → ¬ Before key b a := fun a b hab hba => by
      rcases hab with hab | hab <;> rcases hba with hba | hba
      · exact absurd hab (not_lt.mpr hba.le)
      · rw [hba.1] at hab; exact lt_irrefl _ hab
      · rw [hab.1] at hba; exact lt_irrefl _ hba
      · exact absurd hab.2 (not_lt.mpr hba.2.le)
    have hlt : j < Fin.castLE h i := by
      rcases lt_trichotomy j (Fin.castLE h i) with hl | hl | hl
      · exact hl
      · subst hl
        exfalso
        rw [← hj] at hp
        exact hirr _ hp
      · exfalso
        have := sortedFrom_noInversion (beforeB key) (beforeB key)
          (fun a b hab => by
            exact beforeB_false.2 (hasymm _ _ (beforeB_true.1 hab)))
          (fun a b hab => hab)
          (fun a b c hab hbc => by
            have h1 := beforeB_false.1 hab
            have h2 := beforeB_false.1 hbc
            refine beforeB_false.2 ?_
            unfold Before at *
            push Not at h1 h2 ⊢
            refine ⟨h1.1.trans h2.1, fun he => ?_⟩
            have e1 : key b = key a := le_antisymm (he ▸ h2.1) h1.1
            have e2 : key c = key b := by rw [he, e1]
            exact (h2.2 e2).trans (h1.2 e1)) _ _ hl
        rw [hj] at this
        exact beforeB_false.1 this hp
    refine ⟨⟨j.val, lt_trans hlt i.2⟩, hlt, ?_⟩
    rw [← hj]
    rfl

theorem along_ix2 {b n : ℕ} (i : Fin b) (q p : Fin n) :
    Shape.Idx.along (s := ⟨2, ![b, n]⟩) (ix2 i q) (1 : Fin 2) p = ix2 i p := by
  funext a
  unfold Shape.Idx.along
  match a with
  | ⟨0, _⟩ => rfl
  | ⟨1, _⟩ => rfl

theorem gt_bool (x y : EReal) : (FloatOps.cmpfTotal (F := Ideal) (φ := .f32) CmpDirection.gt x y == 1#1) = decide (y < x) := by
  show (BitVec.ofBool (decide (y < x)) == 1#1) = decide (y < x)
  cases decide (y < x) <;> rfl

/-- Where the sort of a row takes its entry `j` from. -/
theorem sorted_row {b n m : ℕ} (hmn : m ≤ n) (x : FVec Ideal ⟨2, ![b, n]⟩ .f32) (i : Fin b) (j : Fin m)
    (J : (⟨2, ![b, n]⟩ : Shape).Idx) (hJ : J = ix2 i (Fin.castLE hmn j)) :
    sortedFrom (fun k k' => FloatOps.cmpfTotal (F := Ideal) (φ := .f32) CmpDirection.gt
      (x (J.along (1 : Fin 2) k)) (x (J.along (1 : Fin 2) k')) == 1#1) (J (1 : Fin 2)) = rank hmn (fun p => x (ix2 i p)) j := by
  subst hJ
  exact congrFun (sortedFrom_gt (n := n) (fun p => x (ix2 i p)) _ (fun p q => by
    rw [along_ix2, along_ix2]
    exact gt_bool _ _)) (Fin.castLE hmn j)

theorem slice_start {b n m : ℕ} (hmn : m ≤ n) (h : (⟨2, ![b, n]⟩ : Shape).Slices (fun _ => 0) ⟨2, ![b, m]⟩) (i : Fin b) (j : Fin m)
    {α : Type} (x : (⟨2, ![b, n]⟩ : Shape).Idx → α) :
    extractStridedSlice ⟨2, ![b, m]⟩ (fun _ => 0) x h (ix2 i j) = x (ix2 i (Fin.castLE hmn j)) := by
  unfold extractStridedSlice
  congr 1
  funext a
  match a with
  | ⟨0, _⟩ => exact Fin.ext (Nat.zero_add _)
  | ⟨1, _⟩ => exact Fin.ext (Nat.zero_add _)

/-- The greatest entries of a row, in order. -/
theorem topK_values {b n m : ℕ} (hmn : m ≤ n) (x : FVec Ideal ⟨2, ![b, n]⟩ .f32)
    (h : (⟨2, ![b, n]⟩ : Shape).Slices (fun _ => 0) ⟨2, ![b, m]⟩) (i : Fin b) (j : Fin m) :
    (Host.topK ⟨2, ![b, m]⟩ 1 (FloatOps.cmpfTotal .gt) x h).1 (ix2 i j) = x (ix2 i (rank hmn (fun p => x (ix2 i p)) j)) := by
  unfold Host.topK Host.sort2
  simp only [dif_pos (show (1 : ℕ) < 2 by decide)]
  rw [slice_start hmn]
  refine congrArg x ?_
  refine (congrArg (Shape.Idx.along (s := ⟨2, ![b, n]⟩) (ix2 i (Fin.castLE hmn j)) (1 : Fin 2)) (sorted_row hmn x i j _ rfl)).trans ?_
  exact along_ix2 _ _ _

/-- The places of the greatest entries of a row, in order. -/
theorem topK_places {b n m : ℕ} (hmn : m ≤ n) (x : FVec Ideal ⟨2, ![b, n]⟩ .f32)
    (h : (⟨2, ![b, n]⟩ : Shape).Slices (fun _ => 0) ⟨2, ![b, m]⟩) (i : Fin b) (j : Fin m) :
    (Host.topK ⟨2, ![b, m]⟩ 1 (FloatOps.cmpfTotal .gt) x h).2 (ix2 i j) = BitVec.ofNat 32 (rank hmn (fun p => x (ix2 i p)) j).val := by
  unfold Host.topK Host.sort2
  simp only [dif_pos (show (1 : ℕ) < 2 by decide)]
  rw [slice_start hmn]
  refine (congrArg (fun k : Fin n => iotaInDim ⟨2, ![b, n]⟩ 32 (1 : Fin 2)
    (Shape.Idx.along (s := ⟨2, ![b, n]⟩) (ix2 i (Fin.castLE hmn j)) (1 : Fin 2) k)) (sorted_row hmn x i j _ rfl)).trans ?_
  simp only [along_ix2]
  rfl

/-- The one greatest entry of a row is at its first greatest place. -/
theorem rank_one {n : ℕ} (h : 1 ≤ n) (key : Fin n → EReal) : FirstMax key (rank h key 0) := by
  have ht := rank_isTop h key
  have hno : ∀ p, ¬ Before key p (rank h key 0) := fun p hp => by
    obtain ⟨j, hj, _⟩ := ht.closed 0 p hp
    exact absurd hj (Fin.not_lt_zero j)
  refine ⟨fun j => ?_, fun j hj => ?_⟩
  · by_contra hlt
    exact hno j (.inl (not_le.mp hlt))
  · rcases lt_trichotomy (key j) (key (rank h key 0)) with hl | hl | hl
    · exact hl
    · exact absurd (.inr ⟨hl.symm, hj⟩) (hno j)
    · exact absurd (.inl hl) (hno j)

theorem FirstMax.unique {k : ℕ} {s : Fin k → EReal} {i j : Fin k} (hi : FirstMax s i) (hj : FirstMax s j) : i = j := by
  rcases lt_trichotomy i j with h | h | h
  · exact absurd (hj.2 i h) (not_lt.mpr (hi.1 j))
  · exact h
  · exact absurd (hi.2 j h) (not_lt.mpr (hj.1 i))

end Cert.Pick

end
-- ==== Proof.NmsGreedy.lean ====
/-
  The kernel's selection as a greedy selection over decoded boxes: what its detection array holds.
-/
module

public import proofs.«01_k».proof.Proof.NmsRun
public import proofs.«01_k».proof.Proof.TopK

@[expose] public section

set_option maxRecDepth 16384

noncomputable section

namespace Cert.NmsGreedy

open Idealize.ShloMosaic Idealize.ShloMosaic.TcCoe Cert.NmsStep Cert.NmsRun Cert.Pick Cert.Box
open Cert.KernelIdeal Cert.KernelIdeal.Gen

variable (c : Dev nD) (arg0 : Memref sig .tc .vmem S8x5120 .f32) (harg0 : arg0.IsWhole) (arg1 : Memref sig .tc .vmem S8x5120 .f32) (harg1 : arg1.IsWhole) (arg2 : Memref sig .tc .vmem S8x5120 .f32) (harg2 : arg2.IsWhole) (arg3 : Memref sig .tc .vmem S8x5120 .f32) (harg3 : arg3.IsWhole) (arg4 : Memref sig .tc .vmem S8x5120 .f32) (harg4 : arg4.IsWhole) (arg5 : Memref sig .tc .vmem S8x5120 .f32) (harg5 : arg5.IsWhole) (arg6 : Memref sig .tc .vmem S8x5120 .f32) (harg6 : arg6.IsWhole) (arg7 : Memref sig .tc .vmem S8x5120 .f32) (harg7 : arg7.IsWhole) (arg8 : Memref sig .tc .vmem S8x5120 .f32) (harg8 : arg8.IsWhole) (arg9 : Memref sig .tc .vmem S8x5120 .f32) (harg9 : arg9.IsWhole) (arg10 : Memref sig .tc .vmem S8x1 .f32) (harg10 : arg10.IsWhole) (arg11 : Memref sig .tc .vmem S8x100x6 .f32) (harg11 : arg11.IsWhole)
  (x0 : Vec Ideal S8x5120 .f32) (x1 : Vec Ideal S8x5120 .f32) (x2 : Vec Ideal S8x5120 .f32) (x3 : Vec Ideal S8x5120 .f32) (x4 : Vec Ideal S8x5120 .f32) (x5 : Vec Ideal S8x5120 .f32) (x6 : Vec Ideal S8x5120 .f32) (x7 : Vec Ideal S8x5120 .f32) (x8 : Vec Ideal S8x5120 .f32) (x9 : Vec Ideal S8x5120 .f32) (x10 : Vec Ideal S8x1 .f32)

/-- The boxes the kernel decodes. -/
def kboxes (b : Fin 8) (j : Fin 5120) : Fin 4 → EReal :=
  decode ![x0 (ix2 b j), x1 (ix2 b j), x2 (ix2 b j), x3 (ix2 b j)] ![x4 (ix2 b j), x5 (ix2 b j), x6 (ix2 b j), x7 (ix2 b j)]

theorem planes_decode (b : Fin 8) (j : Fin 5120) :
    boxes (planeY1 x0 x2 x4 x6) (planeX1 x1 x3 x5 x7) (planeY2 x0 x2 x4 x6) (planeX2 x1 x3 x5 x7) b j
      = kboxes x0 x1 x2 x3 x4 x5 x6 x7 b j := by
  have e0 : planeY1 x0 x2 x4 x6 (ix2 b j) = kboxes x0 x1 x2 x3 x4 x5 x6 x7 b j 0 := by
    pointwise [planeY1, k5_pay23, k5_pay20, k5_pay21, k5_pay17, k5_pay13, k5_pay15]
    rfl
  have e1 : planeX1 x1 x3 x5 x7 (ix2 b j) = kboxes x0 x1 x2 x3 x4 x5 x6 x7 b j 1 := by
    pointwise [planeX1, k5_pay24, k5_pay19, k5_pay22, k5_pay18, k5_pay14, k5_pay16]
    rfl
  have e2 : planeY2 x0 x2 x4 x6 (ix2 b j) = kboxes x0 x1 x2 x3 x4 x5 x6 x7 b j 2 := by
    pointwise [planeY2, k5_pay25, k5_pay20, k5_pay21, k5_pay17, k5_pay13, k5_pay15]
    rfl
  have e3 : planeX2 x1 x3 x5 x7 (ix2 b j) = kboxes x0 x1 x2 x3 x4 x5 x6 x7 b j 3 := by
    pointwise [planeX2, k5_pay26, k5_pay19, k5_pay22, k5_pay18, k5_pay14, k5_pay16]
    rfl
  funext l
  fin_cases l
  · exact e0
  · exact e1
  · exact e2
  · exact e3

theorem area_apply (b : Fin 8) (j : Fin 5120) :
    planeArea x0 x1 x2 x3 x4 x5 x6 x7 (ix2 b j)
      = (planeY2 x0 x2 x4 x6 (ix2 b j) - planeY1 x0 x2 x4 x6 (ix2 b j))
        * (planeX2 x1 x3 x5 x7 (ix2 b j) - planeX1 x1 x3 x5 x7 (ix2 b j)) := rfl

theorem start_apply (b : Fin 8) (j : Fin 5120) : k5_pay30 x8 (ix2 b j) = Ideal.logistic (x8 (ix2 b j)) := by
  pointwise [k5_pay30]
  rw [Ideal.logistic, zero_sub]

theorem class_apply (b : Fin 8) (j : Fin 5120) : k5_pay28 x9 (ix2 b j) = x9 (ix2 b j) := by
  pointwise [k5_pay28]

theorem scale_apply (b : Fin 8) : k5_pay29 x10 (ix2 b (0 : Fin 1)) = x10 (ix2 b (0 : Fin 1)) := by
  pointwise [k5_pay29]

/-- The detection array of the kernel's selection, row by row: a greedy selection over its boxes. -/
theorem greedy (b : Fin 8) : ∃ (s : ℕ → Fin 5120 → EReal) (pick : ℕ → Fin 5120),
    Greedy (fun i j => Over (kboxes x0 x1 x2 x3 x4 x5 x6 x7 b i) (kboxes x0 x1 x2 x3 x4 x5 x6 x7 b j))
        (fun j => Ideal.logistic (x8 (ix2 b j))) low 100 s pick
      ∧ ∀ (i : Fin 100) (l : Fin 6), out5_A_11 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 (ix3 b i l)
        = det (kboxes x0 x1 x2 x3 x4 x5 x6 x7 b (pick i.val)) (x10 (ix2 b (0 : Fin 1))) (s i.val (pick i.val)) (x9 (ix2 b (pick i.val))) l := by
  classical
  let S : ℕ → FVec Ideal S8x5120 .f32 := scores (planeY1 x0 x2 x4 x6) (planeX1 x1 x3 x5 x7) (planeY2 x0 x2 x4 x6)
          (planeX2 x1 x3 x5 x7) (planeArea x0 x1 x2 x3 x4 x5 x6 x7) (k5_pay30 x8)
  let pick : ℕ → Fin 5120 := fun t => rank (m := 1) (by norm_num) (fun j => S t (ix2 b j)) 0
  have hpick : ∀ t, FirstMax (fun j => S t (ix2 b j)) (pick t) := fun t => rank_one _ _
  have step : ∀ t j, S (t + 1) (ix2 b j)
      = if Over (kboxes x0 x1 x2 x3 x4 x5 x6 x7 b (pick t)) (kboxes x0 x1 x2 x3 x4 x5 x6 x7 b j) ∨ j = pick t then low
        else S t (ix2 b j) := by
    intro t j
    show stepScores lanes (S t) _ _ _ _ _ (ix2 b j) = _
    rw [stepScores_apply lanes lanes_apply (S t) b (pick t) (hpick t) _ _ _ _ _ (area_apply x0 x1 x2 x3 x4 x5 x6 x7) j,
      planes_decode, planes_decode]
  refine ⟨fun t j => S t (ix2 b j), pick, ⟨fun j => start_apply x8 b j, fun t _ => hpick t, fun t _ j h => ?_, fun t _ j h => ?_⟩, fun i l => ?_⟩
  · show S (t + 1) (ix2 b j) = low
    rw [step, if_pos h]
  · show S (t + 1) (ix2 b j) = _
    rw [step, if_neg h]
  · rw [out_apply]
    rw [stepRow_apply lanes lanes_apply _ b (pick i.val) (hpick i.val), planes_decode, class_apply, scale_apply]

end Cert.NmsGreedy

end
-- ==== Proof.KernelRun.lean ====
/-
  The whole run of the kernel's program: its result array ends at the contents the boundary fold gives it, and
  what that is in the selection region's operands.
-/
module

public import proofs.«01_k».proof.Proof.Gen.KernelIdeal.Frame
public import proofs.«01_k».proof.Proof.NmsGreedy
public import Idealize.ShloMosaic.Lib.Pipeline.ValueKit

@[expose] public section

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel's program ends with the result array at its contents after the last region, every
    argument as launched and every counter at zero. -/
theorem run : θ_run defs (onTc (τ := τ) (main (F := F))) ⟨m, fun _ => 0, ρ⟩ (fun r => (∀ c : Dev nD,
      r.2.mem ((c.tc : Thread nD τ).loc main_v49) = W18 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h hz => ⟨(fun c =>
      ⟨h c _ (mem_uc main_v49 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c)⟩), funext fun g => hz g (.inr (no_unscoped g.2))⟩)

/-- The result array after the last region is what that region's body stores. -/
theorem result (c : Dev nD) : W18 m ρ c (Proc.devRef .tc main_v49) = outsAt5 (V17 m ρ) c t5_0 := by
  refine (W18_arr m ρ c 11).trans ?_
  refine ((dat5 (V17 m ρ) c).arrAt_eq_of_after_last 11 t5_0 (by decide +kernel) _ (fun j => ?_))
  blk_simp
  rw [after5_11]

/-! The selection region has one point, so an operand's block is the whole operand. -/

theorem operand0 (V) (c : Dev nD) : iblk5 (F := F) V c 0 t5_0 = V c main_v41 := by
  funext i
  blk_simp [iblk5]
  have e : win5_0.index t5_0 = ![0, 0] := by decide +kernel
  congr 1
  blk_ext [e]

theorem operand1 (V) (c : Dev nD) : iblk5 (F := F) V c 1 t5_0 = V c main_v43 := by
  funext i
  blk_simp [iblk5]
  have e : win5_1.index t5_0 = ![0, 0] := by decide +kernel
  congr 1
  blk_ext [e]

theorem operand2 (V) (c : Dev nD) : iblk5 (F := F) V c 2 t5_0 = V c main_v45 := by
  funext i
  blk_simp [iblk5]
  have e : win5_2.index t5_0 = ![0, 0] := by decide +kernel
  congr 1
  blk_ext [e]

theorem operand3 (V) (c : Dev nD) : iblk5 (F := F) V c 3 t5_0 = V c main_v47 := by
  funext i
  blk_simp [iblk5]
  have e : win5_3.index t5_0 = ![0, 0] := by decide +kernel
  congr 1
  blk_ext [e]

theorem operand4 (V) (c : Dev nD) : iblk5 (F := F) V c 4 t5_0 = V c main_v22 := by
  funext i
  blk_simp [iblk5]
  have e : win5_4.index t5_0 = ![0, 0] := by decide +kernel
  congr 1
  blk_ext [e]

theorem operand5 (V) (c : Dev nD) : iblk5 (F := F) V c 5 t5_0 = V c main_v24 := by
  funext i
  blk_simp [iblk5]
  have e : win5_5.index t5_0 = ![0, 0] := by decide +kernel
  congr 1
  blk_ext [e]

theorem operand6 (V) (c : Dev nD) : iblk5 (F := F) V c 6 t5_0 = V c main_v26 := by
  funext i
  blk_simp [iblk5]
  have e : win5_6.index t5_0 = ![0, 0] := by decide +kernel
  congr 1
  blk_ext [e]

theorem operand7 (V) (c : Dev nD) : iblk5 (F := F) V c 7 t5_0 = V c main_v28 := by
  funext i
  blk_simp [iblk5]
  have e : win5_7.index t5_0 = ![0, 0] := by decide +kernel
  congr 1
  blk_ext [e]

theorem operand8 (V) (c : Dev nD) : iblk5 (F := F) V c 8 t5_0 = V c main_values := by
  funext i
  blk_simp [iblk5]
  have e : win5_8.index t5_0 = ![0, 0] := by decide +kernel
  congr 1
  blk_ext [e]

theorem operand9 (V) (c : Dev nD) : iblk5 (F := F) V c 9 t5_0 = V c main_v19 := by
  funext i
  blk_simp [iblk5]
  have e : win5_9.index t5_0 = ![0, 0] := by decide +kernel
  congr 1
  blk_ext [e]

theorem operand10 (V) (c : Dev nD) : iblk5 (F := F) V c 10 t5_0 = V c main_v48 := by
  funext i
  blk_simp [iblk5]
  have e : win5_10.index t5_0 = ![0, 0] := by decide +kernel
  congr 1
  blk_ext [e]

end Cert.KernelRun

end
-- ==== Proof.Data.lean ====
/-
  The arguments of the two programs as functions: the logit of an anchor and a class, an anchor's best class, the
  decoded box of an anchor.
-/
module

public import proofs.«01_k».proof.Proof.TopK
public import proofs.«01_k».proof.Proof.Box
public import Idealize.ShloMosaic.Lib.ValueIdx

@[expose] public section

noncomputable section

namespace Cert.Data

open Idealize.ShloMosaic Cert.Pick Cert.Box

/-- Five levels of 4096, 1024, 256, 64 and 16 places one after the other. -/
def cat {α : Type} {R : ℕ} (f0 : Fin 8 → Fin R → Fin 4096 → α) (f1 : Fin 8 → Fin R → Fin 1024 → α) (f2 : Fin 8 → Fin R → Fin 256 → α)
    (f3 : Fin 8 → Fin R → Fin 64 → α) (f4 : Fin 8 → Fin R → Fin 16 → α) (b : Fin 8) (r : Fin R) (p : Fin 5456) : α :=
  if h : p.val < 4096 then f0 b r ⟨p.val, h⟩
  else if h : p.val - 4096 < 1024 then f1 b r ⟨p.val - 4096, h⟩
  else if h : p.val - 4096 - 1024 < 256 then f2 b r ⟨p.val - 4096 - 1024, h⟩
  else if h : p.val - 4096 - 1024 - 256 < 64 then f3 b r ⟨p.val - 4096 - 1024 - 256, h⟩
  else f4 b r ⟨p.val - 4096 - 1024 - 256 - 64, by omega⟩

/-- Row `r` of a level's array of `n` by `n` places, as `N` places. -/
def flat {R n N : ℕ} (hn : 0 < n) (hN : N = n * n) (c : (⟨4, ![8, R, n, n]⟩ : Shape).Idx → EReal) (b : Fin 8) (r : Fin R) (p : Fin N) :
    EReal :=
  c (ix4 b r (⟨p.val / n, Nat.div_lt_of_lt_mul (hN ▸ p.isLt)⟩ : Fin n) (⟨p.val % n, Nat.mod_lt _ hn⟩ : Fin n))

/-- Row `r` of the five levels at place `p` of their 5456 places. -/
def chan {R : ℕ} (c0 : (⟨4, ![8, R, 64, 64]⟩ : Shape).Idx → EReal) (c1 : (⟨4, ![8, R, 32, 32]⟩ : Shape).Idx → EReal)
    (c2 : (⟨4, ![8, R, 16, 16]⟩ : Shape).Idx → EReal) (c3 : (⟨4, ![8, R, 8, 8]⟩ : Shape).Idx → EReal)
    (c4 : (⟨4, ![8, R, 4, 4]⟩ : Shape).Idx → EReal) : Fin 8 → Fin R → Fin 5456 → EReal :=
  cat (flat (by decide) rfl c0) (flat (by decide) rfl c1) (flat (by decide) rfl c2) (flat (by decide) rfl c3)
    (flat (by decide) rfl c4)

/-- Anchor `r` stands at place `r / 9` with shape `r % 9`. -/
def place (r : Fin 49104) : Fin 5456 := ⟨r.val / 9, by omega⟩
def shape (r : Fin 49104) : Fin 9 := ⟨r.val % 9, by omega⟩

/-- The row that holds class `k` of anchor shape `a`. -/
def row (a : Fin 9) (k : Fin 90) : Fin 810 := ⟨a.val * 90 + k.val, by omega⟩
/-- The row that holds offset `l` of anchor shape `a`. -/
def brow (a : Fin 9) (l : Fin 4) : Fin 36 := ⟨a.val * 4 + l.val, by omega⟩

/-- The first class with the largest of ninety logits. -/
def first (l : Fin 90 → EReal) : Fin 90 := rank (by decide : 1 ≤ 90) l 0

theorem first_max (l : Fin 90 → EReal) : FirstMax l (first l) := rank_one (by decide) l

section
variable (L : Fin 810 → Fin 5456 → EReal) (B : Fin 36 → Fin 5456 → EReal) (A : (⟨2, ![49104, 4]⟩ : Shape).Idx → EReal)

/-- The logit of candidate `q`: class `q % 90` of anchor `q / 90`. -/
def key (q : Fin 4419360) : EReal :=
  L (row (shape ⟨q.val / 90, by omega⟩) ⟨q.val % 90, by omega⟩) (place ⟨q.val / 90, by omega⟩)

/-- The best class of anchor `r`, and its logit. -/
def cls (r : Fin 49104) : Fin 90 := first fun k => L (row (shape r) k) (place r)
def top (r : Fin 49104) : EReal := L (row (shape r) (cls L r)) (place r)

/-- The anchor of a candidate and the best candidate of an anchor. -/
def anc (q : Fin 4419360) : Fin 49104 := ⟨q.val / 90, by omega⟩
def bestOf (r : Fin 49104) : Fin 4419360 := ⟨r.val * 90 + (cls L r).val, by omega⟩

/-- The decoded box of anchor `r`. -/
def abox (r : Fin 49104) : Fin 4 → EReal := decode (fun l => B (brow (shape r) l) (place r)) (fun l => A (ix2 r l))

theorem fam : Fam (key L) (top L) anc (bestOf L) where
  anc_best r := by
    apply Fin.ext
    show (r.val * 90 + (cls L r).val) / 90 = r.val
    omega
  key_best r := by
    have e1 : (⟨(bestOf L r).val / 90, by omega⟩ : Fin 49104) = r := by
      apply Fin.ext
      show (r.val * 90 + (cls L r).val) / 90 = r.val
      omega
    have e2 : (⟨(bestOf L r).val % 90, by omega⟩ : Fin 90) = cls L r := by
      apply Fin.ext
      show (r.val * 90 + (cls L r).val) % 90 = (cls L r).val
      omega
    unfold key top
    rw [e1, e2]
  first q hq := by
    have hF := first_max fun k => L (row (shape (anc q)) k) (place (anc q))
    have hk : key L (bestOf L (anc q)) = L (row (shape (anc q)) (cls L (anc q))) (place (anc q)) := by
      have e1 : (⟨(bestOf L (anc q)).val / 90, by omega⟩ : Fin 49104) = anc q := by
        apply Fin.ext
        show ((anc q).val * 90 + (cls L (anc q)).val) / 90 = (anc q).val
        omega
      have e2 : (⟨(bestOf L (anc q)).val % 90, by omega⟩ : Fin 90) = cls L (anc q) := by
        apply Fin.ext
        show ((anc q).val * 90 + (cls L (anc q)).val) % 90 = (cls L (anc q)).val
        omega
      unfold key
      rw [e1, e2]
    have hq' : key L q = L (row (shape (anc q)) ⟨q.val % 90, by omega⟩) (place (anc q)) := rfl
    have hle := hF.1 ⟨q.val % 90, by omega⟩
    have hv : (bestOf L (anc q)).val = q.val / 90 * 90 + (cls L (anc q)).val := rfl
    unfold Before
    rw [hk, hq']
    rcases lt_or_eq_of_le hle with h | h
    · exact .inl h
    · refine .inr ⟨h, ?_⟩
      have hne : q.val ≠ (bestOf L (anc q)).val := fun e => hq (Fin.ext e)
      have : ¬ (⟨q.val % 90, by omega⟩ : Fin 90) < cls L (anc q) := fun hlt => absurd h (ne_of_lt (hF.2 _ hlt))
      have h3 : (cls L (anc q)).val ≤ q.val % 90 := not_lt.mp this
      show (bestOf L (anc q)).val < q.val
      omega
  mono r s h := by
    show r.val * 90 + (cls L r).val < s.val * 90 + (cls L s).val
    have : r.val < s.val := h
    omega

end

end Cert.Data

end
-- ==== Proof.ClassMax.lean ====
/-
  The class-maximum regions: at each level every anchor is left with its best logit over the ninety classes and
  the first class that has it.
-/
module

public import proofs.«01_k».proof.Proof.Gen.KernelIdeal.Frame
public import proofs.«01_k».proof.Proof.Data
public import proofs.«01_k».proof.Proof.Folds
public import Idealize.ShloMosaic.Lib.Pointwise
public import Idealize.ShloMosaic.Lib.Pipeline.ValueKit

@[expose] public section

set_option maxRecDepth 16384

noncomputable section

namespace Cert.ClassMax

open Idealize.ShloMosaic Idealize.ShloMosaic.TcCoe Cert.Pick Cert.Folds Cert.Data
open Cert.KernelIdeal Cert.KernelIdeal.Gen

theorem le_first (l : Fin 90 → EReal) (k : Fin 90) : l k ≤ l (first l) := (rank_one (by decide) l).1 k

theorem pay0_max (x : Vec Ideal S1x810x1024 .f32) (a : Fin 9) (q : Fin 1024) :
    k0_pay3 x (ix3 (0 : Fin 1) a q) = x (ix3 0 (row a (first fun k => x (ix3 0 (row a k) q))) q) := by
  pointwise [k0_pay3, k0_pay2, k0_pay1]
  exact fold_max (fun k => x (ix3 0 (row a k) q)) _ (le_first _)

theorem pay0_arg (x : Vec Ideal S1x810x1024 .f32) (a : Fin 9) (q : Fin 1024) :
    k0_pay4 x (ix3 (0 : Fin 1) a q) = BitVec.ofNat 32 (first fun k => x (ix3 0 (row a k) q)).val := by
  pointwise [k0_pay4, k0_pay2, k0_pay1]
  have e := fold_max (fun k => x (ix3 0 (row a k) q)) _ (le_first _)
  refine Eq.trans ?_ (fold_first (by decide) (fun k => x (ix3 0 (row a k) q)) _ (rank_one (by decide) _)
    2147483647#32 90#32 (by decide) (by decide))
  rw [← show _ = x (ix3 0 (row a (rank (by decide : 1 ≤ 90) (fun k => x (ix3 0 (row a k) q)) 0)) q) from e]
  rfl

theorem pay1_max (x : Vec Ideal S1x810x1024 .f32) (a : Fin 9) (q : Fin 1024) :
    k1_pay3 x (ix3 (0 : Fin 1) a q) = x (ix3 0 (row a (first fun k => x (ix3 0 (row a k) q))) q) := by
  pointwise [k1_pay3, k1_pay2, k1_pay1]
  exact fold_max (fun k => x (ix3 0 (row a k) q)) _ (le_first _)

theorem pay1_arg (x : Vec Ideal S1x810x1024 .f32) (a : Fin 9) (q : Fin 1024) :
    k1_pay4 x (ix3 (0 : Fin 1) a q) = BitVec.ofNat 32 (first fun k => x (ix3 0 (row a k) q)).val := by
  pointwise [k1_pay4, k1_pay2, k1_pay1]
  have e := fold_max (fun k => x (ix3 0 (row a k) q)) _ (le_first _)
  refine Eq.trans ?_ (fold_first (by decide) (fun k => x (ix3 0 (row a k) q)) _ (rank_one (by decide) _)
    2147483647#32 90#32 (by decide) (by decide))
  rw [← show _ = x (ix3 0 (row a (rank (by decide : 1 ≤ 90) (fun k => x (ix3 0 (row a k) q)) 0)) q) from e]
  rfl

theorem pay2_max (x : Vec Ideal S1x810x256 .f32) (a : Fin 9) (q : Fin 256) :
    k2_pay3 x (ix3 (0 : Fin 1) a q) = x (ix3 0 (row a (first fun k => x (ix3 0 (row a k) q))) q) := by
  pointwise [k2_pay3, k2_pay2, k2_pay1]
  exact fold_max (fun k => x (ix3 0 (row a k) q)) _ (le_first _)

theorem pay2_arg (x : Vec Ideal S1x810x256 .f32) (a : Fin 9) (q : Fin 256) :
    k2_pay4 x (ix3 (0 : Fin 1) a q) = BitVec.ofNat 32 (first fun k => x (ix3 0 (row a k) q)).val := by
  pointwise [k2_pay4, k2_pay2, k2_pay1]
  have e := fold_max (fun k => x (ix3 0 (row a k) q)) _ (le_first _)
  refine Eq.trans ?_ (fold_first (by decide) (fun k => x (ix3 0 (row a k) q)) _ (rank_one (by decide) _)
    2147483647#32 90#32 (by decide) (by decide))
  rw [← show _ = x (ix3 0 (row a (rank (by decide : 1 ≤ 90) (fun k => x (ix3 0 (row a k) q)) 0)) q) from e]
  rfl

theorem pay3_max (x : Vec Ideal S1x810x64 .f32) (a : Fin 9) (q : Fin 64) :
    k3_pay3 x (ix3 (0 : Fin 1) a q) = x (ix3 0 (row a (first fun k => x (ix3 0 (row a k) q))) q) := by
  pointwise [k3_pay3, k3_pay2, k3_pay1]
  exact fold_max (fun k => x (ix3 0 (row a k) q)) _ (le_first _)

theorem pay3_arg (x : Vec Ideal S1x810x64 .f32) (a : Fin 9) (q : Fin 64) :
    k3_pay4 x (ix3 (0 : Fin 1) a q) = BitVec.ofNat 32 (first fun k => x (ix3 0 (row a k) q)).val := by
  pointwise [k3_pay4, k3_pay2, k3_pay1]
  have e := fold_max (fun k => x (ix3 0 (row a k) q)) _ (le_first _)
  refine Eq.trans ?_ (fold_first (by decide) (fun k => x (ix3 0 (row a k) q)) _ (rank_one (by decide) _)
    2147483647#32 90#32 (by decide) (by decide))
  rw [← show _ = x (ix3 0 (row a (rank (by decide : 1 ≤ 90) (fun k => x (ix3 0 (row a k) q)) 0)) q) from e]
  rfl

theorem pay4_max (x : Vec Ideal S1x810x16 .f32) (a : Fin 9) (q : Fin 16) :
    k4_pay3 x (ix3 (0 : Fin 1) a q) = x (ix3 0 (row a (first fun k => x (ix3 0 (row a k) q))) q) := by
  pointwise [k4_pay3, k4_pay2, k4_pay1]
  exact fold_max (fun k => x (ix3 0 (row a k) q)) _ (le_first _)

theorem pay4_arg (x : Vec Ideal S1x810x16 .f32) (a : Fin 9) (q : Fin 16) :
    k4_pay4 x (ix3 (0 : Fin 1) a q) = BitVec.ofNat 32 (first fun k => x (ix3 0 (row a k) q)).val := by
  pointwise [k4_pay4, k4_pay2, k4_pay1]
  have e := fold_max (fun k => x (ix3 0 (row a k) q)) _ (le_first _)
  refine Eq.trans ?_ (fold_first (by decide) (fun k => x (ix3 0 (row a k) q)) _ (rank_one (by decide) _)
    2147483647#32 90#32 (by decide) (by decide))
  rw [← show _ = x (ix3 0 (row a (rank (by decide : 1 ≤ 90) (fun k => x (ix3 0 (row a k) q)) 0)) q) from e]
  rfl

/-- The best logit of anchor shape `a` at place `p`. -/
def lvlMax {n : ℕ} (f : Fin 8 → Fin 810 → Fin n → EReal) (b : Fin 8) (a : Fin 9) (p : Fin n) : EReal :=
  f b (row a (first fun k => f b (row a k) p)) p

/-- Its class. -/
def lvlArg {n : ℕ} (f : Fin 8 → Fin 810 → Fin n → EReal) (b : Fin 8) (a : Fin 9) (p : Fin n) : Fin 90 :=
  first fun k => f b (row a k) p

/-! ### Level 0 -/

theorem index0_0 : ∀ t : Fin cfg0.N, win0_0.index t = ![(grid0.coords t 0).val, 0, (grid0.coords t 1).val] := by
  decide +kernel

theorem index0_1 : ∀ t : Fin cfg0.N, win0_1.index t = ![(grid0.coords t 0).val, 0, (grid0.coords t 1).val] := by
  decide +kernel

theorem index0_2 : ∀ t : Fin cfg0.N, win0_2.index t = ![(grid0.coords t 0).val, 0, (grid0.coords t 1).val] := by
  decide +kernel

/-- What level 0 leaves in its maxima, of the level's logits `X`. -/
def max0 (X : S8x810x4096.Idx → EReal) : Vec Ideal S8x9x4096 .f32 := fun i =>
  lvlMax (fun b r p => X (ix3 b r p)) (i 0) (i 1) (i 2)

theorem final0_max (V) (c : Dev nD) : (dat0 (F := Ideal) V c).arrAt 1 cfg0.N = max0 (V c main_v0) := by
  refine (dat0 V c).arrAt_eq_of_covers 1 _ (by decide +kernel) fun t _ y => ?_
  blk_simp
  rw [after0_1]
  frame_out
  have e0 := index0_0 t
  have e1 := index0_1 t
  have h0 : (grid0.coords t 0).val < 8 := (grid0.coords t 0).isLt
  have h1 : (grid0.coords t 1).val < 4 := (grid0.coords t 1).isLt
  obtain ⟨z, a, q, rfl⟩ : ∃ (z : Fin 1) (a : Fin 9) (q : Fin 1024), y = ix3 z a q := ⟨y 0, y 1, y 2, by funext k; fin_cases k <;> rfl⟩
  obtain rfl : z = 0 := Subsingleton.elim _ _
  have hin : ∀ r : Fin 810, iblk0 V c 0 t (ix3 (0 : Fin 1) r q)
      = V c main_v0 (ix3 (⟨(grid0.coords t 0).val, h0⟩ : Fin 8) r (⟨(grid0.coords t 1).val * 1024 + q.val, by omega⟩ : Fin 4096)) := by
    intro r
    blk_simp [iblk0]
    congr 1
    blk_ext [e0]
  have ho : ((View.whole main_v1_0).slice (win0_1.rect t)).emb (ix3 (0 : Fin 1) a q)
      = ix3 (⟨(grid0.coords t 0).val, h0⟩ : Fin 8) a (⟨(grid0.coords t 1).val * 1024 + q.val, by omega⟩ : Fin 4096) := by
    blk_ext [e1]
  rw [ho]
  refine (pay0_max _ a q).trans ?_
  simp only [hin]
  rfl

/-- What level 0 leaves in its classes, of the level's logits `X`. -/
def arg0 (X : S8x810x4096.Idx → EReal) : Vec Ideal S8x9x4096 .i32 := fun i =>
  BitVec.ofNat 32 (lvlArg (fun b r p => X (ix3 b r p)) (i 0) (i 1) (i 2)).val

theorem final0_arg (V) (c : Dev nD) : (dat0 (F := Ideal) V c).arrAt 2 cfg0.N = arg0 (V c main_v0) := by
  refine (dat0 V c).arrAt_eq_of_covers 2 _ (by decide +kernel) fun t _ y => ?_
  blk_simp
  rw [after0_2]
  frame_out
  have e0 := index0_0 t
  have e1 := index0_2 t
  have h0 : (grid0.coords t 0).val < 8 := (grid0.coords t 0).isLt
  have h1 : (grid0.coords t 1).val < 4 := (grid0.coords t 1).isLt
  obtain ⟨z, a, q, rfl⟩ : ∃ (z : Fin 1) (a : Fin 9) (q : Fin 1024), y = ix3 z a q := ⟨y 0, y 1, y 2, by funext k; fin_cases k <;> rfl⟩
  obtain rfl : z = 0 := Subsingleton.elim _ _
  have hin : ∀ r : Fin 810, iblk0 V c 0 t (ix3 (0 : Fin 1) r q)
      = V c main_v0 (ix3 (⟨(grid0.coords t 0).val, h0⟩ : Fin 8) r (⟨(grid0.coords t 1).val * 1024 + q.val, by omega⟩ : Fin 4096)) := by
    intro r
    blk_simp [iblk0]
    congr 1
    blk_ext [e0]
  have ho : ((View.whole main_v1_1).slice (win0_2.rect t)).emb (ix3 (0 : Fin 1) a q)
      = ix3 (⟨(grid0.coords t 0).val, h0⟩ : Fin 8) a (⟨(grid0.coords t 1).val * 1024 + q.val, by omega⟩ : Fin 4096) := by
    blk_ext [e1]
  rw [ho]
  refine (pay0_arg _ a q).trans ?_
  simp only [hin]
  rfl

/-! ### Level 1 -/

theorem index1_0 : ∀ t : Fin cfg1.N, win1_0.index t = ![(grid1.coords t 0).val, 0, (grid1.coords t 1).val] := by
  decide +kernel

theorem index1_1 : ∀ t : Fin cfg1.N, win1_1.index t = ![(grid1.coords t 0).val, 0, (grid1.coords t 1).val] := by
  decide +kernel

theorem index1_2 : ∀ t : Fin cfg1.N, win1_2.index t = ![(grid1.coords t 0).val, 0, (grid1.coords t 1).val] := by
  decide +kernel

/-- What level 1 leaves in its maxima, of the level's logits `X`. -/
def max1 (X : S8x810x1024.Idx → EReal) : Vec Ideal S8x9x1024 .f32 := fun i =>
  lvlMax (fun b r p => X (ix3 b r p)) (i 0) (i 1) (i 2)

theorem final1_max (V) (c : Dev nD) : (dat1 (F := Ideal) V c).arrAt 1 cfg1.N = max1 (V c main_v2) := by
  refine (dat1 V c).arrAt_eq_of_covers 1 _ (by decide +kernel) fun t _ y => ?_
  blk_simp
  rw [after1_1]
  frame_out
  have e0 := index1_0 t
  have e1 := index1_1 t
  have h0 : (grid1.coords t 0).val < 8 := (grid1.coords t 0).isLt
  have h1 : (grid1.coords t 1).val < 1 := (grid1.coords t 1).isLt
  obtain ⟨z, a, q, rfl⟩ : ∃ (z : Fin 1) (a : Fin 9) (q : Fin 1024), y = ix3 z a q := ⟨y 0, y 1, y 2, by funext k; fin_cases k <;> rfl⟩
  obtain rfl : z = 0 := Subsingleton.elim _ _
  have hin : ∀ r : Fin 810, iblk1 V c 0 t (ix3 (0 : Fin 1) r q)
      = V c main_v2 (ix3 (⟨(grid1.coords t 0).val, h0⟩ : Fin 8) r (⟨(grid1.coords t 1).val * 1024 + q.val, by omega⟩ : Fin 1024)) := by
    intro r
    blk_simp [iblk1]
    congr 1
    blk_ext [e0]
  have ho : ((View.whole main_v3_0).slice (win1_1.rect t)).emb (ix3 (0 : Fin 1) a q)
      = ix3 (⟨(grid1.coords t 0).val, h0⟩ : Fin 8) a (⟨(grid1.coords t 1).val * 1024 + q.val, by omega⟩ : Fin 1024) := by
    blk_ext [e1]
  rw [ho]
  refine (pay1_max _ a q).trans ?_
  simp only [hin]
  rfl

/-- What level 1 leaves in its classes, of the level's logits `X`. -/
def arg1 (X : S8x810x1024.Idx → EReal) : Vec Ideal S8x9x1024 .i32 := fun i =>
  BitVec.ofNat 32 (lvlArg (fun b r p => X (ix3 b r p)) (i 0) (i 1) (i 2)).val

theorem final1_arg (V) (c : Dev nD) : (dat1 (F := Ideal) V c).arrAt 2 cfg1.N = arg1 (V c main_v2) := by
  refine (dat1 V c).arrAt_eq_of_covers 2 _ (by decide +kernel) fun t _ y => ?_
  blk_simp
  rw [after1_2]
  frame_out
  have e0 := index1_0 t
  have e1 := index1_2 t
  have h0 : (grid1.coords t 0).val < 8 := (grid1.coords t 0).isLt
  have h1 : (grid1.coords t 1).val < 1 := (grid1.coords t 1).isLt
  obtain ⟨z, a, q, rfl⟩ : ∃ (z : Fin 1) (a : Fin 9) (q : Fin 1024), y = ix3 z a q := ⟨y 0, y 1, y 2, by funext k; fin_cases k <;> rfl⟩
  obtain rfl : z = 0 := Subsingleton.elim _ _
  have hin : ∀ r : Fin 810, iblk1 V c 0 t (ix3 (0 : Fin 1) r q)
      = V c main_v2 (ix3 (⟨(grid1.coords t 0).val, h0⟩ : Fin 8) r (⟨(grid1.coords t 1).val * 1024 + q.val, by omega⟩ : Fin 1024)) := by
    intro r
    blk_simp [iblk1]
    congr 1
    blk_ext [e0]
  have ho : ((View.whole main_v3_1).slice (win1_2.rect t)).emb (ix3 (0 : Fin 1) a q)
      = ix3 (⟨(grid1.coords t 0).val, h0⟩ : Fin 8) a (⟨(grid1.coords t 1).val * 1024 + q.val, by omega⟩ : Fin 1024) := by
    blk_ext [e1]
  rw [ho]
  refine (pay1_arg _ a q).trans ?_
  simp only [hin]
  rfl

/-! ### Level 2 -/

theorem index2_0 : ∀ t : Fin cfg2.N, win2_0.index t = ![(grid2.coords t 0).val, 0, (grid2.coords t 1).val] := by
  decide +kernel

theorem index2_1 : ∀ t : Fin cfg2.N, win2_1.index t = ![(grid2.coords t 0).val, 0, (grid2.coords t 1).val] := by
  decide +kernel

theorem index2_2 : ∀ t : Fin cfg2.N, win2_2.index t = ![(grid2.coords t 0).val, 0, (grid2.coords t 1).val] := by
  decide +kernel

/-- What level 2 leaves in its maxima, of the level's logits `X`. -/
def max2 (X : S8x810x256.Idx → EReal) : Vec Ideal S8x9x256 .f32 := fun i =>
  lvlMax (fun b r p => X (ix3 b r p)) (i 0) (i 1) (i 2)

theorem final2_max (V) (c : Dev nD) : (dat2 (F := Ideal) V c).arrAt 1 cfg2.N = max2 (V c main_v4) := by
  refine (dat2 V c).arrAt_eq_of_covers 1 _ (by decide +kernel) fun t _ y => ?_
  blk_simp
  rw [after2_1]
  frame_out
  have e0 := index2_0 t
  have e1 := index2_1 t
  have h0 : (grid2.coords t 0).val < 8 := (grid2.coords t 0).isLt
  have h1 : (grid2.coords t 1).val < 1 := (grid2.coords t 1).isLt
  obtain ⟨z, a, q, rfl⟩ : ∃ (z : Fin 1) (a : Fin 9) (q : Fin 256), y = ix3 z a q := ⟨y 0, y 1, y 2, by funext k; fin_cases k <;> rfl⟩
  obtain rfl : z = 0 := Subsingleton.elim _ _
  have hin : ∀ r : Fin 810, iblk2 V c 0 t (ix3 (0 : Fin 1) r q)
      = V c main_v4 (ix3 (⟨(grid2.coords t 0).val, h0⟩ : Fin 8) r (⟨(grid2.coords t 1).val * 256 + q.val, by omega⟩ : Fin 256)) := by
    intro r
    blk_simp [iblk2]
    congr 1
    blk_ext [e0]
  have ho : ((View.whole main_v5_0).slice (win2_1.rect t)).emb (ix3 (0 : Fin 1) a q)
      = ix3 (⟨(grid2.coords t 0).val, h0⟩ : Fin 8) a (⟨(grid2.coords t 1).val * 256 + q.val, by omega⟩ : Fin 256) := by
    blk_ext [e1]
  rw [ho]
  refine (pay2_max _ a q).trans ?_
  simp only [hin]
  rfl

/-- What level 2 leaves in its classes, of the level's logits `X`. -/
def arg2 (X : S8x810x256.Idx → EReal) : Vec Ideal S8x9x256 .i32 := fun i =>
  BitVec.ofNat 32 (lvlArg (fun b r p => X (ix3 b r p)) (i 0) (i 1) (i 2)).val

theorem final2_arg (V) (c : Dev nD) : (dat2 (F := Ideal) V c).arrAt 2 cfg2.N = arg2 (V c main_v4) := by
  refine (dat2 V c).arrAt_eq_of_covers 2 _ (by decide +kernel) fun t _ y => ?_
  blk_simp
  rw [after2_2]
  frame_out
  have e0 := index2_0 t
  have e1 := index2_2 t
  have h0 : (grid2.coords t 0).val < 8 := (grid2.coords t 0).isLt
  have h1 : (grid2.coords t 1).val < 1 := (grid2.coords t 1).isLt
  obtain ⟨z, a, q, rfl⟩ : ∃ (z : Fin 1) (a : Fin 9) (q : Fin 256), y = ix3 z a q := ⟨y 0, y 1, y 2, by funext k; fin_cases k <;> rfl⟩
  obtain rfl : z = 0 := Subsingleton.elim _ _
  have hin : ∀ r : Fin 810, iblk2 V c 0 t (ix3 (0 : Fin 1) r q)
      = V c main_v4 (ix3 (⟨(grid2.coords t 0).val, h0⟩ : Fin 8) r (⟨(grid2.coords t 1).val * 256 + q.val, by omega⟩ : Fin 256)) := by
    intro r
    blk_simp [iblk2]
    congr 1
    blk_ext [e0]
  have ho : ((View.whole main_v5_1).slice (win2_2.rect t)).emb (ix3 (0 : Fin 1) a q)
      = ix3 (⟨(grid2.coords t 0).val, h0⟩ : Fin 8) a (⟨(grid2.coords t 1).val * 256 + q.val, by omega⟩ : Fin 256) := by
    blk_ext [e1]
  rw [ho]
  refine (pay2_arg _ a q).trans ?_
  simp only [hin]
  rfl

/-! ### Level 3 -/

theorem index3_0 : ∀ t : Fin cfg3.N, win3_0.index t = ![(grid3.coords t 0).val, 0, (grid3.coords t 1).val] := by
  decide +kernel

theorem index3_1 : ∀ t : Fin cfg3.N, win3_1.index t = ![(grid3.coords t 0).val, 0, (grid3.coords t 1).val] := by
  decide +kernel

theorem index3_2 : ∀ t : Fin cfg3.N, win3_2.index t = ![(grid3.coords t 0).val, 0, (grid3.coords t 1).val] := by
  decide +kernel

/-- What level 3 leaves in its maxima, of the level's logits `X`. -/
def max3 (X : S8x810x64.Idx → EReal) : Vec Ideal S8x9x64 .f32 := fun i =>
  lvlMax (fun b r p => X (ix3 b r p)) (i 0) (i 1) (i 2)

theorem final3_max (V) (c : Dev nD) : (dat3 (F := Ideal) V c).arrAt 1 cfg3.N = max3 (V c main_v6) := by
  refine (dat3 V c).arrAt_eq_of_covers 1 _ (by decide +kernel) fun t _ y => ?_
  blk_simp
  rw [after3_1]
  frame_out
  have e0 := index3_0 t
  have e1 := index3_1 t
  have h0 : (grid3.coords t 0).val < 8 := (grid3.coords t 0).isLt
  have h1 : (grid3.coords t 1).val < 1 := (grid3.coords t 1).isLt
  obtain ⟨z, a, q, rfl⟩ : ∃ (z : Fin 1) (a : Fin 9) (q : Fin 64), y = ix3 z a q := ⟨y 0, y 1, y 2, by funext k; fin_cases k <;> rfl⟩
  obtain rfl : z = 0 := Subsingleton.elim _ _
  have hin : ∀ r : Fin 810, iblk3 V c 0 t (ix3 (0 : Fin 1) r q)
      = V c main_v6 (ix3 (⟨(grid3.coords t 0).val, h0⟩ : Fin 8) r (⟨(grid3.coords t 1).val * 64 + q.val, by omega⟩ : Fin 64)) := by
    intro r
    blk_simp [iblk3]
    congr 1
    blk_ext [e0]
  have ho : ((View.whole main_v7_0).slice (win3_1.rect t)).emb (ix3 (0 : Fin 1) a q)
      = ix3 (⟨(grid3.coords t 0).val, h0⟩ : Fin 8) a (⟨(grid3.coords t 1).val * 64 + q.val, by omega⟩ : Fin 64) := by
    blk_ext [e1]
  rw [ho]
  refine (pay3_max _ a q).trans ?_
  simp only [hin]
  rfl

/-- What level 3 leaves in its classes, of the level's logits `X`. -/
def arg3 (X : S8x810x64.Idx → EReal) : Vec Ideal S8x9x64 .i32 := fun i =>
  BitVec.ofNat 32 (lvlArg (fun b r p => X (ix3 b r p)) (i 0) (i 1) (i 2)).val

theorem final3_arg (V) (c : Dev nD) : (dat3 (F := Ideal) V c).arrAt 2 cfg3.N = arg3 (V c main_v6) := by
  refine (dat3 V c).arrAt_eq_of_covers 2 _ (by decide +kernel) fun t _ y => ?_
  blk_simp
  rw [after3_2]
  frame_out
  have e0 := index3_0 t
  have e1 := index3_2 t
  have h0 : (grid3.coords t 0).val < 8 := (grid3.coords t 0).isLt
  have h1 : (grid3.coords t 1).val < 1 := (grid3.coords t 1).isLt
  obtain ⟨z, a, q, rfl⟩ : ∃ (z : Fin 1) (a : Fin 9) (q : Fin 64), y = ix3 z a q := ⟨y 0, y 1, y 2, by funext k; fin_cases k <;> rfl⟩
  obtain rfl : z = 0 := Subsingleton.elim _ _
  have hin : ∀ r : Fin 810, iblk3 V c 0 t (ix3 (0 : Fin 1) r q)
      = V c main_v6 (ix3 (⟨(grid3.coords t 0).val, h0⟩ : Fin 8) r (⟨(grid3.coords t 1).val * 64 + q.val, by omega⟩ : Fin 64)) := by
    intro r
    blk_simp [iblk3]
    congr 1
    blk_ext [e0]
  have ho : ((View.whole main_v7_1).slice (win3_2.rect t)).emb (ix3 (0 : Fin 1) a q)
      = ix3 (⟨(grid3.coords t 0).val, h0⟩ : Fin 8) a (⟨(grid3.coords t 1).val * 64 + q.val, by omega⟩ : Fin 64) := by
    blk_ext [e1]
  rw [ho]
  refine (pay3_arg _ a q).trans ?_
  simp only [hin]
  rfl

/-! ### Level 4 -/

theorem index4_0 : ∀ t : Fin cfg4.N, win4_0.index t = ![(grid4.coords t 0).val, 0, (grid4.coords t 1).val] := by
  decide +kernel

theorem index4_1 : ∀ t : Fin cfg4.N, win4_1.index t = ![(grid4.coords t 0).val, 0, (grid4.coords t 1).val] := by
  decide +kernel

theorem index4_2 : ∀ t : Fin cfg4.N, win4_2.index t = ![(grid4.coords t 0).val, 0, (grid4.coords t 1).val] := by
  decide +kernel

/-- What level 4 leaves in its maxima, of the level's logits `X`. -/
def max4 (X : S8x810x16.Idx → EReal) : Vec Ideal S8x9x16 .f32 := fun i =>
  lvlMax (fun b r p => X (ix3 b r p)) (i 0) (i 1) (i 2)

theorem final4_max (V) (c : Dev nD) : (dat4 (F := Ideal) V c).arrAt 1 cfg4.N = max4 (V c main_v8) := by
  refine (dat4 V c).arrAt_eq_of_covers 1 _ (by decide +kernel) fun t _ y => ?_
  blk_simp
  rw [after4_1]
  frame_out
  have e0 := index4_0 t
  have e1 := index4_1 t
  have h0 : (grid4.coords t 0).val < 8 := (grid4.coords t 0).isLt
  have h1 : (grid4.coords t 1).val < 1 := (grid4.coords t 1).isLt
  obtain ⟨z, a, q, rfl⟩ : ∃ (z : Fin 1) (a : Fin 9) (q : Fin 16), y = ix3 z a q := ⟨y 0, y 1, y 2, by funext k; fin_cases k <;> rfl⟩
  obtain rfl : z = 0 := Subsingleton.elim _ _
  have hin : ∀ r : Fin 810, iblk4 V c 0 t (ix3 (0 : Fin 1) r q)
      = V c main_v8 (ix3 (⟨(grid4.coords t 0).val, h0⟩ : Fin 8) r (⟨(grid4.coords t 1).val * 16 + q.val, by omega⟩ : Fin 16)) := by
    intro r
    blk_simp [iblk4]
    congr 1
    blk_ext [e0]
  have ho : ((View.whole main_v9_0).slice (win4_1.rect t)).emb (ix3 (0 : Fin 1) a q)
      = ix3 (⟨(grid4.coords t 0).val, h0⟩ : Fin 8) a (⟨(grid4.coords t 1).val * 16 + q.val, by omega⟩ : Fin 16) := by
    blk_ext [e1]
  rw [ho]
  refine (pay4_max _ a q).trans ?_
  simp only [hin]
  rfl

/-- What level 4 leaves in its classes, of the level's logits `X`. -/
def arg4 (X : S8x810x16.Idx → EReal) : Vec Ideal S8x9x16 .i32 := fun i =>
  BitVec.ofNat 32 (lvlArg (fun b r p => X (ix3 b r p)) (i 0) (i 1) (i 2)).val

theorem final4_arg (V) (c : Dev nD) : (dat4 (F := Ideal) V c).arrAt 2 cfg4.N = arg4 (V c main_v8) := by
  refine (dat4 V c).arrAt_eq_of_covers 2 _ (by decide +kernel) fun t _ y => ?_
  blk_simp
  rw [after4_2]
  frame_out
  have e0 := index4_0 t
  have e1 := index4_2 t
  have h0 : (grid4.coords t 0).val < 8 := (grid4.coords t 0).isLt
  have h1 : (grid4.coords t 1).val < 1 := (grid4.coords t 1).isLt
  obtain ⟨z, a, q, rfl⟩ : ∃ (z : Fin 1) (a : Fin 9) (q : Fin 16), y = ix3 z a q := ⟨y 0, y 1, y 2, by funext k; fin_cases k <;> rfl⟩
  obtain rfl : z = 0 := Subsingleton.elim _ _
  have hin : ∀ r : Fin 810, iblk4 V c 0 t (ix3 (0 : Fin 1) r q)
      = V c main_v8 (ix3 (⟨(grid4.coords t 0).val, h0⟩ : Fin 8) r (⟨(grid4.coords t 1).val * 16 + q.val, by omega⟩ : Fin 16)) := by
    intro r
    blk_simp [iblk4]
    congr 1
    blk_ext [e0]
  have ho : ((View.whole main_v9_1).slice (win4_2.rect t)).emb (ix3 (0 : Fin 1) a q)
      = ix3 (⟨(grid4.coords t 0).val, h0⟩ : Fin 8) a (⟨(grid4.coords t 1).val * 16 + q.val, by omega⟩ : Fin 16) := by
    blk_ext [e1]
  rw [ho]
  refine (pay4_arg _ a q).trans ?_
  simp only [hin]
  rfl

end Cert.ClassMax

end
-- ==== Proof.Gather.lean ====
/-
  The four gathers of the two programs read at one index, each start index in range.
-/
module

public import Idealize.ShloMosaic.Lib.Pointwise
public import Idealize.ShloMosaic.PureOps

@[expose] public section

noncomputable section

namespace Cert.Gather

open Idealize.ShloMosaic

variable {α : Type}

theorem clamp {x : Int} {n N : ℕ} (hx : x = n) (hn : n < N) : min x.toNat (N - 1) = n := by omega

/-- One entry per row. -/
abbrev dims1 (N K : ℕ) (wf : GatherDims.WF ⟨2, ![8, N]⟩ ⟨3, ![8, K, 1]⟩ ⟨2, ![8, K]⟩ [] [1] [0] [1] [0] 2 ![1, 1]) :
    GatherDims ⟨2, ![8, N]⟩ ⟨3, ![8, K, 1]⟩ ⟨2, ![8, K]⟩ where
  offsetDims := []
  collapsedSliceDims := [1]
  operandBatchingDims := [0]
  startIndicesBatchingDims := [0]
  startIndexMap := [1]
  indexVectorDim := 2
  sliceSizes := ![1, 1]
  wf := wf

theorem gather1 {N K : ℕ} (wf) (x : (⟨2, ![8, N]⟩ : Shape).Idx → α) (idx : IVec ⟨3, ![8, K, 1]⟩ 32) (b : Fin 8) (j : Fin K)
    (n : Fin N) (hn : (idx (ix3 b j (0 : Fin 1))).toInt = n.val) : Host.gather (dims1 N K wf) x idx (ix2 b j) = x (ix2 b n) := by
  unfold Host.gather
  congr 1
  funext a
  refine Fin.ext ?_
  show (dims1 N K wf).start _ idx a + (dims1 N K wf).batchCoord _ a + (dims1 N K wf).offCoord _ a = _
  fin_cases a
  · show 0 + b.val + 0 = b.val
    omega
  · have e : (dims1 N K wf).siIdx (ix2 b j) ⟨0, Nat.one_pos⟩ = ix3 b j (0 : Fin 1) := by
      funext k; refine Fin.ext ?_
      fin_cases k <;> rfl
    show min (idx ((dims1 N K wf).siIdx (ix2 b j) ⟨0, Nat.one_pos⟩)).toInt.toNat (N - 1) + 0 + 0 = n.val
    rw [e, clamp hn n.isLt]; omega

/-- One row of a table. -/
abbrev dims2 (N K : ℕ) (wf : GatherDims.WF ⟨2, ![N, 4]⟩ ⟨3, ![8, K, 1]⟩ ⟨3, ![8, K, 4]⟩ [2] [0] [] [0] [] 2 ![1, 4]) :
    GatherDims ⟨2, ![N, 4]⟩ ⟨3, ![8, K, 1]⟩ ⟨3, ![8, K, 4]⟩ where
  offsetDims := [2]
  collapsedSliceDims := [0]
  operandBatchingDims := []
  startIndicesBatchingDims := []
  startIndexMap := [0]
  indexVectorDim := 2
  sliceSizes := ![1, 4]
  wf := wf

theorem gather2 {N K : ℕ} (wf) (x : (⟨2, ![N, 4]⟩ : Shape).Idx → α) (idx : IVec ⟨3, ![8, K, 1]⟩ 32) (b : Fin 8) (j : Fin K) (l : Fin 4)
    (n : Fin N) (hn : (idx (ix3 b j (0 : Fin 1))).toInt = n.val) : Host.gather (dims2 N K wf) x idx (ix3 b j l) = x (ix2 n l) := by
  unfold Host.gather
  congr 1
  funext a
  refine Fin.ext ?_
  show (dims2 N K wf).start _ idx a + (dims2 N K wf).batchCoord _ a + (dims2 N K wf).offCoord _ a = _
  fin_cases a
  · have e : (dims2 N K wf).siIdx (ix3 b j l) ⟨0, Nat.one_pos⟩ = ix3 b j (0 : Fin 1) := by
      funext k; refine Fin.ext ?_
      fin_cases k <;> rfl
    show min (idx ((dims2 N K wf).siIdx (ix3 b j l) ⟨0, Nat.one_pos⟩)).toInt.toNat (N - 1) + 0 + 0 = n.val
    rw [e, clamp hn n.isLt]; omega
  · show 0 + 0 + l.val = l.val
    omega

/-- One column of four rows. -/
abbrev dims3 (N K : ℕ) (wf : GatherDims.WF ⟨3, ![8, 4, N]⟩ ⟨3, ![8, K, 1]⟩ ⟨3, ![8, 4, K]⟩ [1] [2] [0] [2] [0] 2 ![1, 4, 1]) :
    GatherDims ⟨3, ![8, 4, N]⟩ ⟨3, ![8, K, 1]⟩ ⟨3, ![8, 4, K]⟩ where
  offsetDims := [1]
  collapsedSliceDims := [2]
  operandBatchingDims := [0]
  startIndicesBatchingDims := [0]
  startIndexMap := [2]
  indexVectorDim := 2
  sliceSizes := ![1, 4, 1]
  wf := wf

theorem gather3 {N K : ℕ} (wf) (x : (⟨3, ![8, 4, N]⟩ : Shape).Idx → α) (idx : IVec ⟨3, ![8, K, 1]⟩ 32) (b : Fin 8) (l : Fin 4) (j : Fin K)
    (n : Fin N) (hn : (idx (ix3 b j (0 : Fin 1))).toInt = n.val) : Host.gather (dims3 N K wf) x idx (ix3 b l j) = x (ix3 b l n) := by
  unfold Host.gather
  congr 1
  funext a
  refine Fin.ext ?_
  show (dims3 N K wf).start _ idx a + (dims3 N K wf).batchCoord _ a + (dims3 N K wf).offCoord _ a = _
  fin_cases a
  · show 0 + b.val + 0 = b.val
    omega
  · show 0 + 0 + l.val = l.val
    omega
  · have e : (dims3 N K wf).siIdx (ix3 b l j) ⟨0, Nat.one_pos⟩ = ix3 b j (0 : Fin 1) := by
      funext k; refine Fin.ext ?_
      fin_cases k <;> rfl
    show min (idx ((dims3 N K wf).siIdx (ix3 b l j) ⟨0, Nat.one_pos⟩)).toInt.toNat (N - 1) + 0 + 0 = n.val
    rw [e, clamp hn n.isLt]; omega

/-- One row of four entries in each batch. -/
abbrev dims4 (N K : ℕ) (wf : GatherDims.WF ⟨3, ![8, N, 4]⟩ ⟨3, ![8, K, 1]⟩ ⟨3, ![8, K, 4]⟩ [2] [1] [0] [1] [0] 2 ![1, 1, 4]) :
    GatherDims ⟨3, ![8, N, 4]⟩ ⟨3, ![8, K, 1]⟩ ⟨3, ![8, K, 4]⟩ where
  offsetDims := [2]
  collapsedSliceDims := [1]
  operandBatchingDims := [0]
  startIndicesBatchingDims := [0]
  startIndexMap := [1]
  indexVectorDim := 2
  sliceSizes := ![1, 1, 4]
  wf := wf

theorem gather4 {N K : ℕ} (wf) (x : (⟨3, ![8, N, 4]⟩ : Shape).Idx → α) (idx : IVec ⟨3, ![8, K, 1]⟩ 32) (b : Fin 8) (j : Fin K) (l : Fin 4)
    (n : Fin N) (hn : (idx (ix3 b j (0 : Fin 1))).toInt = n.val) : Host.gather (dims4 N K wf) x idx (ix3 b j l) = x (ix3 b n l) := by
  unfold Host.gather
  congr 1
  funext a
  refine Fin.ext ?_
  show (dims4 N K wf).start _ idx a + (dims4 N K wf).batchCoord _ a + (dims4 N K wf).offCoord _ a = _
  fin_cases a
  · show 0 + b.val + 0 = b.val
    omega
  · have e : (dims4 N K wf).siIdx (ix3 b j l) ⟨0, Nat.one_pos⟩ = ix3 b j (0 : Fin 1) := by
      funext k; refine Fin.ext ?_
      fin_cases k <;> rfl
    show min (idx ((dims4 N K wf).siIdx (ix3 b j l) ⟨0, Nat.one_pos⟩)).toInt.toNat (N - 1) + 0 + 0 = n.val
    rw [e, clamp hn n.isLt]; omega
  · show 0 + 0 + l.val = l.val
    omega

end Cert.Gather

end
-- ==== Proof.KernelHost.lean ====
/-
  The operands of the selection region, read through the lines between the regions: the 5120 anchors with the
  largest best logit, and for each its box offsets, its anchor box, its logit and its class.
-/
module

public import proofs.«01_k».proof.Proof.ClassMax
public import proofs.«01_k».proof.Proof.Gather
public import Idealize.ShloMosaic.Lib.StableHlo.RunClose

@[expose] public section

set_option maxRecDepth 16384

noncomputable section

namespace Cert.KernelHost

open Idealize.ShloMosaic Idealize.ShloMosaic.TcCoe Idealize.ShloMosaic.StableHlo Cert.Pick Cert.Folds Cert.Data Cert.ClassMax Cert.Gather
open Cert.KernelIdeal Cert.KernelIdeal.Gen

variable (V : Valuation τ sig (Elt Ideal))

theorem maxima (b : Fin 8) (r : Fin 49104) : after hostOps5 V (Proc.devRef .tc main_v12) (ix2 b r)
    = cat (fun b a p => V (Proc.devRef .tc main_v1_0) (ix3 b a p)) (fun b a p => V (Proc.devRef .tc main_v3_0) (ix3 b a p)) (fun b a p => V (Proc.devRef .tc main_v5_0) (ix3 b a p)) (fun b a p => V (Proc.devRef .tc main_v7_0) (ix3 b a p)) (fun b a p => V (Proc.devRef .tc main_v9_0) (ix3 b a p)) b (shape r) (place r) := by
  after_results_simp
  pointwise []
  rfl

theorem classes (b : Fin 8) (r : Fin 49104) : after hostOps5 V (Proc.devRef .tc main_v15) (ix2 b r)
    = cat (fun b a p => V (Proc.devRef .tc main_v1_1) (ix3 b a p)) (fun b a p => V (Proc.devRef .tc main_v3_1) (ix3 b a p)) (fun b a p => V (Proc.devRef .tc main_v5_1) (ix3 b a p)) (fun b a p => V (Proc.devRef .tc main_v7_1) (ix3 b a p)) (fun b a p => V (Proc.devRef .tc main_v9_1) (ix3 b a p)) b (shape r) (place r) := by
  after_results_simp
  pointwise []
  rfl

theorem values (b : Fin 8) (j : Fin 5120) : after hostOps5 V (Proc.devRef .tc main_values) (ix2 b j)
    = after hostOps5 V (Proc.devRef .tc main_v12) (ix2 b (rank (by decide : 5120 ≤ 49104) (fun r => after hostOps5 V (Proc.devRef .tc main_v12) (ix2 b r)) j)) := by
  refine Eq.trans ?_ (topK_values (by decide) (after hostOps5 V (Proc.devRef .tc main_v12)) sliceFits_S8x49104_S8x5120 b j)
  refine congrFun ?_ _
  after_results

theorem indices (b : Fin 8) (j : Fin 5120) : after hostOps5 V (Proc.devRef .tc main_indices) (ix2 b j)
    = BitVec.ofNat 32 (rank (by decide : 5120 ≤ 49104) (fun r => after hostOps5 V (Proc.devRef .tc main_v12) (ix2 b r)) j).val := by
  refine Eq.trans ?_ (topK_places (by decide) (after hostOps5 V (Proc.devRef .tc main_v12)) sliceFits_S8x49104_S8x5120 b j)
  refine congrFun ?_ _
  after_results

/-- A place in a row of 49104, as a word. -/
theorem word_toInt (n : Fin 49104) : (BitVec.ofNat 32 n.val).toInt = n.val := toInt_ofNat (by omega)

/-- A negative start index counts from the end. -/
def wrap (I : IVec S8x5120 32) : IVec S8x5120 32 :=
  select (cmpi .slt I (broadcastInDim S8x5120 ![] bcast_S_S8x5120 (constantI S_ 32 0#32)))
    (addi I (broadcastInDim S8x5120 ![] bcast_S_S8x5120 (constantI S_ 32 49104#32))) I

/-- Whether each start index is in range. -/
def inRange (I : IVec S8x5120x1 32) : IVec S8x5120 1 :=
  Host.reduce IntOp.andi
    (andi (cmpi .sge I (broadcastInDim S8x5120x1 ![] bcast_S_S8x5120x1 (constantI S_ 32 0#32)))
      (cmpi .sle I (broadcastInDim S8x5120x1 ![0, 1, 2] bcast_S1x1x1_S8x5120x1_0_1_2
        (broadcastInDim S1x1x1 ![2] bcast_S1_S1x1x1_2 (constantI S1 32 49103#32)))))
    (constantI S_ 1 1#1) reducesTo_S8x5120x1_S8x5120_d2 h_S_

theorem wrap_apply (I : IVec S8x5120 32) (b : Fin 8) (j : Fin 5120) (n : Fin 49104) (hn : I (ix2 b j) = BitVec.ofNat 32 n.val) :
    wrap I (ix2 b j) = BitVec.ofNat 32 n.val := by
  have h := word_toInt n
  have hs : IntOp.cmpi .slt (BitVec.ofNat 32 n.val) 0#32 = 0#1 := by
    simp only [IntOp.cmpi, BitVec.slt, h]
    have : ¬((n.val : ℤ) < 0) := by omega
    simp [this]
  pointwise [wrap, hn]
  rw [hs]
  rfl

theorem inRange_apply (I : IVec S8x5120x1 32) (b : Fin 8) (j : Fin 5120) (n : Fin 49104)
    (hn : I (ix3 b j (0 : Fin 1)) = BitVec.ofNat 32 n.val) : inRange I (ix2 b j) = 1#1 := by
  have h := word_toInt n
  have h0 : IntOp.cmpi .sge (BitVec.ofNat 32 n.val) 0#32 = 1#1 := by
    simp only [IntOp.cmpi, BitVec.sle, h]
    simp
  have h1 : IntOp.cmpi .sle (BitVec.ofNat 32 n.val) 49103#32 = 1#1 := by
    simp only [IntOp.cmpi, BitVec.sle, h]
    have : n.val ≤ 49103 := by omega
    simp [this]
  pointwise [inRange]
  rw [Finset.univ_unique, Finset.fold_singleton]
  show IntOp.andi (IntOp.andi (IntOp.cmpi .sge (I (ix3 b j 0)) 0#32) (IntOp.cmpi .sle (I (ix3 b j 0)) 49103#32)) 1#1 = 1#1
  rw [hn, h0, h1]
  rfl

theorem class_of (b : Fin 8) (j : Fin 5120) (n : Fin 49104) (hn : V (Proc.devRef .tc main_indices) (ix2 b j) = BitVec.ofNat 32 n.val) :
    after hostOps5_1 V (Proc.devRef .tc main_v16) (ix2 b j) = V (Proc.devRef .tc main_v15) (ix2 b n) := by
  have e : after hostOps5_1 V (Proc.devRef .tc main_v16)
      = select (inRange (shapeCast S8x5120x1 (wrap (V (Proc.devRef .tc main_indices))) shapeCasts_S8x5120_S8x5120x1))
          (Host.gather gather_S8x49104_S8x5120x1_S8x5120_n_1_0_0_1_2_11 (V (Proc.devRef .tc main_v15))
            (shapeCast S8x5120x1 (wrap (V (Proc.devRef .tc main_indices))) shapeCasts_S8x5120_S8x5120x1))
          (broadcastInDim S8x5120 ![] bcast_S_S8x5120 (constantI S_ 32 2147483648#32)) := by
    after_results_simp
    simp only [TRef.ofBuf_toBuf]
    have h1 : ∀ p q r (v : IVec S8x5120 32), (TRef.of main_indices p q r : TRef sig ⟨S8x5120, .i32⟩).ofBuf (Val := Elt Ideal) v = v := fun _ _ _ _ => eq_of_heq (cast_heq _ _)
    have h2 : ∀ p q r (v : IVec S8x49104 32), (TRef.of main_v15 p q r : TRef sig ⟨S8x49104, .i32⟩).ofBuf (Val := Elt Ideal) v = v := fun _ _ _ _ => eq_of_heq (cast_heq _ _)
    have h3 : ∀ p q r (v : IVec S8x5120x1 32), (TRef.of main_call0_v5 p q r : TRef sig ⟨S8x5120x1, .i32⟩).ofBuf (Val := Elt Ideal) v = v := fun _ _ _ _ => eq_of_heq (cast_heq _ _)
    have h4 : ∀ p q r (v : IVec S8x5120 32), (TRef.of main_call0_v4 p q r : TRef sig ⟨S8x5120, .i32⟩).toBuf (Val := Elt Ideal) v = v := fun _ _ _ _ => eq_of_heq (cast_heq _ _)
    have h5 : ∀ p q r (v : IVec S8x5120 32), (TRef.of main_v16 p q r : TRef sig ⟨S8x5120, .i32⟩).toBuf (Val := Elt Ideal) v = v := fun _ _ _ _ => eq_of_heq (cast_heq _ _)
    simp only [h1, h2, h3, h4, h5]
    rfl
  rw [e]
  have hw : ∀ (i : Fin 8) (k : Fin 5120), shapeCast S8x5120x1 (wrap (V (Proc.devRef .tc main_indices))) shapeCasts_S8x5120_S8x5120x1 (ix3 i k (0 : Fin 1))
      = wrap (V (Proc.devRef .tc main_indices)) (ix2 i k) := fun i k => by
    pointwise []
  generalize hI : shapeCast S8x5120x1 (wrap (V (Proc.devRef .tc main_indices))) shapeCasts_S8x5120_S8x5120x1 = I at *
  have hb := (hw b j).trans (wrap_apply _ b j n hn)
  show Scalar.select (inRange I (ix2 b j)) _ _ = _
  rw [inRange_apply I b j n hb]
  refine (gather1 _ _ I b j n ?_)
  rw [hb]
  exact word_toInt n

theorem class_float (b : Fin 8) (j : Fin 5120) : after hostOps5_2 V (Proc.devRef .tc main_v19) (ix2 b j)
    = FloatOps.sitofp (F := Ideal) FTy.f32 (V (Proc.devRef .tc main_v16) (ix2 b j)) + 1 := by
  after_results_simp
  pointwise []

theorem anchors_of (b : Fin 8) (j : Fin 5120) (l : Fin 4) (n : Fin 49104) (hn : V (Proc.devRef .tc main_indices) (ix2 b j) = BitVec.ofNat 32 n.val) :
    after hostOps5_3 V (Proc.devRef .tc main_v20) (ix3 b j l) = V (Proc.devRef .tc main_arg11) (ix2 n l) := by
  have e : after hostOps5_3 V (Proc.devRef .tc main_v20)
      = select (broadcastInDim S8x5120x4 ![0, 1] bcast_S8x5120_S8x5120x4_0_1 (inRange (broadcastInDim S8x5120x1 ![0, 1] bcast_S8x5120_S8x5120x1_0_1 (wrap (V (Proc.devRef .tc main_indices))))))
          (Host.gather gather_S49104x4_S8x5120x1_S8x5120x4_2_0_n_n_0_2_14 (V (Proc.devRef .tc main_arg11))
            (broadcastInDim S8x5120x1 ![0, 1] bcast_S8x5120_S8x5120x1_0_1 (wrap (V (Proc.devRef .tc main_indices)))))
          (broadcastInDim S8x5120x4 ![] bcast_S_S8x5120x4 (constant (F := Ideal) S_ .f32 0x7FC00000#32)) := by
    after_results_simp
    simp only [TRef.ofBuf_toBuf]
    have h1 : ∀ p q r (v : IVec S8x5120 32), (TRef.of main_indices p q r : TRef sig ⟨S8x5120, .i32⟩).ofBuf (Val := Elt Ideal) v = v := fun _ _ _ _ => eq_of_heq (cast_heq _ _)
    have h2 : ∀ p q r (v : FVec Ideal S49104x4 .f32), (TRef.of main_arg11 p q r : TRef sig ⟨S49104x4, .f32⟩).ofBuf (Val := Elt Ideal) v = v := fun _ _ _ _ => eq_of_heq (cast_heq _ _)
    have h5 : ∀ p q r (v : FVec Ideal S8x5120x4 .f32), (TRef.of main_v20 p q r : TRef sig ⟨S8x5120x4, .f32⟩).toBuf (Val := Elt Ideal) v = v := fun _ _ _ _ => eq_of_heq (cast_heq _ _)
    simp only [h1, h2, h5]
    rfl
  rw [e]
  have hw : ∀ (i : Fin 8) (k : Fin 5120), broadcastInDim S8x5120x1 ![0, 1] bcast_S8x5120_S8x5120x1_0_1 (wrap (V (Proc.devRef .tc main_indices))) (ix3 i k (0 : Fin 1))
      = wrap (V (Proc.devRef .tc main_indices)) (ix2 i k) := fun i k => by
    pointwise []
  generalize hI : broadcastInDim S8x5120x1 ![0, 1] bcast_S8x5120_S8x5120x1_0_1 (wrap (V (Proc.devRef .tc main_indices))) = I at *
  have hb := (hw b j).trans (wrap_apply _ b j n hn)
  have hm : broadcastInDim S8x5120x4 ![0, 1] bcast_S8x5120_S8x5120x4_0_1 (inRange I) (ix3 b j l) = inRange I (ix2 b j) := by
    pointwise []
  show Scalar.select (broadcastInDim S8x5120x4 ![0, 1] bcast_S8x5120_S8x5120x4_0_1 (inRange I) (ix3 b j l)) _ _ = _
  rw [hm, inRange_apply I b j n hb]
  refine (gather2 _ _ I b j l n ?_)
  rw [hb]
  exact word_toInt n

theorem anchor_plane0 (b : Fin 8) (j : Fin 5120) : after hostOps5_4 V (Proc.devRef .tc main_v22) (ix2 b j) = V (Proc.devRef .tc main_v20) (ix3 b j 0) := by
  after_results_simp
  pointwise []

theorem anchor_plane1 (b : Fin 8) (j : Fin 5120) : after hostOps5_4 V (Proc.devRef .tc main_v24) (ix2 b j) = V (Proc.devRef .tc main_v20) (ix3 b j 1) := by
  after_results_simp
  pointwise []

theorem anchor_plane2 (b : Fin 8) (j : Fin 5120) : after hostOps5_4 V (Proc.devRef .tc main_v26) (ix2 b j) = V (Proc.devRef .tc main_v20) (ix3 b j 2) := by
  after_results_simp
  pointwise []

theorem anchor_plane3 (b : Fin 8) (j : Fin 5120) : after hostOps5_4 V (Proc.devRef .tc main_v28) (ix2 b j) = V (Proc.devRef .tc main_v20) (ix3 b j 3) := by
  after_results_simp
  pointwise []

theorem offsets (b : Fin 8) (l : Fin 4) (r : Fin 49104) : after hostOps5_4 V (Proc.devRef .tc main_v37) (ix3 b l r)
    = chan (V (Proc.devRef .tc main_arg5)) (V (Proc.devRef .tc main_arg6)) (V (Proc.devRef .tc main_arg7)) (V (Proc.devRef .tc main_arg8)) (V (Proc.devRef .tc main_arg9)) b (brow (shape r) l) (place r) := by
  after_results_simp
  pointwise []
  after_results_simp
  pointwise []
  rfl

theorem index_row (b : Fin 8) (j : Fin 5120) : after hostOps5_4 V (Proc.devRef .tc main_v38) (ix3 b (0 : Fin 1) j) = V (Proc.devRef .tc main_indices) (ix2 b j) := by
  after_results_simp
  pointwise []

/-- A negative start index counts from the end: the same, on a row of one. -/
def wrapRow (I : IVec S8x1x5120 32) : IVec S8x1x5120 32 :=
  select (cmpi .slt I (broadcastInDim S8x1x5120 ![] bcast_S_S8x1x5120 (constantI S_ 32 0#32)))
    (addi I (broadcastInDim S8x1x5120 ![] bcast_S_S8x1x5120 (constantI S_ 32 49104#32))) I

theorem wrapRow_apply (I : IVec S8x1x5120 32) (b : Fin 8) (j : Fin 5120) (n : Fin 49104) (hn : I (ix3 b (0 : Fin 1) j) = BitVec.ofNat 32 n.val) :
    wrapRow I (ix3 b (0 : Fin 1) j) = BitVec.ofNat 32 n.val := by
  have h := word_toInt n
  have hs : IntOp.cmpi .slt (BitVec.ofNat 32 n.val) 0#32 = 0#1 := by
    simp only [IntOp.cmpi, BitVec.slt, h]
    have : ¬((n.val : ℤ) < 0) := by omega
    simp [this]
  pointwise [wrapRow, hn]
  rw [hs]
  rfl

theorem offsets_of (b : Fin 8) (l : Fin 4) (j : Fin 5120) (n : Fin 49104) (hn : V (Proc.devRef .tc main_v38) (ix3 b (0 : Fin 1) j) = BitVec.ofNat 32 n.val) :
    after hostOps5_5 V (Proc.devRef .tc main_v39) (ix3 b l j) = V (Proc.devRef .tc main_v37) (ix3 b l n) := by
  have e : after hostOps5_5 V (Proc.devRef .tc main_v39)
      = select (broadcastInDim S8x4x5120 ![0, 2] bcast_S8x5120_S8x4x5120_0_2 (inRange (shapeCast S8x5120x1 (wrapRow (V (Proc.devRef .tc main_v38))) shapeCasts_S8x1x5120_S8x5120x1)))
          (Host.gather gather_S8x4x49104_S8x5120x1_S8x4x5120_1_2_0_0_2_2_141 (V (Proc.devRef .tc main_v37))
            (shapeCast S8x5120x1 (wrapRow (V (Proc.devRef .tc main_v38))) shapeCasts_S8x1x5120_S8x5120x1))
          (broadcastInDim S8x4x5120 ![] bcast_S_S8x4x5120 (constant (F := Ideal) S_ .f32 0x7FC00000#32)) := by
    after_results_simp
    simp only [TRef.ofBuf_toBuf]
    have h1 : ∀ p q r (v : IVec S8x1x5120 32), (TRef.of main_v38 p q r : TRef sig ⟨S8x1x5120, .i32⟩).ofBuf (Val := Elt Ideal) v = v := fun _ _ _ _ => eq_of_heq (cast_heq _ _)
    have h2 : ∀ p q r (v : FVec Ideal S8x4x49104 .f32), (TRef.of main_v37 p q r : TRef sig ⟨S8x4x49104, .f32⟩).ofBuf (Val := Elt Ideal) v = v := fun _ _ _ _ => eq_of_heq (cast_heq _ _)
    have h3 : ∀ p q r (v : IVec S8x5120x1 32), (TRef.of main_call2_v5 p q r : TRef sig ⟨S8x5120x1, .i32⟩).ofBuf (Val := Elt Ideal) v = v := fun _ _ _ _ => eq_of_heq (cast_heq _ _)
    have h4 : ∀ p q r (v : IVec S8x1x5120 32), (TRef.of main_call2_v4 p q r : TRef sig ⟨S8x1x5120, .i32⟩).toBuf (Val := Elt Ideal) v = v := fun _ _ _ _ => eq_of_heq (cast_heq _ _)
    have h5 : ∀ p q r (v : FVec Ideal S8x4x5120 .f32), (TRef.of main_v39 p q r : TRef sig ⟨S8x4x5120, .f32⟩).toBuf (Val := Elt Ideal) v = v := fun _ _ _ _ => eq_of_heq (cast_heq _ _)
    simp only [h1, h2, h3, h4, h5]
    rfl
  rw [e]
  have hw : ∀ (i : Fin 8) (k : Fin 5120), shapeCast S8x5120x1 (wrapRow (V (Proc.devRef .tc main_v38))) shapeCasts_S8x1x5120_S8x5120x1 (ix3 i k (0 : Fin 1))
      = wrapRow (V (Proc.devRef .tc main_v38)) (ix3 i (0 : Fin 1) k) := fun i k => by
    pointwise []
  generalize hI : shapeCast S8x5120x1 (wrapRow (V (Proc.devRef .tc main_v38))) shapeCasts_S8x1x5120_S8x5120x1 = I at *
  have hb := (hw b j).trans (wrapRow_apply _ b j n hn)
  have hm : broadcastInDim S8x4x5120 ![0, 2] bcast_S8x5120_S8x4x5120_0_2 (inRange I) (ix3 b l j) = inRange I (ix2 b j) := by
    pointwise []
  show Scalar.select (broadcastInDim S8x4x5120 ![0, 2] bcast_S8x5120_S8x4x5120_0_2 (inRange I) (ix3 b l j)) _ _ = _
  rw [hm, inRange_apply I b j n hb]
  refine (gather3 _ _ I b l j n ?_)
  rw [hb]
  exact word_toInt n

theorem offset_plane0 (b : Fin 8) (j : Fin 5120) : after hostOps5_6 V (Proc.devRef .tc main_v41) (ix2 b j) = V (Proc.devRef .tc main_v39) (ix3 b 0 j) := by
  after_results_simp
  pointwise []

theorem offset_plane1 (b : Fin 8) (j : Fin 5120) : after hostOps5_6 V (Proc.devRef .tc main_v43) (ix2 b j) = V (Proc.devRef .tc main_v39) (ix3 b 1 j) := by
  after_results_simp
  pointwise []

theorem offset_plane2 (b : Fin 8) (j : Fin 5120) : after hostOps5_6 V (Proc.devRef .tc main_v45) (ix2 b j) = V (Proc.devRef .tc main_v39) (ix3 b 2 j) := by
  after_results_simp
  pointwise []

theorem offset_plane3 (b : Fin 8) (j : Fin 5120) : after hostOps5_6 V (Proc.devRef .tc main_v47) (ix2 b j) = V (Proc.devRef .tc main_v39) (ix3 b 3 j) := by
  after_results_simp
  pointwise []

theorem scales (b : Fin 8) : after hostOps5_6 V (Proc.devRef .tc main_v48) (ix2 b (0 : Fin 1)) = V (Proc.devRef .tc main_arg10) (ix1 b) := by
  after_results_simp
  pointwise []

theorem level0 (b : Fin 8) (r : Fin 810) (p : Fin 4096) : after hostOps0 V (Proc.devRef .tc main_v0) (ix3 b r p)
    = flat (n := 64) (by decide) rfl (V (Proc.devRef .tc main_arg0)) b r p := by
  after_results_simp
  pointwise []
  rfl

theorem level1 (b : Fin 8) (r : Fin 810) (p : Fin 1024) : after hostOps1 V (Proc.devRef .tc main_v2) (ix3 b r p)
    = flat (n := 32) (by decide) rfl (V (Proc.devRef .tc main_arg1)) b r p := by
  after_results_simp
  pointwise []
  rfl

theorem level2 (b : Fin 8) (r : Fin 810) (p : Fin 256) : after hostOps2 V (Proc.devRef .tc main_v4) (ix3 b r p)
    = flat (n := 16) (by decide) rfl (V (Proc.devRef .tc main_arg2)) b r p := by
  after_results_simp
  pointwise []
  rfl

theorem level3 (b : Fin 8) (r : Fin 810) (p : Fin 64) : after hostOps3 V (Proc.devRef .tc main_v6) (ix3 b r p)
    = flat (n := 8) (by decide) rfl (V (Proc.devRef .tc main_arg3)) b r p := by
  after_results_simp
  pointwise []
  rfl

theorem level4 (b : Fin 8) (r : Fin 810) (p : Fin 16) : after hostOps4 V (Proc.devRef .tc main_v8) (ix3 b r p)
    = flat (n := 4) (by decide) rfl (V (Proc.devRef .tc main_arg4)) b r p := by
  after_results_simp
  pointwise []
  rfl

end Cert.KernelHost

end
-- ==== Proof.KernelOut.lean ====
/-
  The whole kernel, image by image: a greedy selection over the 5120 anchors with the largest best logit.
-/
module

public import proofs.«01_k».proof.Proof.KernelHost
public import proofs.«01_k».proof.Proof.KernelRun
public import proofs.«01_k».proof.Proof.NmsGreedy

@[expose] public section

set_option maxRecDepth 16384

noncomputable section

namespace Cert.KernelOut

open Idealize.ShloMosaic Idealize.ShloMosaic.TcCoe Idealize.ShloMosaic.StableHlo Cert.Pick Cert.Folds Cert.Data Cert.ClassMax Cert.KernelHost Cert.Box
open Cert.KernelIdeal Cert.KernelIdeal.Gen

/-- The level maxima, concatenated, are the maxima of the concatenation. -/
theorem cat_max (f0 : Fin 8 → Fin 810 → Fin 4096 → EReal) (f1 : Fin 8 → Fin 810 → Fin 1024 → EReal) (f2 : Fin 8 → Fin 810 → Fin 256 → EReal)
    (f3 : Fin 8 → Fin 810 → Fin 64 → EReal) (f4 : Fin 8 → Fin 810 → Fin 16 → EReal) (b : Fin 8) (r : Fin 49104) :
    cat (lvlMax f0) (lvlMax f1) (lvlMax f2) (lvlMax f3) (lvlMax f4) b (shape r) (place r) = top (cat f0 f1 f2 f3 f4 b) r := by
  unfold top cls cat lvlMax
  split_ifs <;> rfl

/-- The level positions, concatenated, are the positions in the concatenation. -/
theorem cat_arg (f0 : Fin 8 → Fin 810 → Fin 4096 → EReal) (f1 : Fin 8 → Fin 810 → Fin 1024 → EReal) (f2 : Fin 8 → Fin 810 → Fin 256 → EReal)
    (f3 : Fin 8 → Fin 810 → Fin 64 → EReal) (f4 : Fin 8 → Fin 810 → Fin 16 → EReal) (b : Fin 8) (r : Fin 49104) :
    cat (fun b a p => BitVec.ofNat 32 (lvlArg f0 b a p).val) (fun b a p => BitVec.ofNat 32 (lvlArg f1 b a p).val) (fun b a p => BitVec.ofNat 32 (lvlArg f2 b a p).val)
      (fun b a p => BitVec.ofNat 32 (lvlArg f3 b a p).val) (fun b a p => BitVec.ofNat 32 (lvlArg f4 b a p).val) b (shape r) (place r)
      = BitVec.ofNat 32 (cls (cat f0 f1 f2 f3 f4 b) r).val := by
  unfold cls cat lvlArg
  split_ifs <;> rfl

variable (m : (ℓ : Loc nD τ sig) → Buf (Elt Ideal) ℓ) (ρ : Dev nD → PrngReg)
variable (c : Dev nD)

/-- The logits and the box offsets, by row and place, and the anchors. -/
def logits : Fin 8 → Fin 810 → Fin 5456 → EReal :=
  chan (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
def offs : Fin 8 → Fin 36 → Fin 5456 → EReal :=
  chan (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

theorem entry0 (b : Fin 8) (r : Fin 810) (p : Fin 4096) : V1 m ρ c main_v0 (ix3 b r p) = flat (n := 64) (by decide) rfl (m ((c.tc : Thread nD τ).loc main_arg0)) b r p :=
  (level0 (W0 m ρ c) b r p).trans (congrArg (fun x => flat (n := 64) (by decide) rfl x b r p) (W0_args m ρ c main_arg0 (by decide)))

theorem max0_at (b : Fin 8) (a : Fin 9) (p : Fin 4096) : W10 m ρ c (Proc.devRef .tc main_v1_0) (ix3 b a p) = lvlMax (flat (n := 64) (by decide) rfl (m ((c.tc : Thread nD τ).loc main_arg0))) b a p := by
  have e : W10 m ρ c (Proc.devRef .tc main_v1_0) = max0 (V1 m ρ c main_v0) :=
    ((W10_of_ne m ρ c main_v1_0 (by decide)).trans ((W9_of m ρ c main_v1_0 (by decide)).trans ((W8_of_ne m ρ c main_v1_0 (by decide)).trans ((W7_of m ρ c main_v1_0 (by decide)).trans ((W6_of_ne m ρ c main_v1_0 (by decide)).trans ((W5_of m ρ c main_v1_0 (by decide)).trans ((W4_of_ne m ρ c main_v1_0 (by decide)).trans ((W3_of m ρ c main_v1_0 (by decide)))))))))).trans ((W2_arr m ρ c 1).trans (final0_max (V1 m ρ) c))
  rw [e]
  exact congrArg (fun f => lvlMax f b a p) (funext fun b => funext fun r => funext fun p => entry0 m ρ c b r p)

theorem arg0_at (b : Fin 8) (a : Fin 9) (p : Fin 4096) : W10 m ρ c (Proc.devRef .tc main_v1_1) (ix3 b a p)
    = BitVec.ofNat 32 (lvlArg (flat (n := 64) (by decide) rfl (m ((c.tc : Thread nD τ).loc main_arg0))) b a p).val := by
  have e : W10 m ρ c (Proc.devRef .tc main_v1_1) = arg0 (V1 m ρ c main_v0) :=
    ((W10_of_ne m ρ c main_v1_1 (by decide)).trans ((W9_of m ρ c main_v1_1 (by decide)).trans ((W8_of_ne m ρ c main_v1_1 (by decide)).trans ((W7_of m ρ c main_v1_1 (by decide)).trans ((W6_of_ne m ρ c main_v1_1 (by decide)).trans ((W5_of m ρ c main_v1_1 (by decide)).trans ((W4_of_ne m ρ c main_v1_1 (by decide)).trans ((W3_of m ρ c main_v1_1 (by decide)))))))))).trans ((W2_arr m ρ c 2).trans (final0_arg (V1 m ρ) c))
  rw [e]
  exact congrArg (fun f => BitVec.ofNat 32 (lvlArg f b a p).val) (funext fun b => funext fun r => funext fun p => entry0 m ρ c b r p)

theorem entry1 (b : Fin 8) (r : Fin 810) (p : Fin 1024) : V3 m ρ c main_v2 (ix3 b r p) = flat (n := 32) (by decide) rfl (m ((c.tc : Thread nD τ).loc main_arg1)) b r p :=
  (level1 (W2 m ρ c) b r p).trans (congrArg (fun x => flat (n := 32) (by decide) rfl x b r p) (W2_args m ρ c main_arg1 (by decide)))

theorem max1_at (b : Fin 8) (a : Fin 9) (p : Fin 1024) : W10 m ρ c (Proc.devRef .tc main_v3_0) (ix3 b a p) = lvlMax (flat (n := 32) (by decide) rfl (m ((c.tc : Thread nD τ).loc main_arg1))) b a p := by
  have e : W10 m ρ c (Proc.devRef .tc main_v3_0) = max1 (V3 m ρ c main_v2) :=
    ((W10_of_ne m ρ c main_v3_0 (by decide)).trans ((W9_of m ρ c main_v3_0 (by decide)).trans ((W8_of_ne m ρ c main_v3_0 (by decide)).trans ((W7_of m ρ c main_v3_0 (by decide)).trans ((W6_of_ne m ρ c main_v3_0 (by decide)).trans ((W5_of m ρ c main_v3_0 (by decide)))))))).trans ((W4_arr m ρ c 1).trans (final1_max (V3 m ρ) c))
  rw [e]
  exact congrArg (fun f => lvlMax f b a p) (funext fun b => funext fun r => funext fun p => entry1 m ρ c b r p)

theorem arg1_at (b : Fin 8) (a : Fin 9) (p : Fin 1024) : W10 m ρ c (Proc.devRef .tc main_v3_1) (ix3 b a p)
    = BitVec.ofNat 32 (lvlArg (flat (n := 32) (by decide) rfl (m ((c.tc : Thread nD τ).loc main_arg1))) b a p).val := by
  have e : W10 m ρ c (Proc.devRef .tc main_v3_1) = arg1 (V3 m ρ c main_v2) :=
    ((W10_of_ne m ρ c main_v3_1 (by decide)).trans ((W9_of m ρ c main_v3_1 (by decide)).trans ((W8_of_ne m ρ c main_v3_1 (by decide)).trans ((W7_of m ρ c main_v3_1 (by decide)).trans ((W6_of_ne m ρ c main_v3_1 (by decide)).trans ((W5_of m ρ c main_v3_1 (by decide)))))))).trans ((W4_arr m ρ c 2).trans (final1_arg (V3 m ρ) c))
  rw [e]
  exact congrArg (fun f => BitVec.ofNat 32 (lvlArg f b a p).val) (funext fun b => funext fun r => funext fun p => entry1 m ρ c b r p)

theorem entry2 (b : Fin 8) (r : Fin 810) (p : Fin 256) : V5 m ρ c main_v4 (ix3 b r p) = flat (n := 16) (by decide) rfl (m ((c.tc : Thread nD τ).loc main_arg2)) b r p :=
  (level2 (W4 m ρ c) b r p).trans (congrArg (fun x => flat (n := 16) (by decide) rfl x b r p) (W4_args m ρ c main_arg2 (by decide)))

theorem max2_at (b : Fin 8) (a : Fin 9) (p : Fin 256) : W10 m ρ c (Proc.devRef .tc main_v5_0) (ix3 b a p) = lvlMax (flat (n := 16) (by decide) rfl (m ((c.tc : Thread nD τ).loc main_arg2))) b a p := by
  have e : W10 m ρ c (Proc.devRef .tc main_v5_0) = max2 (V5 m ρ c main_v4) :=
    ((W10_of_ne m ρ c main_v5_0 (by decide)).trans ((W9_of m ρ c main_v5_0 (by decide)).trans ((W8_of_ne m ρ c main_v5_0 (by decide)).trans ((W7_of m ρ c main_v5_0 (by decide)))))).trans ((W6_arr m ρ c 1).trans (final2_max (V5 m ρ) c))
  rw [e]
  exact congrArg (fun f => lvlMax f b a p) (funext fun b => funext fun r => funext fun p => entry2 m ρ c b r p)

theorem arg2_at (b : Fin 8) (a : Fin 9) (p : Fin 256) : W10 m ρ c (Proc.devRef .tc main_v5_1) (ix3 b a p)
    = BitVec.ofNat 32 (lvlArg (flat (n := 16) (by decide) rfl (m ((c.tc : Thread nD τ).loc main_arg2))) b a p).val := by
  have e : W10 m ρ c (Proc.devRef .tc main_v5_1) = arg2 (V5 m ρ c main_v4) :=
    ((W10_of_ne m ρ c main_v5_1 (by decide)).trans ((W9_of m ρ c main_v5_1 (by decide)).trans ((W8_of_ne m ρ c main_v5_1 (by decide)).trans ((W7_of m ρ c main_v5_1 (by decide)))))).trans ((W6_arr m ρ c 2).trans (final2_arg (V5 m ρ) c))
  rw [e]
  exact congrArg (fun f => BitVec.ofNat 32 (lvlArg f b a p).val) (funext fun b => funext fun r => funext fun p => entry2 m ρ c b r p)

theorem entry3 (b : Fin 8) (r : Fin 810) (p : Fin 64) : V7 m ρ c main_v6 (ix3 b r p) = flat (n := 8) (by decide) rfl (m ((c.tc : Thread nD τ).loc main_arg3)) b r p :=
  (level3 (W6 m ρ c) b r p).trans (congrArg (fun x => flat (n := 8) (by decide) rfl x b r p) (W6_args m ρ c main_arg3 (by decide)))

theorem max3_at (b : Fin 8) (a : Fin 9) (p : Fin 64) : W10 m ρ c (Proc.devRef .tc main_v7_0) (ix3 b a p) = lvlMax (flat (n := 8) (by decide) rfl (m ((c.tc : Thread nD τ).loc main_arg3))) b a p := by
  have e : W10 m ρ c (Proc.devRef .tc main_v7_0) = max3 (V7 m ρ c main_v6) :=
    ((W10_of_ne m ρ c main_v7_0 (by decide)).trans ((W9_of m ρ c main_v7_0 (by decide)))).trans ((W8_arr m ρ c 1).trans (final3_max (V7 m ρ) c))
  rw [e]
  exact congrArg (fun f => lvlMax f b a p) (funext fun b => funext fun r => funext fun p => entry3 m ρ c b r p)

theorem arg3_at (b : Fin 8) (a : Fin 9) (p : Fin 64) : W10 m ρ c (Proc.devRef .tc main_v7_1) (ix3 b a p)
    = BitVec.ofNat 32 (lvlArg (flat (n := 8) (by decide) rfl (m ((c.tc : Thread nD τ).loc main_arg3))) b a p).val := by
  have e : W10 m ρ c (Proc.devRef .tc main_v7_1) = arg3 (V7 m ρ c main_v6) :=
    ((W10_of_ne m ρ c main_v7_1 (by decide)).trans ((W9_of m ρ c main_v7_1 (by decide)))).trans ((W8_arr m ρ c 2).trans (final3_arg (V7 m ρ) c))
  rw [e]
  exact congrArg (fun f => BitVec.ofNat 32 (lvlArg f b a p).val) (funext fun b => funext fun r => funext fun p => entry3 m ρ c b r p)

theorem entry4 (b : Fin 8) (r : Fin 810) (p : Fin 16) : V9 m ρ c main_v8 (ix3 b r p) = flat (n := 4) (by decide) rfl (m ((c.tc : Thread nD τ).loc main_arg4)) b r p :=
  (level4 (W8 m ρ c) b r p).trans (congrArg (fun x => flat (n := 4) (by decide) rfl x b r p) (W8_args m ρ c main_arg4 (by decide)))

theorem max4_at (b : Fin 8) (a : Fin 9) (p : Fin 16) : W10 m ρ c (Proc.devRef .tc main_v9_0) (ix3 b a p) = lvlMax (flat (n := 4) (by decide) rfl (m ((c.tc : Thread nD τ).loc main_arg4))) b a p := by
  have e : W10 m ρ c (Proc.devRef .tc main_v9_0) = max4 (V9 m ρ c main_v8) :=
    ((W10_arr m ρ c 1).trans (final4_max (V9 m ρ) c))
  rw [e]
  exact congrArg (fun f => lvlMax f b a p) (funext fun b => funext fun r => funext fun p => entry4 m ρ c b r p)

theorem arg4_at (b : Fin 8) (a : Fin 9) (p : Fin 16) : W10 m ρ c (Proc.devRef .tc main_v9_1) (ix3 b a p)
    = BitVec.ofNat 32 (lvlArg (flat (n := 4) (by decide) rfl (m ((c.tc : Thread nD τ).loc main_arg4))) b a p).val := by
  have e : W10 m ρ c (Proc.devRef .tc main_v9_1) = arg4 (V9 m ρ c main_v8) :=
    ((W10_arr m ρ c 2).trans (final4_arg (V9 m ρ) c))
  rw [e]
  exact congrArg (fun f => BitVec.ofNat 32 (lvlArg f b a p).val) (funext fun b => funext fun r => funext fun p => entry4 m ρ c b r p)

theorem congr_cat {α : Type} {R : ℕ} {f0 g0 : Fin 8 → Fin R → Fin 4096 → α} {f1 g1 : Fin 8 → Fin R → Fin 1024 → α} {f2 g2 : Fin 8 → Fin R → Fin 256 → α}
    {f3 g3 : Fin 8 → Fin R → Fin 64 → α} {f4 g4 : Fin 8 → Fin R → Fin 16 → α} (h0 : f0 = g0) (h1 : f1 = g1) (h2 : f2 = g2) (h3 : f3 = g3) (h4 : f4 = g4)
    (b : Fin 8) (r : Fin R) (p : Fin 5456) : cat f0 f1 f2 f3 f4 b r p = cat g0 g1 g2 g3 g4 b r p := by
  rw [h0, h1, h2, h3, h4]

theorem tops (b : Fin 8) (r : Fin 49104) : W11 m ρ c (Proc.devRef .tc main_v12) (ix2 b r) = top (logits m c b) r :=
  (maxima (W10 m ρ c) b r).trans ((congr_cat (funext fun b => funext fun a => funext fun p => max0_at m ρ c b a p) (funext fun b => funext fun a => funext fun p => max1_at m ρ c b a p) (funext fun b => funext fun a => funext fun p => max2_at m ρ c b a p) (funext fun b => funext fun a => funext fun p => max3_at m ρ c b a p) (funext fun b => funext fun a => funext fun p => max4_at m ρ c b a p) b (shape r) (place r)).trans (cat_max _ _ _ _ _ b r))

theorem kinds (b : Fin 8) (r : Fin 49104) : W11 m ρ c (Proc.devRef .tc main_v15) (ix2 b r) = BitVec.ofNat 32 (cls (logits m c b) r).val :=
  (classes (W10 m ρ c) b r).trans ((congr_cat (funext fun b => funext fun a => funext fun p => arg0_at m ρ c b a p) (funext fun b => funext fun a => funext fun p => arg1_at m ρ c b a p) (funext fun b => funext fun a => funext fun p => arg2_at m ρ c b a p) (funext fun b => funext fun a => funext fun p => arg3_at m ρ c b a p) (funext fun b => funext fun a => funext fun p => arg4_at m ρ c b a p) b (shape r) (place r)).trans (cat_arg _ _ _ _ _ b r))

/-- The anchor in place `j` of the 5120 with the largest best logit. -/
def sel (b : Fin 8) (j : Fin 5120) : Fin 49104 := rank (by decide : 5120 ≤ 49104) (top (logits m c b)) j

theorem sel_eq (b : Fin 8) (j : Fin 5120) :
    rank (by decide : 5120 ≤ 49104) (fun r => W11 m ρ c (Proc.devRef .tc main_v12) (ix2 b r)) j = sel m c b j :=
  congrArg (fun k => rank (by decide : 5120 ≤ 49104) k j) (funext fun r => tops m ρ c b r)

theorem value_at (b : Fin 8) (j : Fin 5120) : W11 m ρ c (Proc.devRef .tc main_values) (ix2 b j) = top (logits m c b) (sel m c b j) := by
  refine (values (W10 m ρ c) b j).trans ?_
  refine (tops m ρ c b _).trans ?_
  rw [sel_eq]

theorem index_at (b : Fin 8) (j : Fin 5120) : W11 m ρ c (Proc.devRef .tc main_indices) (ix2 b j) = BitVec.ofNat 32 (sel m c b j).val := by
  refine (indices (W10 m ρ c) b j).trans ?_
  rw [sel_eq]

theorem logit_at (b : Fin 8) (j : Fin 5120) : W17 m ρ c (Proc.devRef .tc main_values) (ix2 b j) = top (logits m c b) (sel m c b j) :=
  (congrFun ((W17_of m ρ c main_values (by decide)).trans ((W16_of m ρ c main_values (by decide)).trans ((W15_of m ρ c main_values (by decide)).trans ((W14_of m ρ c main_values (by decide)).trans ((W13_of m ρ c main_values (by decide)).trans ((W12_of m ρ c main_values (by decide)))))))) (ix2 b j)).trans (value_at m ρ c b j)

theorem class_at (b : Fin 8) (j : Fin 5120) : W17 m ρ c (Proc.devRef .tc main_v19) (ix2 b j)
    = FloatOps.sitofp (F := Ideal) FTy.f32 (BitVec.ofNat 32 (cls (logits m c b) (sel m c b j)).val) + 1 := by
  refine (congrFun ((W17_of m ρ c main_v19 (by decide)).trans ((W16_of m ρ c main_v19 (by decide)).trans ((W15_of m ρ c main_v19 (by decide)).trans ((W14_of m ρ c main_v19 (by decide)))))) (ix2 b j)).trans ?_
  refine (class_float (W12 m ρ c) b j).trans ?_
  rw [show W12 m ρ c (Proc.devRef .tc main_v16) (ix2 b j) = _ from class_of (W11 m ρ c) b j _ (index_at m ρ c b j), kinds]

theorem anchor_at (b : Fin 8) (j : Fin 5120) (l : Fin 4) : W14 m ρ c (Proc.devRef .tc main_v20) (ix3 b j l) = m ((c.tc : Thread nD τ).loc main_arg11) (ix2 (sel m c b j) l) := by
  refine (anchors_of (W13 m ρ c) b j l (sel m c b j) ?_).trans ?_
  · exact (congrFun ((W13_of m ρ c main_indices (by decide)).trans ((W12_of m ρ c main_indices (by decide)))) (ix2 b j)).trans (index_at m ρ c b j)
  · exact congrFun (W13_args m ρ c main_arg11 (by decide)) _

theorem anchor0_at (b : Fin 8) (j : Fin 5120) : W17 m ρ c (Proc.devRef .tc main_v22) (ix2 b j) = m ((c.tc : Thread nD τ).loc main_arg11) (ix2 (sel m c b j) 0) :=
  (congrFun ((W17_of m ρ c main_v22 (by decide)).trans ((W16_of m ρ c main_v22 (by decide)))) (ix2 b j)).trans ((anchor_plane0 (W14 m ρ c) b j).trans (anchor_at m ρ c b j 0))

theorem anchor1_at (b : Fin 8) (j : Fin 5120) : W17 m ρ c (Proc.devRef .tc main_v24) (ix2 b j) = m ((c.tc : Thread nD τ).loc main_arg11) (ix2 (sel m c b j) 1) :=
  (congrFun ((W17_of m ρ c main_v24 (by decide)).trans ((W16_of m ρ c main_v24 (by decide)))) (ix2 b j)).trans ((anchor_plane1 (W14 m ρ c) b j).trans (anchor_at m ρ c b j 1))

theorem anchor2_at (b : Fin 8) (j : Fin 5120) : W17 m ρ c (Proc.devRef .tc main_v26) (ix2 b j) = m ((c.tc : Thread nD τ).loc main_arg11) (ix2 (sel m c b j) 2) :=
  (congrFun ((W17_of m ρ c main_v26 (by decide)).trans ((W16_of m ρ c main_v26 (by decide)))) (ix2 b j)).trans ((anchor_plane2 (W14 m ρ c) b j).trans (anchor_at m ρ c b j 2))

theorem anchor3_at (b : Fin 8) (j : Fin 5120) : W17 m ρ c (Proc.devRef .tc main_v28) (ix2 b j) = m ((c.tc : Thread nD τ).loc main_arg11) (ix2 (sel m c b j) 3) :=
  (congrFun ((W17_of m ρ c main_v28 (by decide)).trans ((W16_of m ρ c main_v28 (by decide)))) (ix2 b j)).trans ((anchor_plane3 (W14 m ρ c) b j).trans (anchor_at m ρ c b j 3))

theorem offset_at (b : Fin 8) (l : Fin 4) (j : Fin 5120) : W16 m ρ c (Proc.devRef .tc main_v39) (ix3 b l j)
    = offs m c b (brow (shape (sel m c b j)) l) (place (sel m c b j)) := by
  refine (offsets_of (W15 m ρ c) b l j (sel m c b j) ?_).trans ?_
  · refine (index_row (W14 m ρ c) b j).trans ?_
    exact (congrFun ((W14_of m ρ c main_indices (by decide)).trans ((W13_of m ρ c main_indices (by decide)).trans ((W12_of m ρ c main_indices (by decide))))) (ix2 b j)).trans (index_at m ρ c b j)
  · refine (offsets (W14 m ρ c) b l (sel m c b j)).trans ?_
    rw [W14_args m ρ c main_arg5 (by decide), W14_args m ρ c main_arg6 (by decide), W14_args m ρ c main_arg7 (by decide), W14_args m ρ c main_arg8 (by decide), W14_args m ρ c main_arg9 (by decide)]
    rfl

theorem offset0_at (b : Fin 8) (j : Fin 5120) : W17 m ρ c (Proc.devRef .tc main_v41) (ix2 b j) = offs m c b (brow (shape (sel m c b j)) 0) (place (sel m c b j)) :=
  (offset_plane0 (W16 m ρ c) b j).trans (offset_at m ρ c b 0 j)

theorem offset1_at (b : Fin 8) (j : Fin 5120) : W17 m ρ c (Proc.devRef .tc main_v43) (ix2 b j) = offs m c b (brow (shape (sel m c b j)) 1) (place (sel m c b j)) :=
  (offset_plane1 (W16 m ρ c) b j).trans (offset_at m ρ c b 1 j)

theorem offset2_at (b : Fin 8) (j : Fin 5120) : W17 m ρ c (Proc.devRef .tc main_v45) (ix2 b j) = offs m c b (brow (shape (sel m c b j)) 2) (place (sel m c b j)) :=
  (offset_plane2 (W16 m ρ c) b j).trans (offset_at m ρ c b 2 j)

theorem offset3_at (b : Fin 8) (j : Fin 5120) : W17 m ρ c (Proc.devRef .tc main_v47) (ix2 b j) = offs m c b (brow (shape (sel m c b j)) 3) (place (sel m c b j)) :=
  (offset_plane3 (W16 m ρ c) b j).trans (offset_at m ρ c b 3 j)

theorem scale_at (b : Fin 8) : W17 m ρ c (Proc.devRef .tc main_v48) (ix2 b (0 : Fin 1)) = m ((c.tc : Thread nD τ).loc main_arg10) (ix1 b) :=
  (scales (W16 m ρ c) b).trans (congrFun (W16_args m ρ c main_arg10 (by decide)) _)

/-- The decoded box of the anchor in place `j`. -/
def box (b : Fin 8) (r : Fin 49104) : Fin 4 → EReal := abox (offs m c b) (m ((c.tc : Thread nD τ).loc main_arg11)) r

theorem boxes_at (b : Fin 8) (j : Fin 5120) : NmsGreedy.kboxes (W17 m ρ c (Proc.devRef .tc main_v41)) (W17 m ρ c (Proc.devRef .tc main_v43)) (W17 m ρ c (Proc.devRef .tc main_v45)) (W17 m ρ c (Proc.devRef .tc main_v47))
    (W17 m ρ c (Proc.devRef .tc main_v22)) (W17 m ρ c (Proc.devRef .tc main_v24)) (W17 m ρ c (Proc.devRef .tc main_v26)) (W17 m ρ c (Proc.devRef .tc main_v28)) b j = box m c b (sel m c b j) := by
  unfold NmsGreedy.kboxes box abox
  rw [offset0_at, offset1_at, offset2_at, offset3_at, anchor0_at, anchor1_at, anchor2_at, anchor3_at]
  congr 1 <;> (funext l; fin_cases l <;> rfl)

/-- The result array of the kernel, row by row. -/
theorem result (b : Fin 8) : ∃ (s : ℕ → Fin 5120 → EReal) (pick : ℕ → Fin 5120),
    Greedy (fun i j => Over (box m c b (sel m c b i)) (box m c b (sel m c b j))) (fun j => Ideal.logistic (top (logits m c b) (sel m c b j))) low 100 s pick
      ∧ ∀ (i : Fin 100) (l : Fin 6), W18 m ρ c (Proc.devRef .tc main_v49) (ix3 b i l)
        = NmsStep.det (box m c b (sel m c b (pick i.val))) (m ((c.tc : Thread nD τ).loc main_arg10) (ix1 b)) (s i.val (pick i.val))
          (FloatOps.sitofp (F := Ideal) FTy.f32 (BitVec.ofNat 32 (cls (logits m c b) (sel m c b (pick i.val))).val) + 1) l := by
  obtain ⟨s, pick, G, hd⟩ := NmsGreedy.greedy c (ms5_0 t5_0) (hs5_0 t5_0) (ms5_1 t5_0) (hs5_1 t5_0) (ms5_2 t5_0) (hs5_2 t5_0) (ms5_3 t5_0) (hs5_3 t5_0)
    (ms5_4 t5_0) (hs5_4 t5_0) (ms5_5 t5_0) (hs5_5 t5_0) (ms5_6 t5_0) (hs5_6 t5_0) (ms5_7 t5_0) (hs5_7 t5_0) (ms5_8 t5_0) (hs5_8 t5_0) (ms5_9 t5_0) (hs5_9 t5_0)
    (ms5_10 t5_0) (hs5_10 t5_0) (ms5_11 t5_0) (hs5_11 t5_0)
    (W17 m ρ c (Proc.devRef .tc main_v41)) (W17 m ρ c (Proc.devRef .tc main_v43)) (W17 m ρ c (Proc.devRef .tc main_v45)) (W17 m ρ c (Proc.devRef .tc main_v47))
    (W17 m ρ c (Proc.devRef .tc main_v22)) (W17 m ρ c (Proc.devRef .tc main_v24)) (W17 m ρ c (Proc.devRef .tc main_v26)) (W17 m ρ c (Proc.devRef .tc main_v28))
    (W17 m ρ c (Proc.devRef .tc main_values)) (W17 m ρ c (Proc.devRef .tc main_v19)) (W17 m ρ c (Proc.devRef .tc main_v48)) b
  have hL : (fun j => Ideal.logistic (W17 m ρ c (Proc.devRef .tc main_values) (ix2 b j))) = fun j => Ideal.logistic (top (logits m c b) (sel m c b j)) :=
    funext fun j => congrArg Ideal.logistic (logit_at m ρ c b j)
  rw [hL] at G
  have hO : (fun i j => Over (NmsGreedy.kboxes (W17 m ρ c (Proc.devRef .tc main_v41)) (W17 m ρ c (Proc.devRef .tc main_v43)) (W17 m ρ c (Proc.devRef .tc main_v45)) (W17 m ρ c (Proc.devRef .tc main_v47))
      (W17 m ρ c (Proc.devRef .tc main_v22)) (W17 m ρ c (Proc.devRef .tc main_v24)) (W17 m ρ c (Proc.devRef .tc main_v26)) (W17 m ρ c (Proc.devRef .tc main_v28)) b i)
      (NmsGreedy.kboxes (W17 m ρ c (Proc.devRef .tc main_v41)) (W17 m ρ c (Proc.devRef .tc main_v43)) (W17 m ρ c (Proc.devRef .tc main_v45)) (W17 m ρ c (Proc.devRef .tc main_v47))
      (W17 m ρ c (Proc.devRef .tc main_v22)) (W17 m ρ c (Proc.devRef .tc main_v24)) (W17 m ρ c (Proc.devRef .tc main_v26)) (W17 m ρ c (Proc.devRef .tc main_v28)) b j))
      = fun i j => Over (box m c b (sel m c b i)) (box m c b (sel m c b j)) :=
    funext fun i => funext fun j => congrArg₂ Over (boxes_at m ρ c b i) (boxes_at m ρ c b j)
  rw [hO] at G
  refine ⟨s, pick, G, fun i l => ?_⟩
  rw [← boxes_at m ρ c b (pick i.val), ← scale_at m ρ c b, ← class_at m ρ c b (pick i.val), ← hd i l]
  refine (congrFun (KernelRun.result m ρ c) _).trans ?_
  refine congrFun (?_ : outsAt5 (V17 m ρ) c t5_0 = _) _
  unfold outsAt5
  rw [KernelRun.operand0, KernelRun.operand1, KernelRun.operand2, KernelRun.operand3, KernelRun.operand4, KernelRun.operand5, KernelRun.operand6,
    KernelRun.operand7, KernelRun.operand8, KernelRun.operand9, KernelRun.operand10]

end Cert.KernelOut

end
-- ==== Proof.Rows.lean ====
/-
  A level's rows in the order of the anchors: five levels side by side, nine anchors to a place.
-/
module

public import proofs.«01_k».proof.Proof.Data

@[expose] public section

set_option maxRecDepth 16384

noncomputable section

namespace Cert.Rows

open Idealize.ShloMosaic Cert.Data

theorem at_same {R n : ℕ} (x : (⟨4, ![8, R, n, n]⟩ : Shape).Idx → EReal) (b : Fin 8) (r r' : Fin R) (y y' z z' : Fin n)
    (hr : r.val = r'.val) (hy : y.val = y'.val) (hz : z.val = z'.val) : x (ix4 b r y z) = x (ix4 b r' y' z') := by
  rw [Fin.ext hr, Fin.ext hy, Fin.ext hz]

/-- The rows of the five levels, 90 to an anchor, in the order of the anchors. -/
theorem rows90 (x0 : (⟨4, ![8, 810, 64, 64]⟩ : Shape).Idx → EReal) (x1 : (⟨4, ![8, 810, 32, 32]⟩ : Shape).Idx → EReal) (x2 : (⟨4, ![8, 810, 16, 16]⟩ : Shape).Idx → EReal) (x3 : (⟨4, ![8, 810, 8, 8]⟩ : Shape).Idx → EReal) (x4 : (⟨4, ![8, 810, 4, 4]⟩ : Shape).Idx → EReal)
    (b : Fin 8) (r : Fin 49104) (k : Fin 90) :
    (if h : r.val < 36864 then x0 (ix4 b (⟨r.val % 9 * 90 + k.val, by omega⟩ : Fin 810) (⟨r.val / 576, by omega⟩ : Fin 64) (⟨r.val / 9 % 64, by omega⟩ : Fin 64))
      else if h : r.val - 36864 < 9216 then x1 (ix4 b (⟨(r.val - 36864) % 9 * 90 + k.val, by omega⟩ : Fin 810) (⟨(r.val - 36864) / 288, by omega⟩ : Fin 32) (⟨(r.val - 36864) / 9 % 32, by omega⟩ : Fin 32))
      else if h : r.val - 36864 - 9216 < 2304 then x2 (ix4 b (⟨(r.val - 36864 - 9216) % 9 * 90 + k.val, by omega⟩ : Fin 810) (⟨(r.val - 36864 - 9216) / 144, by omega⟩ : Fin 16) (⟨(r.val - 36864 - 9216) / 9 % 16, by omega⟩ : Fin 16))
      else if h : r.val - 36864 - 9216 - 2304 < 576 then x3 (ix4 b (⟨(r.val - 36864 - 9216 - 2304) % 9 * 90 + k.val, by omega⟩ : Fin 810) (⟨(r.val - 36864 - 9216 - 2304) / 72, by omega⟩ : Fin 8) (⟨(r.val - 36864 - 9216 - 2304) / 9 % 8, by omega⟩ : Fin 8))
      else x4 (ix4 b (⟨(r.val - 36864 - 9216 - 2304 - 576) % 9 * 90 + k.val, by omega⟩ : Fin 810) (⟨(r.val - 36864 - 9216 - 2304 - 576) / 36, by omega⟩ : Fin 4) (⟨(r.val - 36864 - 9216 - 2304 - 576) / 9 % 4, by omega⟩ : Fin 4)))
      = chan x0 x1 x2 x3 x4 b (row (shape r) k) (place r) := by
  unfold chan cat flat place shape row
  by_cases h0 : r.val < 36864
  · rw [dif_pos h0, dif_pos (show r.val / 9 < 4096 by omega)]
    exact at_same _ b _ _ _ _ _ _ (by dsimp only) (by dsimp only; omega) (by dsimp only)
  rw [dif_neg h0, dif_neg (show ¬ r.val / 9 < 4096 by omega)]
  by_cases h1 : r.val - 36864 < 9216
  · rw [dif_pos h1, dif_pos (show r.val / 9 - 4096 < 1024 by omega)]
    exact at_same _ b _ _ _ _ _ _ (by dsimp only; omega) (by dsimp only; omega) (by dsimp only; omega)
  rw [dif_neg h1, dif_neg (show ¬ r.val / 9 - 4096 < 1024 by omega)]
  by_cases h2 : r.val - 36864 - 9216 < 2304
  · rw [dif_pos h2, dif_pos (show r.val / 9 - 4096 - 1024 < 256 by omega)]
    exact at_same _ b _ _ _ _ _ _ (by dsimp only; omega) (by dsimp only; omega) (by dsimp only; omega)
  rw [dif_neg h2, dif_neg (show ¬ r.val / 9 - 4096 - 1024 < 256 by omega)]
  by_cases h3 : r.val - 36864 - 9216 - 2304 < 576
  · rw [dif_pos h3, dif_pos (show r.val / 9 - 4096 - 1024 - 256 < 64 by omega)]
    exact at_same _ b _ _ _ _ _ _ (by dsimp only; omega) (by dsimp only; omega) (by dsimp only; omega)
  rw [dif_neg h3, dif_neg (show ¬ r.val / 9 - 4096 - 1024 - 256 < 64 by omega)]
  exact at_same _ b _ _ _ _ _ _ (by dsimp only; omega) (by dsimp only; omega) (by dsimp only; omega)

/-- The rows of the five levels, 4 to an anchor, in the order of the anchors. -/
theorem rows4 (x0 : (⟨4, ![8, 36, 64, 64]⟩ : Shape).Idx → EReal) (x1 : (⟨4, ![8, 36, 32, 32]⟩ : Shape).Idx → EReal) (x2 : (⟨4, ![8, 36, 16, 16]⟩ : Shape).Idx → EReal) (x3 : (⟨4, ![8, 36, 8, 8]⟩ : Shape).Idx → EReal) (x4 : (⟨4, ![8, 36, 4, 4]⟩ : Shape).Idx → EReal)
    (b : Fin 8) (r : Fin 49104) (k : Fin 4) :
    (if h : r.val < 36864 then x0 (ix4 b (⟨r.val % 9 * 4 + k.val, by omega⟩ : Fin 36) (⟨r.val / 576, by omega⟩ : Fin 64) (⟨r.val / 9 % 64, by omega⟩ : Fin 64))
      else if h : r.val - 36864 < 9216 then x1 (ix4 b (⟨(r.val - 36864) % 9 * 4 + k.val, by omega⟩ : Fin 36) (⟨(r.val - 36864) / 288, by omega⟩ : Fin 32) (⟨(r.val - 36864) / 9 % 32, by omega⟩ : Fin 32))
      else if h : r.val - 36864 - 9216 < 2304 then x2 (ix4 b (⟨(r.val - 36864 - 9216) % 9 * 4 + k.val, by omega⟩ : Fin 36) (⟨(r.val - 36864 - 9216) / 144, by omega⟩ : Fin 16) (⟨(r.val - 36864 - 9216) / 9 % 16, by omega⟩ : Fin 16))
      else if h : r.val - 36864 - 9216 - 2304 < 576 then x3 (ix4 b (⟨(r.val - 36864 - 9216 - 2304) % 9 * 4 + k.val, by omega⟩ : Fin 36) (⟨(r.val - 36864 - 9216 - 2304) / 72, by omega⟩ : Fin 8) (⟨(r.val - 36864 - 9216 - 2304) / 9 % 8, by omega⟩ : Fin 8))
      else x4 (ix4 b (⟨(r.val - 36864 - 9216 - 2304 - 576) % 9 * 4 + k.val, by omega⟩ : Fin 36) (⟨(r.val - 36864 - 9216 - 2304 - 576) / 36, by omega⟩ : Fin 4) (⟨(r.val - 36864 - 9216 - 2304 - 576) / 9 % 4, by omega⟩ : Fin 4)))
      = chan x0 x1 x2 x3 x4 b (brow (shape r) k) (place r) := by
  unfold chan cat flat place shape brow
  by_cases h0 : r.val < 36864
  · rw [dif_pos h0, dif_pos (show r.val / 9 < 4096 by omega)]
    exact at_same _ b _ _ _ _ _ _ (by dsimp only) (by dsimp only; omega) (by dsimp only)
  rw [dif_neg h0, dif_neg (show ¬ r.val / 9 < 4096 by omega)]
  by_cases h1 : r.val - 36864 < 9216
  · rw [dif_pos h1, dif_pos (show r.val / 9 - 4096 < 1024 by omega)]
    exact at_same _ b _ _ _ _ _ _ (by dsimp only; omega) (by dsimp only; omega) (by dsimp only; omega)
  rw [dif_neg h1, dif_neg (show ¬ r.val / 9 - 4096 < 1024 by omega)]
  by_cases h2 : r.val - 36864 - 9216 < 2304
  · rw [dif_pos h2, dif_pos (show r.val / 9 - 4096 - 1024 < 256 by omega)]
    exact at_same _ b _ _ _ _ _ _ (by dsimp only; omega) (by dsimp only; omega) (by dsimp only; omega)
  rw [dif_neg h2, dif_neg (show ¬ r.val / 9 - 4096 - 1024 < 256 by omega)]
  by_cases h3 : r.val - 36864 - 9216 - 2304 < 576
  · rw [dif_pos h3, dif_pos (show r.val / 9 - 4096 - 1024 - 256 < 64 by omega)]
    exact at_same _ b _ _ _ _ _ _ (by dsimp only; omega) (by dsimp only; omega) (by dsimp only; omega)
  rw [dif_neg h3, dif_neg (show ¬ r.val / 9 - 4096 - 1024 - 256 < 64 by omega)]
  exact at_same _ b _ _ _ _ _ _ (by dsimp only; omega) (by dsimp only; omega) (by dsimp only; omega)

end Cert.Rows

end
-- ==== Proof.RefEntry.lean ====
/-
  What the reference's loop enters with: the 5000 candidates with the largest logits, their decoded boxes, their
  scores and their classes.
-/
module

public import proofs.«01_k».proof.Proof.Gen.ReferenceIdeal.Run
public import proofs.«01_k».proof.Proof.Rows
public import proofs.«01_k».proof.Proof.Gather
public import proofs.«01_k».proof.Proof.Folds
public import Idealize.ShloMosaic.Lib.StableHlo.RunClose

@[expose] public section

set_option maxRecDepth 16384

noncomputable section

namespace Cert.RefEntry

open Idealize.ShloMosaic Idealize.ShloMosaic.TcCoe Idealize.ShloMosaic.StableHlo Cert.Pick Cert.Folds Cert.Data Cert.Gather Cert.Box
open Cert.ReferenceIdeal Cert.ReferenceIdeal.Gen Cert.ReferenceIdeal.Value

variable (V : Valuation τ sig (Elt Ideal))

theorem cands (b : Fin 8) (q : Fin 4419360) : after hostOps0 V (Proc.devRef .tc main_v22) (ix2 b q)
    = key (chan (V (Proc.devRef .tc main_arg0)) (V (Proc.devRef .tc main_arg1)) (V (Proc.devRef .tc main_arg2)) (V (Proc.devRef .tc main_arg3)) (V (Proc.devRef .tc main_arg4)) b) q := by
  after_results_simp
  pointwise []
  after_results_simp
  pointwise []
  exact Rows.rows90 _ _ _ _ _ b ⟨q.val / 90, by omega⟩ ⟨q.val % 90, by omega⟩

theorem rows4 (b : Fin 8) (r : Fin 49104) (l : Fin 4) : after hostOps0 V (Proc.devRef .tc main_v21) (ix3 b r l)
    = chan (V (Proc.devRef .tc main_arg5)) (V (Proc.devRef .tc main_arg6)) (V (Proc.devRef .tc main_arg7)) (V (Proc.devRef .tc main_arg8)) (V (Proc.devRef .tc main_arg9)) b (brow (shape r) l) (place r) := by
  after_results_simp
  pointwise []
  after_results_simp
  pointwise []
  exact Rows.rows4 _ _ _ _ _ b r l

theorem values (b : Fin 8) (j : Fin 5000) : after hostOps0 V (Proc.devRef .tc main_values) (ix2 b j)
    = after hostOps0 V (Proc.devRef .tc main_v22) (ix2 b (rank (by decide : 5000 ≤ 4419360) (fun r => after hostOps0 V (Proc.devRef .tc main_v22) (ix2 b r)) j)) := by
  refine Eq.trans ?_ (topK_values (by decide) (after hostOps0 V (Proc.devRef .tc main_v22)) sliceFits_S8x4419360_S8x5000 b j)
  refine congrFun ?_ _
  after_results

theorem indices (b : Fin 8) (j : Fin 5000) : after hostOps0 V (Proc.devRef .tc main_indices) (ix2 b j)
    = BitVec.ofNat 32 (rank (by decide : 5000 ≤ 4419360) (fun r => after hostOps0 V (Proc.devRef .tc main_v22) (ix2 b r)) j).val := by
  refine Eq.trans ?_ (topK_places (by decide) (after hostOps0 V (Proc.devRef .tc main_v22)) sliceFits_S8x4419360_S8x5000 b j)
  refine congrFun ?_ _
  after_results

theorem no_corner (x : BitVec 32) : ¬ IntOp.SDivCorner x 90#32 := by
  unfold IntOp.SDivCorner
  simp

theorem word_div (q : Fin 4419360) : IntOp.divsi .host (BitVec.ofNat 32 q.val) 90#32 = BitVec.ofNat 32 (q.val / 90) := by
  unfold IntOp.divsi
  rw [if_neg (no_corner _)]
  apply BitVec.eq_of_toInt_eq
  rw [BitVec.toInt_sdiv_of_ne_or_ne _ _ (.inr (by decide)), toInt_ofNat (j := q.val) (by omega), toInt_ofNat (j := q.val / 90) (by omega)]
  show Int.tdiv (q.val : ℤ) 90 = _
  rw [Int.tdiv_eq_ediv_of_nonneg (by omega)]
  omega

theorem word_rem (q : Fin 4419360) : IntOp.remsi .host (BitVec.ofNat 32 q.val) 90#32 = BitVec.ofNat 32 (q.val % 90) := by
  unfold IntOp.remsi
  rw [if_neg (no_corner _)]
  apply BitVec.eq_of_toInt_eq
  rw [BitVec.toInt_srem, toInt_ofNat (j := q.val) (by omega), toInt_ofNat (j := q.val % 90) (by omega)]
  show Int.tmod (q.val : ℤ) 90 = _
  rw [Int.tmod_eq_emod_of_nonneg (by omega)]
  omega

theorem anchor_ids (b : Fin 8) (j : Fin 5000) : after hostOps0 V (Proc.devRef .tc main_v24) (ix2 b j)
    = IntOp.divsi .host (after hostOps0 V (Proc.devRef .tc main_indices) (ix2 b j)) 90#32 := by
  after_results_simp
  pointwise []

theorem anchor_ids3 (b : Fin 8) (j : Fin 5000) : after hostOps0 V (Proc.devRef .tc main_v27) (ix3 b j (0 : Fin 1))
    = after hostOps0 V (Proc.devRef .tc main_v24) (ix2 b j) := by
  after_results_simp
  pointwise []

theorem class_ids (b : Fin 8) (j : Fin 5000) : after hostOps0 V (Proc.devRef .tc main_v26) (ix2 b j)
    = IntOp.remsi .host (after hostOps0 V (Proc.devRef .tc main_indices) (ix2 b j)) 90#32 := by
  after_results_simp
  pointwise []

/-- A place in a row of 49104, as a word. -/
theorem word_toInt (n : Fin 49104) : (BitVec.ofNat 32 n.val).toInt = n.val := toInt_ofNat (by omega)

theorem not_neg (n : Fin 49104) : IntOp.cmpi .slt (BitVec.ofNat 32 n.val) 0#32 = 0#1 := by
  simp only [IntOp.cmpi, BitVec.slt, word_toInt]
  have : ¬((n.val : ℤ) < 0) := by omega
  simp [this]

/-- A negative start index counts from the end. -/
def wrap3 (I : IVec S8x5000x1 32) : IVec S8x5000x1 32 :=
  select (cmpi .slt I (broadcastInDim S8x5000x1 ![] bcast_S_S8x5000x1 (constantI S_ 32 0#32)))
    (addi I (broadcastInDim S8x5000x1 ![] bcast_S_S8x5000x1 (constantI S_ 32 49104#32))) I

theorem wrap3_apply (I : IVec S8x5000x1 32) (b : Fin 8) (j : Fin 5000) (n : Fin 49104) (hn : I (ix3 b j (0 : Fin 1)) = BitVec.ofNat 32 n.val) :
    wrap3 I (ix3 b j (0 : Fin 1)) = BitVec.ofNat 32 n.val := by
  pointwise [wrap3, hn]
  rw [not_neg]
  rfl

/-- The same, read as a column. -/
def wrap2 (I : IVec S8x5000 32) : IVec S8x5000x1 32 :=
  broadcastInDim S8x5000x1 ![0, 1] bcast_S8x5000_S8x5000x1_0_1 (select (cmpi .slt I (broadcastInDim S8x5000 ![] bcast_S_S8x5000 (constantI S_ 32 0#32)))
    (addi I (broadcastInDim S8x5000 ![] bcast_S_S8x5000 (constantI S_ 32 49104#32))) I)

theorem wrap2_apply (I : IVec S8x5000 32) (b : Fin 8) (j : Fin 5000) (n : Fin 49104) (hn : I (ix2 b j) = BitVec.ofNat 32 n.val) :
    wrap2 I (ix3 b j (0 : Fin 1)) = BitVec.ofNat 32 n.val := by
  pointwise [wrap2, hn]
  rw [not_neg]
  rfl

theorem offsets_of (b : Fin 8) (j : Fin 5000) (l : Fin 4) (n : Fin 49104) (hn : V (Proc.devRef .tc main_v27) (ix3 b j (0 : Fin 1)) = BitVec.ofNat 32 n.val) :
    after hostOps0_1 V (Proc.devRef .tc main_v28) (ix3 b j l) = V (Proc.devRef .tc main_v21) (ix3 b n l) := by
  have e : after hostOps0_1 V (Proc.devRef .tc main_v28)
      = Host.gather gather_S8x49104x4_S8x5000x1_S8x5000x4_2_1_0_0_1_2_114 (V (Proc.devRef .tc main_v21)) (wrap3 (V (Proc.devRef .tc main_v27))) := by
    after_results_simp
    simp only [TRef.ofBuf_toBuf]
    have h1 : ∀ p q r (v : IVec S8x5000x1 32), (TRef.of main_v27 p q r : TRef sig ⟨S8x5000x1, .i32⟩).ofBuf (Val := Elt Ideal) v = v := fun _ _ _ _ => eq_of_heq (cast_heq _ _)
    have h2 : ∀ p q r (v : FVec Ideal S8x49104x4 .f32), (TRef.of main_v21 p q r : TRef sig ⟨S8x49104x4, .f32⟩).ofBuf (Val := Elt Ideal) v = v := fun _ _ _ _ => eq_of_heq (cast_heq _ _)
    have h5 : ∀ p q r (v : FVec Ideal S8x5000x4 .f32), (TRef.of main_v28 p q r : TRef sig ⟨S8x5000x4, .f32⟩).toBuf (Val := Elt Ideal) v = v := fun _ _ _ _ => eq_of_heq (cast_heq _ _)
    simp only [h1, h2, h5]
    rfl
  rw [e]
  refine gather4 _ _ _ b j l n ?_
  rw [wrap3_apply _ b j n hn]
  exact word_toInt n

theorem anchors_of (b : Fin 8) (j : Fin 5000) (l : Fin 4) (n : Fin 49104) (hn : V (Proc.devRef .tc main_v24) (ix2 b j) = BitVec.ofNat 32 n.val) :
    after hostOps0_2 V (Proc.devRef .tc main_v35) (ix3 b j l) = V (Proc.devRef .tc main_arg11) (ix2 n l) := by
  have e : after hostOps0_2 V (Proc.devRef .tc main_v35)
      = Host.gather gather_S49104x4_S8x5000x1_S8x5000x4_2_0_n_n_0_2_14 (V (Proc.devRef .tc main_arg11)) (wrap2 (V (Proc.devRef .tc main_v24))) := by
    after_results_simp
    rfl
  rw [e]
  refine gather2 _ _ _ b j l n ?_
  rw [wrap2_apply _ b j n hn]
  exact word_toInt n

/-- The box before clipping. -/
def raw (t a : Fin 4 → EReal) : Fin 4 → EReal :=
  ![t 0 * (a 2 - a 0) + (a 0 + a 2) * Ideal.ofBits .f32 0x3F000000#32
        - Ideal.exp (t 2) * (a 2 - a 0) * Ideal.ofBits .f32 0x3F000000#32,
    t 1 * (a 3 - a 1) + (a 1 + a 3) * Ideal.ofBits .f32 0x3F000000#32
        - Ideal.exp (t 3) * (a 3 - a 1) * Ideal.ofBits .f32 0x3F000000#32,
    t 0 * (a 2 - a 0) + (a 0 + a 2) * Ideal.ofBits .f32 0x3F000000#32
        + Ideal.exp (t 2) * (a 2 - a 0) * Ideal.ofBits .f32 0x3F000000#32,
    t 1 * (a 3 - a 1) + (a 1 + a 3) * Ideal.ofBits .f32 0x3F000000#32
        + Ideal.exp (t 3) * (a 3 - a 1) * Ideal.ofBits .f32 0x3F000000#32]

theorem raw0 (b : Fin 8) (j : Fin 5000) : after hostOps0_2 V (Proc.devRef .tc main_v78) (ix2 b j)
    = raw (fun l => V (Proc.devRef .tc main_v28) (ix3 b j l)) (fun l => after hostOps0_2 V (Proc.devRef .tc main_v35) (ix3 b j l)) 0 := by
  simp only [raw, Matrix.cons_val]
  after_results_simp
  generalize Host.gather gather_S49104x4_S8x5000x1_S8x5000x4_2_0_n_n_0_2_14 _ _ = G
  pointwise []
  simp only [div_two]

theorem raw1 (b : Fin 8) (j : Fin 5000) : after hostOps0_2 V (Proc.devRef .tc main_v81) (ix2 b j)
    = raw (fun l => V (Proc.devRef .tc main_v28) (ix3 b j l)) (fun l => after hostOps0_2 V (Proc.devRef .tc main_v35) (ix3 b j l)) 1 := by
  simp only [raw, Matrix.cons_val]
  after_results_simp
  generalize Host.gather gather_S49104x4_S8x5000x1_S8x5000x4_2_0_n_n_0_2_14 _ _ = G
  pointwise []
  simp only [div_two]

theorem raw2 (b : Fin 8) (j : Fin 5000) : after hostOps0_2 V (Proc.devRef .tc main_v84) (ix2 b j)
    = raw (fun l => V (Proc.devRef .tc main_v28) (ix3 b j l)) (fun l => after hostOps0_2 V (Proc.devRef .tc main_v35) (ix3 b j l)) 2 := by
  simp only [raw, Matrix.cons_val]
  after_results_simp
  generalize Host.gather gather_S49104x4_S8x5000x1_S8x5000x4_2_0_n_n_0_2_14 _ _ = G
  pointwise []
  simp only [div_two]

theorem raw3 (b : Fin 8) (j : Fin 5000) : after hostOps0_2 V (Proc.devRef .tc main_v87) (ix2 b j)
    = raw (fun l => V (Proc.devRef .tc main_v28) (ix3 b j l)) (fun l => after hostOps0_2 V (Proc.devRef .tc main_v35) (ix3 b j l)) 3 := by
  simp only [raw, Matrix.cons_val]
  after_results_simp
  generalize Host.gather gather_S49104x4_S8x5000x1_S8x5000x4_2_0_n_n_0_2_14 _ _ = G
  pointwise []
  simp only [div_two]

theorem clip3 (b : Fin 8) (j : Fin 5000) (h0 : V (Proc.devRef .tc main_cst_8) = constant (F := Ideal) S_ .f32 0x00000000#32)
    (h1 : V (Proc.devRef .tc main_cst_9) = constant (F := Ideal) S_ .f32 0x44000000#32) :
    after hostOps0_3 V (Proc.devRef .tc main_v88) (ix2 b j) = clip (V (Proc.devRef .tc main_v78) (ix2 b j)) := by
  after_results_simp
  simp only [TRef.ofBuf_toBuf]
  have g1 : ∀ p q r (v : FVec Ideal S_ .f32), (TRef.of main_cst_8 p q r : TRef sig ⟨S_, .f32⟩).ofBuf (Val := Elt Ideal) v = v := fun _ _ _ _ => eq_of_heq (cast_heq _ _)
  have g2 : ∀ p q r (v : FVec Ideal S_ .f32), (TRef.of main_cst_9 p q r : TRef sig ⟨S_, .f32⟩).ofBuf (Val := Elt Ideal) v = v := fun _ _ _ _ => eq_of_heq (cast_heq _ _)
  have g3 : ∀ p q r (v : FVec Ideal S8x5000 .f32), (TRef.of main_v78 p q r : TRef sig ⟨S8x5000, .f32⟩).ofBuf (Val := Elt Ideal) v = v := fun _ _ _ _ => eq_of_heq (cast_heq _ _)
  have g4 : ∀ p q r (v : FVec Ideal S8x5000 .f32), (TRef.of main_v88 p q r : TRef sig ⟨S8x5000, .f32⟩).toBuf (Val := Elt Ideal) v = v := fun _ _ _ _ => eq_of_heq (cast_heq _ _)
  simp only [g1, g2, g3, g4, h0, h1]
  simp only [id]
  pointwise [clip]

theorem bounds2 : after hostOps0_2 V (Proc.devRef .tc main_cst_8) = constant (F := Ideal) S_ .f32 0x00000000#32
    ∧ after hostOps0_2 V (Proc.devRef .tc main_cst_9) = constant (F := Ideal) S_ .f32 0x44000000#32 := by
  constructor <;> after_results

theorem clip5 (b : Fin 8) (j : Fin 5000) (h0 : V (Proc.devRef .tc main_cst_10) = constant (F := Ideal) S_ .f32 0x00000000#32)
    (h1 : V (Proc.devRef .tc main_cst_11) = constant (F := Ideal) S_ .f32 0x44000000#32) :
    after hostOps0_5 V (Proc.devRef .tc main_v89) (ix2 b j) = clip (V (Proc.devRef .tc main_v81) (ix2 b j)) := by
  after_results_simp
  simp only [TRef.ofBuf_toBuf]
  have g1 : ∀ p q r (v : FVec Ideal S_ .f32), (TRef.of main_cst_10 p q r : TRef sig ⟨S_, .f32⟩).ofBuf (Val := Elt Ideal) v = v := fun _ _ _ _ => eq_of_heq (cast_heq _ _)
  have g2 : ∀ p q r (v : FVec Ideal S_ .f32), (TRef.of main_cst_11 p q r : TRef sig ⟨S_, .f32⟩).ofBuf (Val := Elt Ideal) v = v := fun _ _ _ _ => eq_of_heq (cast_heq _ _)
  have g3 : ∀ p q r (v : FVec Ideal S8x5000 .f32), (TRef.of main_v81 p q r : TRef sig ⟨S8x5000, .f32⟩).ofBuf (Val := Elt Ideal) v = v := fun _ _ _ _ => eq_of_heq (cast_heq _ _)
  have g4 : ∀ p q r (v : FVec Ideal S8x5000 .f32), (TRef.of main_v89 p q r : TRef sig ⟨S8x5000, .f32⟩).toBuf (Val := Elt Ideal) v = v := fun _ _ _ _ => eq_of_heq (cast_heq _ _)
  simp only [g1, g2, g3, g4, h0, h1]
  simp only [id]
  pointwise [clip]

theorem bounds4 : after hostOps0_4 V (Proc.devRef .tc main_cst_10) = constant (F := Ideal) S_ .f32 0x00000000#32
    ∧ after hostOps0_4 V (Proc.devRef .tc main_cst_11) = constant (F := Ideal) S_ .f32 0x44000000#32 := by
  constructor <;> after_results

theorem clip7 (b : Fin 8) (j : Fin 5000) (h0 : V (Proc.devRef .tc main_cst_12) = constant (F := Ideal) S_ .f32 0x00000000#32)
    (h1 : V (Proc.devRef .tc main_cst_13) = constant (F := Ideal) S_ .f32 0x44000000#32) :
    after hostOps0_7 V (Proc.devRef .tc main_v90) (ix2 b j) = clip (V (Proc.devRef .tc main_v84) (ix2 b j)) := by
  after_results_simp
  simp only [TRef.ofBuf_toBuf]
  have g1 : ∀ p q r (v : FVec Ideal S_ .f32), (TRef.of main_cst_12 p q r : TRef sig ⟨S_, .f32⟩).ofBuf (Val := Elt Ideal) v = v := fun _ _ _ _ => eq_of_heq (cast_heq _ _)
  have g2 : ∀ p q r (v : FVec Ideal S_ .f32), (TRef.of main_cst_13 p q r : TRef sig ⟨S_, .f32⟩).ofBuf (Val := Elt Ideal) v = v := fun _ _ _ _ => eq_of_heq (cast_heq _ _)
  have g3 : ∀ p q r (v : FVec Ideal S8x5000 .f32), (TRef.of main_v84 p q r : TRef sig ⟨S8x5000, .f32⟩).ofBuf (Val := Elt Ideal) v = v := fun _ _ _ _ => eq_of_heq (cast_heq _ _)
  have g4 : ∀ p q r (v : FVec Ideal S8x5000 .f32), (TRef.of main_v90 p q r : TRef sig ⟨S8x5000, .f32⟩).toBuf (Val := Elt Ideal) v = v := fun _ _ _ _ => eq_of_heq (cast_heq _ _)
  simp only [g1, g2, g3, g4, h0, h1]
  simp only [id]
  pointwise [clip]

theorem bounds6 : after hostOps0_6 V (Proc.devRef .tc main_cst_12) = constant (F := Ideal) S_ .f32 0x00000000#32
    ∧ after hostOps0_6 V (Proc.devRef .tc main_cst_13) = constant (F := Ideal) S_ .f32 0x44000000#32 := by
  constructor <;> after_results

theorem clip9 (b : Fin 8) (j : Fin 5000) (h0 : V (Proc.devRef .tc main_cst_14) = constant (F := Ideal) S_ .f32 0x00000000#32)
    (h1 : V (Proc.devRef .tc main_cst_15) = constant (F := Ideal) S_ .f32 0x44000000#32) :
    after hostOps0_9 V (Proc.devRef .tc main_v91) (ix2 b j) = clip (V (Proc.devRef .tc main_v87) (ix2 b j)) := by
  after_results_simp
  simp only [TRef.ofBuf_toBuf]
  have g1 : ∀ p q r (v : FVec Ideal S_ .f32), (TRef.of main_cst_14 p q r : TRef sig ⟨S_, .f32⟩).ofBuf (Val := Elt Ideal) v = v := fun _ _ _ _ => eq_of_heq (cast_heq _ _)
  have g2 : ∀ p q r (v : FVec Ideal S_ .f32), (TRef.of main_cst_15 p q r : TRef sig ⟨S_, .f32⟩).ofBuf (Val := Elt Ideal) v = v := fun _ _ _ _ => eq_of_heq (cast_heq _ _)
  have g3 : ∀ p q r (v : FVec Ideal S8x5000 .f32), (TRef.of main_v87 p q r : TRef sig ⟨S8x5000, .f32⟩).ofBuf (Val := Elt Ideal) v = v := fun _ _ _ _ => eq_of_heq (cast_heq _ _)
  have g4 : ∀ p q r (v : FVec Ideal S8x5000 .f32), (TRef.of main_v91 p q r : TRef sig ⟨S8x5000, .f32⟩).toBuf (Val := Elt Ideal) v = v := fun _ _ _ _ => eq_of_heq (cast_heq _ _)
  simp only [g1, g2, g3, g4, h0, h1]
  simp only [id]
  pointwise [clip]

theorem bounds8 : after hostOps0_8 V (Proc.devRef .tc main_cst_14) = constant (F := Ideal) S_ .f32 0x00000000#32
    ∧ after hostOps0_8 V (Proc.devRef .tc main_cst_15) = constant (F := Ideal) S_ .f32 0x44000000#32 := by
  constructor <;> after_results

theorem scores (b : Fin 8) (j : Fin 5000) : after hostOps0_10 V (Proc.devRef .tc main_v100_7) (ix2 b j) = Ideal.logistic (V (Proc.devRef .tc main_values) (ix2 b j)) := by
  after_results_simp
  simp only [id]
  pointwise []
  rw [Ideal.logistic]

theorem scale (b : Fin 8) : after hostOps0_10 V (Proc.devRef .tc main_v100_5) (ix2 b (0 : Fin 1)) = V (Proc.devRef .tc main_arg10) (ix1 b) := by
  after_results_simp
  simp only [id]
  pointwise []

theorem carried : after hostOps0_10 V (Proc.devRef .tc main_v100_0) = V (Proc.devRef .tc main_v88)
    ∧ after hostOps0_10 V (Proc.devRef .tc main_v100_1) = V (Proc.devRef .tc main_v89)
    ∧ after hostOps0_10 V (Proc.devRef .tc main_v100_2) = V (Proc.devRef .tc main_v90)
    ∧ after hostOps0_10 V (Proc.devRef .tc main_v100_3) = V (Proc.devRef .tc main_v91)
    ∧ after hostOps0_10 V (Proc.devRef .tc main_v100_4) = V (Proc.devRef .tc main_v26) := by
  refine ⟨?_, ?_, ?_, ?_, ?_⟩ <;> (after_results; rfl)

end Cert.RefEntry

end
-- ==== Proof.RefStart.lean ====
/-
  The contents of the reference's loop-carried buffers on entry to its loop, as functions of the arguments.
-/
module

public import proofs.«01_k».proof.Proof.RefEntry

@[expose] public section

set_option maxRecDepth 16384

noncomputable section

namespace Cert.RefStart

open Idealize.ShloMosaic Idealize.ShloMosaic.TcCoe Idealize.ShloMosaic.StableHlo Cert.Pick Cert.Folds Cert.Data Cert.Box Cert.RefEntry
open Cert.ReferenceIdeal Cert.ReferenceIdeal.Gen Cert.ReferenceIdeal.Value

variable (V : Valuation τ sig (Elt Ideal))

/-- The logits and the offsets of image `b`, the place of its `j`-th largest logit and the box of an anchor. -/
def logits (b : Fin 8) : Fin 810 → Fin 5456 → EReal :=
  chan (V (Proc.devRef .tc main_arg0)) (V (Proc.devRef .tc main_arg1)) (V (Proc.devRef .tc main_arg2)) (V (Proc.devRef .tc main_arg3)) (V (Proc.devRef .tc main_arg4)) b
def offs (b : Fin 8) : Fin 36 → Fin 5456 → EReal :=
  chan (V (Proc.devRef .tc main_arg5)) (V (Proc.devRef .tc main_arg6)) (V (Proc.devRef .tc main_arg7)) (V (Proc.devRef .tc main_arg8)) (V (Proc.devRef .tc main_arg9)) b
def cand (b : Fin 8) (j : Fin 5000) : Fin 4419360 := rank (by decide : 5000 ≤ 4419360) (key (logits V b)) j
def box (b : Fin 8) (r : Fin 49104) : Fin 4 → EReal := abox (offs V b) (V (Proc.devRef .tc main_arg11)) r

/-- The contents after each stretch of operations before the loop. -/
def U0 : Valuation τ sig (Elt Ideal) := after hostOps0 V
def U1 : Valuation τ sig (Elt Ideal) := after hostOps0_1 (U0 V)
def U2 : Valuation τ sig (Elt Ideal) := after hostOps0_2 (U1 V)
def U3 : Valuation τ sig (Elt Ideal) := after hostOps0_3 (U2 V)
def U4 : Valuation τ sig (Elt Ideal) := after hostOps0_4 (U3 V)
def U5 : Valuation τ sig (Elt Ideal) := after hostOps0_5 (U4 V)
def U6 : Valuation τ sig (Elt Ideal) := after hostOps0_6 (U5 V)
def U7 : Valuation τ sig (Elt Ideal) := after hostOps0_7 (U6 V)
def U8 : Valuation τ sig (Elt Ideal) := after hostOps0_8 (U7 V)
def U9 : Valuation τ sig (Elt Ideal) := after hostOps0_9 (U8 V)
def U10 : Valuation τ sig (Elt Ideal) := after hostOps0_10 (U9 V)

theorem keep0 (r : Ref sig .tc) (h : r ∉ hostOps0_W) : U0 V (Proc.devRef .tc r) = V (Proc.devRef .tc r) :=
  StableHlo.after_of_writes_sub hostOps0 _ hostOps0_writes h
theorem keep1 (r : Ref sig .tc) (h : r ∉ hostOps0_1_W) : U1 V (Proc.devRef .tc r) = U0 V (Proc.devRef .tc r) :=
  StableHlo.after_of_writes_sub hostOps0_1 _ hostOps0_1_writes h
theorem keep2 (r : Ref sig .tc) (h : r ∉ hostOps0_2_W) : U2 V (Proc.devRef .tc r) = U1 V (Proc.devRef .tc r) :=
  StableHlo.after_of_writes_sub hostOps0_2 _ hostOps0_2_writes h
theorem keep3 (r : Ref sig .tc) (h : r ∉ hostOps0_3_W) : U3 V (Proc.devRef .tc r) = U2 V (Proc.devRef .tc r) :=
  StableHlo.after_of_writes_sub hostOps0_3 _ hostOps0_3_writes h
theorem keep4 (r : Ref sig .tc) (h : r ∉ hostOps0_4_W) : U4 V (Proc.devRef .tc r) = U3 V (Proc.devRef .tc r) :=
  StableHlo.after_of_writes_sub hostOps0_4 _ hostOps0_4_writes h
theorem keep5 (r : Ref sig .tc) (h : r ∉ hostOps0_5_W) : U5 V (Proc.devRef .tc r) = U4 V (Proc.devRef .tc r) :=
  StableHlo.after_of_writes_sub hostOps0_5 _ hostOps0_5_writes h
theorem keep6 (r : Ref sig .tc) (h : r ∉ hostOps0_6_W) : U6 V (Proc.devRef .tc r) = U5 V (Proc.devRef .tc r) :=
  StableHlo.after_of_writes_sub hostOps0_6 _ hostOps0_6_writes h
theorem keep7 (r : Ref sig .tc) (h : r ∉ hostOps0_7_W) : U7 V (Proc.devRef .tc r) = U6 V (Proc.devRef .tc r) :=
  StableHlo.after_of_writes_sub hostOps0_7 _ hostOps0_7_writes h
theorem keep8 (r : Ref sig .tc) (h : r ∉ hostOps0_8_W) : U8 V (Proc.devRef .tc r) = U7 V (Proc.devRef .tc r) :=
  StableHlo.after_of_writes_sub hostOps0_8 _ hostOps0_8_writes h
theorem keep9 (r : Ref sig .tc) (h : r ∉ hostOps0_9_W) : U9 V (Proc.devRef .tc r) = U8 V (Proc.devRef .tc r) :=
  StableHlo.after_of_writes_sub hostOps0_9 _ hostOps0_9_writes h
theorem keep10 (r : Ref sig .tc) (h : r ∉ hostOps0_10_W) : U10 V (Proc.devRef .tc r) = U9 V (Proc.devRef .tc r) :=
  StableHlo.after_of_writes_sub hostOps0_10 _ hostOps0_10_writes h

theorem cands_eq (b : Fin 8) : (fun q => U0 V (Proc.devRef .tc main_v22) (ix2 b q)) = key (logits V b) := funext fun q => cands V b q

theorem values_eq (b : Fin 8) (j : Fin 5000) : U0 V (Proc.devRef .tc main_values) (ix2 b j) = key (logits V b) (cand V b j) := by
  refine (values V b j).trans ?_
  refine (cands V b _).trans ?_
  exact congrArg (fun k => key (logits V b) (rank (by decide : 5000 ≤ 4419360) k j)) (cands_eq V b)

theorem indices_eq (b : Fin 8) (j : Fin 5000) : U0 V (Proc.devRef .tc main_indices) (ix2 b j) = BitVec.ofNat 32 (cand V b j).val := by
  refine (indices V b j).trans ?_
  exact congrArg (fun k => BitVec.ofNat 32 (rank (by decide : 5000 ≤ 4419360) k j).val) (cands_eq V b)

theorem anchor_eq (b : Fin 8) (j : Fin 5000) : U0 V (Proc.devRef .tc main_v24) (ix2 b j) = BitVec.ofNat 32 (anc (cand V b j)).val := by
  refine (anchor_ids V b j).trans ?_
  exact (congrArg (fun w => IntOp.divsi .host w 90#32) (indices_eq V b j)).trans (word_div _)

theorem anchor3_eq (b : Fin 8) (j : Fin 5000) : U0 V (Proc.devRef .tc main_v27) (ix3 b j (0 : Fin 1)) = BitVec.ofNat 32 (anc (cand V b j)).val :=
  (anchor_ids3 V b j).trans (anchor_eq V b j)

theorem class_eq (b : Fin 8) (j : Fin 5000) : U0 V (Proc.devRef .tc main_v26) (ix2 b j) = BitVec.ofNat 32 ((cand V b j).val % 90) := by
  refine (class_ids V b j).trans ?_
  exact (congrArg (fun w => IntOp.remsi .host w 90#32) (indices_eq V b j)).trans (word_rem _)

theorem offs_eq (b : Fin 8) (j : Fin 5000) (l : Fin 4) : U1 V (Proc.devRef .tc main_v28) (ix3 b j l)
    = offs V b (brow (shape (anc (cand V b j))) l) (place (anc (cand V b j))) :=
  (offsets_of (U0 V) b j l _ (anchor3_eq V b j)).trans (rows4 V b _ l)

theorem anchors_eq (b : Fin 8) (j : Fin 5000) (l : Fin 4) : U2 V (Proc.devRef .tc main_v35) (ix3 b j l)
    = V (Proc.devRef .tc main_arg11) (ix2 (anc (cand V b j)) l) := by
  refine (anchors_of (U1 V) b j l (anc (cand V b j)) ?_).trans ?_
  · rw [keep1 V main_v24 (by decide), anchor_eq]
  · rw [keep1 V main_arg11 (by decide), keep0 V main_arg11 (by decide)]

/-- The box of candidate `j` before clipping. -/
def unclipped (b : Fin 8) (j : Fin 5000) : Fin 4 → EReal :=
  raw (fun l => offs V b (brow (shape (anc (cand V b j))) l) (place (anc (cand V b j)))) (fun l => V (Proc.devRef .tc main_arg11) (ix2 (anc (cand V b j)) l))

theorem clip_raw (t a : Fin 4 → EReal) : decode t a = fun l => clip (raw t a l) := by
  unfold decode raw
  funext l
  fin_cases l <;> rfl

theorem clip_unclipped (b : Fin 8) (j : Fin 5000) (l : Fin 4) : clip (unclipped V b j l) = box V b (anc (cand V b j)) l := by
  unfold box abox
  rw [clip_raw]
  rfl

theorem raw_eq (b : Fin 8) (j : Fin 5000) :
    raw (fun l => U1 V (Proc.devRef .tc main_v28) (ix3 b j l)) (fun l => U2 V (Proc.devRef .tc main_v35) (ix3 b j l)) = unclipped V b j := by
  unfold unclipped
  exact congrArg₂ raw (funext fun l => offs_eq V b j l) (funext fun l => anchors_eq V b j l)

theorem unclipped0 (b : Fin 8) (j : Fin 5000) : U2 V (Proc.devRef .tc main_v78) (ix2 b j) = unclipped V b j 0 := by
  have h := raw0 (U1 V) b j
  rw [show after hostOps0_2 (U1 V) = U2 V from rfl, raw_eq V b j] at h
  exact h

theorem unclipped1 (b : Fin 8) (j : Fin 5000) : U2 V (Proc.devRef .tc main_v81) (ix2 b j) = unclipped V b j 1 := by
  have h := raw1 (U1 V) b j
  rw [show after hostOps0_2 (U1 V) = U2 V from rfl, raw_eq V b j] at h
  exact h

theorem unclipped2 (b : Fin 8) (j : Fin 5000) : U2 V (Proc.devRef .tc main_v84) (ix2 b j) = unclipped V b j 2 := by
  have h := raw2 (U1 V) b j
  rw [show after hostOps0_2 (U1 V) = U2 V from rfl, raw_eq V b j] at h
  exact h

theorem unclipped3 (b : Fin 8) (j : Fin 5000) : U2 V (Proc.devRef .tc main_v87) (ix2 b j) = unclipped V b j 3 := by
  have h := raw3 (U1 V) b j
  rw [show after hostOps0_2 (U1 V) = U2 V from rfl, raw_eq V b j] at h
  exact h

theorem plane0 (b : Fin 8) (j : Fin 5000) : U10 V (Proc.devRef .tc main_v100_0) (ix2 b j) = box V b (anc (cand V b j)) 0 := by
  refine (congrFun (carried (U9 V)).1 _).trans ?_
  rw [keep9 V main_v88 (by decide), keep8 V main_v88 (by decide), keep7 V main_v88 (by decide), keep6 V main_v88 (by decide), keep5 V main_v88 (by decide), keep4 V main_v88 (by decide)]
  refine (clip3 (U2 V) b j (bounds2 (U1 V)).1 (bounds2 (U1 V)).2).trans ?_
  skip
  rw [unclipped0 V b j, clip_unclipped]

theorem plane1 (b : Fin 8) (j : Fin 5000) : U10 V (Proc.devRef .tc main_v100_1) (ix2 b j) = box V b (anc (cand V b j)) 1 := by
  refine (congrFun (carried (U9 V)).2.1 _).trans ?_
  rw [keep9 V main_v89 (by decide), keep8 V main_v89 (by decide), keep7 V main_v89 (by decide), keep6 V main_v89 (by decide)]
  refine (clip5 (U4 V) b j (bounds4 (U3 V)).1 (bounds4 (U3 V)).2).trans ?_
  rw [keep4 V main_v81 (by decide), keep3 V main_v81 (by decide)]
  rw [unclipped1 V b j, clip_unclipped]

theorem plane2 (b : Fin 8) (j : Fin 5000) : U10 V (Proc.devRef .tc main_v100_2) (ix2 b j) = box V b (anc (cand V b j)) 2 := by
  refine (congrFun (carried (U9 V)).2.2.1 _).trans ?_
  rw [keep9 V main_v90 (by decide), keep8 V main_v90 (by decide)]
  refine (clip7 (U6 V) b j (bounds6 (U5 V)).1 (bounds6 (U5 V)).2).trans ?_
  rw [keep6 V main_v84 (by decide), keep5 V main_v84 (by decide), keep4 V main_v84 (by decide), keep3 V main_v84 (by decide)]
  rw [unclipped2 V b j, clip_unclipped]

theorem plane3 (b : Fin 8) (j : Fin 5000) : U10 V (Proc.devRef .tc main_v100_3) (ix2 b j) = box V b (anc (cand V b j)) 3 := by
  refine (congrFun (carried (U9 V)).2.2.2.1 _).trans ?_
  skip
  refine (clip9 (U8 V) b j (bounds8 (U7 V)).1 (bounds8 (U7 V)).2).trans ?_
  rw [keep8 V main_v87 (by decide), keep7 V main_v87 (by decide), keep6 V main_v87 (by decide), keep5 V main_v87 (by decide), keep4 V main_v87 (by decide), keep3 V main_v87 (by decide)]
  rw [unclipped3 V b j, clip_unclipped]

theorem classes (b : Fin 8) (j : Fin 5000) : U10 V (Proc.devRef .tc main_v100_4) (ix2 b j) = BitVec.ofNat 32 ((cand V b j).val % 90) := by
  refine (congrFun (carried (U9 V)).2.2.2.2 _).trans ?_
  rw [keep9 V main_v26 (by decide), keep8 V main_v26 (by decide), keep7 V main_v26 (by decide), keep6 V main_v26 (by decide), keep5 V main_v26 (by decide), keep4 V main_v26 (by decide), keep3 V main_v26 (by decide), keep2 V main_v26 (by decide), keep1 V main_v26 (by decide)]
  exact class_eq V b j

theorem scales (b : Fin 8) : U10 V (Proc.devRef .tc main_v100_5) (ix2 b (0 : Fin 1)) = V (Proc.devRef .tc main_arg10) (ix1 b) := by
  refine (scale (U9 V) b).trans ?_
  rw [keep9 V main_arg10 (by decide), keep8 V main_arg10 (by decide), keep7 V main_arg10 (by decide), keep6 V main_arg10 (by decide), keep5 V main_arg10 (by decide), keep4 V main_arg10 (by decide), keep3 V main_arg10 (by decide), keep2 V main_arg10 (by decide), keep1 V main_arg10 (by decide), keep0 V main_arg10 (by decide)]

theorem start (b : Fin 8) (j : Fin 5000) : U10 V (Proc.devRef .tc main_v100_7) (ix2 b j) = Ideal.logistic (key (logits V b) (cand V b j)) := by
  refine (scores (U9 V) b j).trans ?_
  rw [keep9 V main_values (by decide), keep8 V main_values (by decide), keep7 V main_values (by decide), keep6 V main_values (by decide), keep5 V main_values (by decide), keep4 V main_values (by decide), keep3 V main_values (by decide), keep2 V main_values (by decide), keep1 V main_values (by decide), values_eq]

theorem counter : U10 V (Proc.devRef .tc main_v100_6) = fun _ => (0#32 : BitVec 32) := by
  show after hostOps0_10 (U9 V) (Proc.devRef .tc main_v100_6) = _
  after_results
  rfl

end Cert.RefStart

end
-- ==== Proof.RefStep.lean ====
/-
  One trip of the reference's loop, read at one index: the pick, the struck-out scores and the row it writes.
-/
module

public import proofs.«01_k».proof.Proof.RefEntry
public import proofs.«01_k».proof.Proof.NmsStep

@[expose] public section

set_option maxRecDepth 16384

noncomputable section

namespace Cert.RefStep

open Idealize.ShloMosaic Idealize.ShloMosaic.TcCoe Idealize.ShloMosaic.StableHlo Cert.Pick Cert.Folds Cert.Gather Cert.Box
open Cert.ReferenceIdeal Cert.ReferenceIdeal.Gen Cert.ReferenceIdeal.Value

variable (V : Valuation τ sig (Elt Ideal))

/-- The four planes as a family of boxes. -/
def boxes (b : Fin 8) (j : Fin 5000) : Fin 4 → EReal :=
  ![V (Proc.devRef .tc main_v100_0) (ix2 b j), V (Proc.devRef .tc main_v100_1) (ix2 b j), V (Proc.devRef .tc main_v100_2) (ix2 b j), V (Proc.devRef .tc main_v100_3) (ix2 b j)]

/-- The place of the first largest score. -/
def best (b : Fin 8) : Fin 5000 := rank (by decide : 1 ≤ 5000) (fun j => V (Proc.devRef .tc main_v100_7) (ix2 b j)) 0

theorem best_first (b : Fin 8) : FirstMax (fun j => V (Proc.devRef .tc main_v100_7) (ix2 b j)) (best V b) := rank_one (by decide) _

theorem top_index (b : Fin 8) : res_main_while0b_indices_29 V (ix2 b (0 : Fin 1)) = BitVec.ofNat 32 (best V b).val :=
  topK_places (by decide : 1 ≤ 5000) (V (Proc.devRef .tc main_v100_7)) sliceFits_S8x5000_S8x1 b 0

theorem top_value (b : Fin 8) : (Host.topK S8x1 1 (FloatOps.cmpfTotal (F := Ideal) (φ := .f32) .gt) (V (Proc.devRef .tc main_v100_7)) sliceFits_S8x5000_S8x1).1 (ix2 b (0 : Fin 1))
    = V (Proc.devRef .tc main_v100_7) (ix2 b (best V b)) :=
  topK_values (by decide : 1 ≤ 5000) (V (Proc.devRef .tc main_v100_7)) sliceFits_S8x5000_S8x1 b 0

/-- A negative start index counts from the end; the index as a column. -/
def wrap (I : IVec S8x1 32) : IVec S8x1x1 32 :=
  shapeCast S8x1x1 (select (cmpi .slt I (broadcastInDim S8x1 ![] bcast_S_S8x1 (constantI S_ 32 0#32)))
    (addi I (broadcastInDim S8x1 ![] bcast_S_S8x1 (constantI S_ 32 5000#32))) I) shapeCasts_S8x1_S8x1x1

theorem wrap_apply (I : IVec S8x1 32) (b : Fin 8) (n : Fin 5000) (hn : I (ix2 b (0 : Fin 1)) = BitVec.ofNat 32 n.val) :
    wrap I (ix3 b (0 : Fin 1) (0 : Fin 1)) = BitVec.ofNat 32 n.val := by
  pointwise [wrap, hn]
  have e : IntOp.cmpi .slt (BitVec.ofNat 32 n.val) 0#32 = 0#1 := by
    simp only [IntOp.cmpi, BitVec.slt, toInt_ofNat (j := n.val) (by omega)]
    have : ¬((n.val : ℤ) < 0) := by omega
    simp [this]
  rw [e]
  rfl

theorem picked {α : Type} (x : S8x5000.Idx → α) (b : Fin 8) :
    Host.gather gather_S8x5000_S8x1x1_S8x1_n_1_0_0_1_2_11 x (wrap (res_main_while0b_indices_29 V)) (ix2 b (0 : Fin 1)) = x (ix2 b (best V b)) := by
  refine gather1 _ x _ b (0 : Fin 1) (best V b) ?_
  rw [wrap_apply _ b (best V b) (top_index V b)]
  exact toInt_ofNat (by omega)

theorem coord0 (b : Fin 8) : res_main_while0b_v102 V (ix2 b (0 : Fin 1)) = V (Proc.devRef .tc main_v100_0) (ix2 b (best V b)) := picked V _ b
theorem coord1 (b : Fin 8) : res_main_while0b_v103 V (ix2 b (0 : Fin 1)) = V (Proc.devRef .tc main_v100_1) (ix2 b (best V b)) := picked V _ b
theorem coord2 (b : Fin 8) : res_main_while0b_v104 V (ix2 b (0 : Fin 1)) = V (Proc.devRef .tc main_v100_2) (ix2 b (best V b)) := picked V _ b
theorem coord3 (b : Fin 8) : res_main_while0b_v105 V (ix2 b (0 : Fin 1)) = V (Proc.devRef .tc main_v100_3) (ix2 b (best V b)) := picked V _ b

theorem same_place (j p : Fin 5000) : IntOp.cmpi .eq (BitVec.ofNat 32 j.val) (BitVec.ofNat 32 p.val) = BitVec.ofBool (decide (j = p)) := by
  show BitVec.ofBool (BitVec.ofNat 32 j.val == BitVec.ofNat 32 p.val) = _
  congr 1
  rw [beq_eq_decide, decide_eq_decide]
  exact ofNat_inj (by norm_num) j p

theorem select_or (P Q : Prop) [Decidable P] [Decidable Q] [Decidable (P ∨ Q)] (x y : EReal) :
    Scalar.select (BitVec.ofBool (decide Q)) x (if P then x else y) = if P ∨ Q then x else y := by
  by_cases hQ : Q
  · rw [decide_eq_true hQ, if_pos (Or.inr hQ)]; rfl
  · rw [decide_eq_false hQ]
    by_cases hP : P
    · rw [if_pos hP, if_pos (Or.inl hP)]; rfl
    · rw [if_neg hP, if_neg (not_or.mpr ⟨hP, hQ⟩)]; rfl

open Classical in
theorem scores_step (b : Fin 8) (j : Fin 5000) : step_main_v100_7 V (ix2 b j)
    = if Over (boxes V b (best V b)) (boxes V b j) ∨ j = best V b then low else V (Proc.devRef .tc main_v100_7) (ix2 b j) := by
  simp only [step_main_v100_7, id]
  pointwise [res_main_while0b_v124]
  rw [coord0, coord1, coord2, coord3, top_index, same_place]
  have hb : ∀ i, (V (Proc.devRef .tc main_v100_0) (ix2 b i) = boxes V b i 0) ∧ (V (Proc.devRef .tc main_v100_1) (ix2 b i) = boxes V b i 1)
    ∧ (V (Proc.devRef .tc main_v100_2) (ix2 b i) = boxes V b i 2) ∧ (V (Proc.devRef .tc main_v100_3) (ix2 b i) = boxes V b i 3) := fun _ => ⟨rfl, rfl, rfl, rfl⟩
  rw [(hb _).1, (hb _).2.1, (hb _).2.2.1, (hb _).2.2.2, (hb j).1, (hb j).2.1, (hb j).2.2.1, (hb j).2.2.2]
  generalize V (Proc.devRef .tc main_v100_7) (ix2 b j) = y
  generalize boxes V b (best V b) = B
  generalize boxes V b j = C
  generalize best V b = p
  refine Eq.trans ?_ (select_or (Over B C) (j = p) low y)
  unfold Over iou
  congr

/-- A row written into the stack of rows. -/
theorem put_row {α : Type} (x : S100x8x6.Idx → α) (u : S1x8x6.Idx → α) (start : Fin 3 → Int) (h) (k : Fin 100) (h0 : start 0 = k.val) (h1 : start 1 = 0) (h2 : start 2 = 0)
    (i : Fin 100) (b : Fin 8) (l : Fin 6) : Host.dynamicUpdateSlice (s := S100x8x6) (u := S1x8x6) x u start h (ix3 i b l) = if i = k then u (ix3 (0 : Fin 1) b l) else x (ix3 i b l) := by
  have e0 : Host.clampedStart S100x8x6 S1x8x6 h.1 start 0 = k.val := by
    show (min (max (start 0) 0) ((99 : ℕ) : Int)).toNat = _
    rw [h0]; omega
  have e1 : Host.clampedStart S100x8x6 S1x8x6 h.1 start 1 = 0 := by
    show (min (max (start 1) 0) ((0 : ℕ) : Int)).toNat = _
    rw [h1]; omega
  have e2 : Host.clampedStart S100x8x6 S1x8x6 h.1 start 2 = 0 := by
    show (min (max (start 2) 0) ((0 : ℕ) : Int)).toNat = _
    rw [h2]; omega
  pointwise []
  by_cases hi : i = k
  · rw [dif_pos (by rw [e0, e1, e2]; omega), if_pos hi]
    congr 1
    refine congr (congr (congrArg _ ?_) ?_) ?_
    · apply Fin.ext; show i.val - _ = 0; rw [e0]; omega
    · apply Fin.ext; show b.val - _ = b.val; rw [e1]; omega
    · apply Fin.ext; show l.val - _ = l.val; rw [e2]; omega
  · rw [dif_neg (by rw [e0]; omega), if_neg hi]

theorem row_step (b : Fin 8) (k : Fin 100) (hk : V (Proc.devRef .tc main_v100_6) (Shape.Idx.first h_S_) = BitVec.ofNat 32 k.val) (i : Fin 100) (l : Fin 6) :
    step_main_v100_8 V (ix3 i b l) = if i = k then NmsStep.det (boxes V b (best V b)) (V (Proc.devRef .tc main_v100_5) (ix2 b (0 : Fin 1)))
        (V (Proc.devRef .tc main_v100_7) (ix2 b (best V b))) (FloatOps.sitofp (F := Ideal) FTy.f32 (V (Proc.devRef .tc main_v100_4) (ix2 b (best V b))) + 1) l
      else V (Proc.devRef .tc main_v100_8) (ix3 i b l) := by
  simp only [step_main_v100_8, id]
  refine (put_row _ _ _ _ k ?_ ?_ ?_ i b l).trans ?_
  · show (V (Proc.devRef .tc main_v100_6) (Shape.Idx.first h_S_)).toInt = _
    rw [hk]
    exact toInt_ofNat (by omega)
  · rfl
  · rfl
  · congr 1
    generalize hg : Host.gather gather_S8x5000_S8x1x1_S8x1_n_1_0_0_1_2_11 _ _ = G
    have hG : G (ix2 b (0 : Fin 1)) = V (Proc.devRef .tc main_v100_4) (ix2 b (best V b)) := by
      rw [← hg]
      exact picked V _ b
    generalize hT : (Host.topK S8x1 1 (FloatOps.cmpfTotal (F := Ideal) (φ := .f32) .gt) (V (Proc.devRef .tc main_v100_7)) sliceFits_S8x5000_S8x1).1 = T
    have hT' : T (ix2 b (0 : Fin 1)) = V (Proc.devRef .tc main_v100_7) (ix2 b (best V b)) := by
      rw [← hT]
      exact top_value V b
    pointwise []
    fin_cases l
    · simp [NmsStep.det, boxes, coord1]
    · simp [NmsStep.det, boxes, coord0]
    · simp [NmsStep.det, boxes, coord3]
    · simp [NmsStep.det, boxes, coord2]
    · simp [NmsStep.det, hT']
    · simp [NmsStep.det, hG]

end Cert.RefStep

end
-- ==== Proof.RefOut.lean ====
/-
  The whole reference, image by image: a greedy selection over the 5000 pairs of an anchor and a class with the largest
  logits.
-/
module

public import proofs.«01_k».proof.Proof.RefStart
public import proofs.«01_k».proof.Proof.RefStep

@[expose] public section

set_option maxRecDepth 16384

noncomputable section

namespace Cert.RefOut

open Idealize.ShloMosaic Idealize.ShloMosaic.TcCoe Idealize.ShloMosaic.StableHlo Cert.Pick Cert.Folds Cert.Box Cert.Data Cert.RefStep
open Cert.ReferenceIdeal Cert.ReferenceIdeal.Gen Cert.ReferenceIdeal.Value

section
variable (E : Valuation τ sig (Elt Ideal))

/-- The contents before trip `t`. -/
def at_ (t : ℕ) : Valuation τ sig (Elt Ideal) := STEP^[t] E

theorem at_succ (t : ℕ) : at_ E (t + 1) = STEP (at_ E t) := Function.iterate_succ_apply' STEP t E

theorem fixed0 (t : ℕ) : at_ E t (Proc.devRef .tc main_v100_0) = E (Proc.devRef .tc main_v100_0) := by
  induction t with
  | zero => rfl
  | succ t ih => rw [at_succ, STEP_main_v100_0, ih]
theorem fixed1 (t : ℕ) : at_ E t (Proc.devRef .tc main_v100_1) = E (Proc.devRef .tc main_v100_1) := by
  induction t with
  | zero => rfl
  | succ t ih => rw [at_succ, STEP_main_v100_1, ih]
theorem fixed2 (t : ℕ) : at_ E t (Proc.devRef .tc main_v100_2) = E (Proc.devRef .tc main_v100_2) := by
  induction t with
  | zero => rfl
  | succ t ih => rw [at_succ, STEP_main_v100_2, ih]
theorem fixed3 (t : ℕ) : at_ E t (Proc.devRef .tc main_v100_3) = E (Proc.devRef .tc main_v100_3) := by
  induction t with
  | zero => rfl
  | succ t ih => rw [at_succ, STEP_main_v100_3, ih]
theorem fixed4 (t : ℕ) : at_ E t (Proc.devRef .tc main_v100_4) = E (Proc.devRef .tc main_v100_4) := by
  induction t with
  | zero => rfl
  | succ t ih => rw [at_succ, STEP_main_v100_4, ih]
theorem fixed5 (t : ℕ) : at_ E t (Proc.devRef .tc main_v100_5) = E (Proc.devRef .tc main_v100_5) := by
  induction t with
  | zero => rfl
  | succ t ih => rw [at_succ, STEP_main_v100_5, ih]

theorem family (f : Fin 4 → EReal) (x0 x1 x2 x3 : EReal) (h0 : x0 = f 0) (h1 : x1 = f 1) (h2 : x2 = f 2) (h3 : x3 = f 3) : ![x0, x1, x2, x3] = f := by
  subst h0 h1 h2 h3
  funext l
  fin_cases l <;> rfl

theorem boxes_of (b : Fin 8) (j : Fin 5000) (f : Fin 4 → EReal) (h0 : E (Proc.devRef .tc main_v100_0) (ix2 b j) = f 0) (h1 : E (Proc.devRef .tc main_v100_1) (ix2 b j) = f 1)
    (h2 : E (Proc.devRef .tc main_v100_2) (ix2 b j) = f 2) (h3 : E (Proc.devRef .tc main_v100_3) (ix2 b j) = f 3) : boxes E b j = f :=
  family f _ _ _ _ h0 h1 h2 h3

theorem boxes_fixed (t : ℕ) (b : Fin 8) (j : Fin 5000) : boxes (at_ E t) b j = boxes E b j := by
  unfold boxes
  rw [fixed0, fixed1, fixed2, fixed3]

theorem count (h0 : E (Proc.devRef .tc main_v100_6) = fun _ => (0#32 : BitVec 32)) (t : ℕ) :
    at_ E t (Proc.devRef .tc main_v100_6) (Shape.Idx.first h_S_) = BitVec.ofNat 32 t := by
  induction t with
  | zero => exact congrFun h0 _
  | succ t ih =>
    rw [at_succ, STEP_main_v100_6]
    refine (congrArg (fun w : BitVec 32 => w + 1#32) ih).trans ?_
    exact (BitVec.ofNat_add t 1).symm

theorem scores_next (t : ℕ) (b : Fin 8) (j : Fin 5000) [Decidable (Over (boxes E b (best (at_ E t) b)) (boxes E b j) ∨ j = best (at_ E t) b)] :
    at_ E (t + 1) (Proc.devRef .tc main_v100_7) (ix2 b j)
    = if Over (boxes E b (best (at_ E t) b)) (boxes E b j) ∨ j = best (at_ E t) b then low else at_ E t (Proc.devRef .tc main_v100_7) (ix2 b j) := by
  rw [at_succ, STEP_main_v100_7, scores_step, boxes_fixed, boxes_fixed]
  congr

/-- The row that trip `t` writes. -/
def trow (t : ℕ) (b : Fin 8) (l : Fin 6) : EReal :=
  NmsStep.det (boxes E b (best (at_ E t) b)) (E (Proc.devRef .tc main_v100_5) (ix2 b (0 : Fin 1)))
    (at_ E t (Proc.devRef .tc main_v100_7) (ix2 b (best (at_ E t) b)))
    (FloatOps.sitofp (F := Ideal) FTy.f32 (E (Proc.devRef .tc main_v100_4) (ix2 b (best (at_ E t) b))) + 1) l

theorem rows_next (h0 : E (Proc.devRef .tc main_v100_6) = fun _ => (0#32 : BitVec 32)) (t : ℕ) (ht : t < 100) (i : Fin 100) (b : Fin 8) (l : Fin 6) :
    at_ E (t + 1) (Proc.devRef .tc main_v100_8) (ix3 i b l) = if i = ⟨t, ht⟩ then trow E t b l else at_ E t (Proc.devRef .tc main_v100_8) (ix3 i b l) := by
  rw [at_succ, STEP_main_v100_8, row_step (at_ E t) b ⟨t, ht⟩ (count E h0 t) i l, boxes_fixed, fixed4, fixed5]
  rfl

theorem rows (h0 : E (Proc.devRef .tc main_v100_6) = fun _ => (0#32 : BitVec 32)) (t : ℕ) (ht : t ≤ 100) (i : Fin 100) (hi : i.val < t) (b : Fin 8) (l : Fin 6) :
    at_ E t (Proc.devRef .tc main_v100_8) (ix3 i b l) = trow E i.val b l := by
  induction t with
  | zero => omega
  | succ t ih =>
    rw [rows_next E h0 t (by omega)]
    by_cases h : i.val = t
    · rw [if_pos (Fin.ext h)]
      exact congrArg (fun k => trow E k b l) h.symm
    · rw [if_neg (fun e => h (congrArg Fin.val e))]
      exact ih (by omega) (by omega)

theorem greedy (b : Fin 8) : Greedy (fun i j => Over (boxes E b i) (boxes E b j)) (fun j => E (Proc.devRef .tc main_v100_7) (ix2 b j)) low 100
    (fun t j => at_ E t (Proc.devRef .tc main_v100_7) (ix2 b j)) (fun t => best (at_ E t) b) := by
  classical
  refine ⟨fun j => rfl, fun t _ => best_first (at_ E t) b, fun t _ j h => ?_, fun t _ j h => ?_⟩
  · exact (scores_next E t b j).trans (if_pos h)
  · exact (scores_next E t b j).trans (if_neg h)

theorem at_eq (t : ℕ) : STEP^[t] E = at_ E t := rfl

theorem out_at (b : Fin 8) (i : Fin 100) (l : Fin 6) : out_main_v101 E (ix3 b i l) = E (Proc.devRef .tc main_v100_8) (ix3 i b l) := by
  unfold out_main_v101
  pointwise []

theorem out_row (h0 : E (Proc.devRef .tc main_v100_6) = fun _ => (0#32 : BitVec 32)) (b : Fin 8) (i : Fin 100) (l : Fin 6) :
    out_main_v101 (STEP^[100] E) (ix3 b i l) = trow E i.val b l := by
  rw [at_eq, out_at]
  exact rows E h0 100 le_rfl i i.isLt b l

end

section
variable (V : Valuation τ sig (Elt Ideal))

theorem boxes_start (b : Fin 8) (j : Fin 5000) : boxes (RefStart.U10 V) b j = RefStart.box V b (anc (RefStart.cand V b j)) :=
  boxes_of (RefStart.U10 V) b j _ (RefStart.plane0 V b j) (RefStart.plane1 V b j) (RefStart.plane2 V b j) (RefStart.plane3 V b j)

/-- The reference's result, row by row: a greedy selection over its candidates. -/
theorem result (b : Fin 8) : ∃ (s : ℕ → Fin 5000 → EReal) (pick : ℕ → Fin 5000),
    Greedy (fun i j => Over (RefStart.box V b (anc (RefStart.cand V b i))) (RefStart.box V b (anc (RefStart.cand V b j))))
        (fun j => Ideal.logistic (key (RefStart.logits V b) (RefStart.cand V b j))) low 100 s pick
      ∧ ∀ (i : Fin 100) (l : Fin 6), out_main_v101 (STEP^[100] (RefStart.U10 V)) (ix3 b i l)
        = NmsStep.det (RefStart.box V b (anc (RefStart.cand V b (pick i.val)))) (V (Proc.devRef .tc main_arg10) (ix1 b)) (s i.val (pick i.val))
          (FloatOps.sitofp (F := Ideal) FTy.f32 (BitVec.ofNat 32 ((RefStart.cand V b (pick i.val)).val % 90)) + 1) l := by
  refine ⟨fun t j => at_ (RefStart.U10 V) t (Proc.devRef .tc main_v100_7) (ix2 b j), fun t => best (at_ (RefStart.U10 V) t) b, ?_, fun i l => ?_⟩
  · have G := greedy (RefStart.U10 V) b
    rw [funext fun j => RefStart.start V b j] at G
    simp only [boxes_start] at G
    exact G
  · rw [out_row _ (RefStart.counter V)]
    unfold trow
    rw [boxes_start, RefStart.classes, RefStart.scales]

end

end Cert.RefOut

end
-- ==== Proof.Sparse.lean ====
/-
  What the precondition says: every candidate's box overlaps itself, and overlaps at most fifty candidates.
-/
module

public import proofs.«01_k».proof.Pre_sparse_overlaps
public import proofs.«01_k».proof.Proof.Gen.Pre_sparse_overlaps
public import proofs.«01_k».proof.Proof.RefEntry

@[expose] public section

set_option maxRecDepth 16384

noncomputable section

namespace Cert.Sparse

open Idealize.ShloMosaic Cert.Pick Cert.Folds Cert.Box Cert.Data Cert.Gather
open Cert.Pre_sparse_overlaps Cert.Pre_sparse_overlaps.Facts

section
variable [Cert.Pre_sparse_overlaps.Facts]
variable (P0 P1 P2 P3 : FVec Ideal S8x5000 .f32)

def fam4 (b : Fin 8) (j : Fin 5000) : Fin 4 → EReal := ![P0 (ix2 b j), P1 (ix2 b j), P2 (ix2 b j), P3 (ix2 b j)]

theorem indicator (P : Prop) [Decidable P] : FloatOps.uitofp (F := Ideal) FTy.f32 (BitVec.ofBool (decide P)) = if P then 1 else 0 := by
  split_ifs with h
  · rw [decide_eq_true h]
    show (((1#1).toNat : ℝ) : EReal) = 1
    norm_num
  · rw [decide_eq_false h]
    show (((0#1).toNat : ℝ) : EReal) = 0
    norm_num

theorem count {n : ℕ} (P : Fin n → Prop) [DecidablePred P] : (∑ x, if P x then (1 : EReal) else 0) = ((Finset.univ.filter P).card : EReal) := by
  rw [Finset.sum_ite, Finset.sum_const_zero, add_zero, Finset.sum_const, nsmul_one]

theorem fifty : Ideal.ofBits .f32 0x42480000#32 = ((50 : ℕ) : EReal) := by
  have h : Ideal.ofBits .f32 0x42480000#32 = ((50 : ℝ) : EReal) := by
    simp [Ideal.ofBits, Ideal.ieee, -EReal.coe_mul]; norm_num
  rw [h]
  first | rfl | norm_cast | simp

theorem both (P Q : Prop) [Decidable P] [Decidable Q] (h : IntOp.andi (BitVec.ofBool (decide P)) (BitVec.ofBool (decide Q)) = 1#1) : P ∧ Q := by
  by_cases hP : P
  · by_cases hQ : Q
    · exact ⟨hP, hQ⟩
    · rw [decide_eq_true hP, decide_eq_false hQ] at h; exact absurd h (by decide)
  · by_cases hQ : Q
    · rw [decide_eq_false hP, decide_eq_true hQ] at h; exact absurd h (by decide)
    · rw [decide_eq_false hP, decide_eq_false hQ] at h; exact absurd h (by decide)

theorem overlaps (b : Fin 8) (i : Fin 5000) (h : fn_part5 (F := Ideal) P0 P1 P2 P3 (ix2 b i) = 1#1) :
    Over (fam4 P0 P1 P2 P3 b i) (fam4 P0 P1 P2 P3 b i)
      ∧ ∃ D : Finset (Fin 5000), (∀ j, Over (fam4 P0 P1 P2 P3 b i) (fam4 P0 P1 P2 P3 b j) → j ∈ D) ∧ D.card ≤ 50 := by
  classical
  revert h
  pointwise [fn_part5, fn_part6, fn_part7, fn_part8]
  intro h
  have hb : ∀ i, (P0 (ix2 b i) = fam4 P0 P1 P2 P3 b i 0) ∧ (P1 (ix2 b i) = fam4 P0 P1 P2 P3 b i 1)
    ∧ (P2 (ix2 b i) = fam4 P0 P1 P2 P3 b i 2) ∧ (P3 (ix2 b i) = fam4 P0 P1 P2 P3 b i 3) := fun _ => ⟨rfl, rfl, rfl, rfl⟩
  simp only [fun i => (hb i).1, fun i => (hb i).2.1, fun i => (hb i).2.2.1, fun i => (hb i).2.2.2] at h
  generalize fam4 P0 P1 P2 P3 b = B at h ⊢
  obtain ⟨h1, h2⟩ := both _ _ h
  refine ⟨h1, Finset.univ.filter (fun j => Over (B i) (B j)), fun j hj => Finset.mem_filter.mpr ⟨Finset.mem_univ j, hj⟩, ?_⟩
  simp only [indicator] at h2
  rw [count, fifty] at h2
  have h3 := Nat.cast_le.mp h2
  refine le_trans (le_of_eq ?_) h3
  congr

theorem clip_apply (x : FVec Ideal S8x5000 .f32) (b : Fin 8) (j : Fin 5000) :
    fn_clip (F := Ideal) x (constant (F := Ideal) S_ .f32 0x00000000#32) (constant (F := Ideal) S_ .f32 0x44000000#32) (ix2 b j) = clip (x (ix2 b j)) := by
  simp only [fn_clip, id]
  pointwise [clip]

theorem four (a0 a1 a2 a3 b0 b1 b2 b3 : EReal) (h0 : a0 = b0) (h1 : a1 = b1) (h2 : a2 = b2) (h3 : a3 = b3) : ![a0, a1, a2, a3] = ![b0, b1, b2, b3] := by
  rw [h0, h1, h2, h3]

theorem stageA (vals : FVec Ideal S8x5000 .f32) (v28 v35 : FVec Ideal S8x5000x4 .f32) :
    ∃ P0 P1 P2 P3 : FVec Ideal S8x5000 .f32,
      fn_part2 (F := Ideal) vals v28 v35 (addf (shapeCast S8x5000 (extractStridedSlice S8x5000x1 ![0, 0, 0] v35 slices_S8x5000x4_S8x5000x1_0_0_0) shapeCasts_S8x5000x1_S8x5000)
          (shapeCast S8x5000 (extractStridedSlice S8x5000x1 ![0, 0, 2] v35 slices_S8x5000x4_S8x5000x1_0_0_2) shapeCasts_S8x5000x1_S8x5000)) (constant (F := Ideal) S_ .f32 0x40000000#32)
        = fn_part5 (F := Ideal) P0 P1 P2 P3
      ∧ ∀ b j, fam4 P0 P1 P2 P3 b j = decode (fun l => v28 (ix3 b j l)) (fun l => v35 (ix3 b j l)) := by
  unfold fn_part2 fn_part3 fn_part4
  refine ⟨_, _, _, _, rfl, fun b j => ?_⟩
  refine four _ _ _ _ _ _ _ _ ?_ ?_ ?_ ?_
  all_goals
    refine (clip_apply _ b j).trans (congrArg clip ?_)
    pointwise []
    simp only [div_two]

/-- The anchors of the candidates, as words. -/
def ids (v22 : FVec Ideal S8x4419360 .f32) : IVec S8x5000 32 :=
  Host.divsi (Host.topK S8x5000 1 (FloatOps.cmpfTotal (F := Ideal) (φ := .f32) .gt) v22 sliceFits_S8x4419360_S8x5000).2 (broadcastInDim S8x5000 ![] bcast_S_S8x5000 (constantI S_ 32 90#32))

def offsets (v21 : FVec Ideal S8x49104x4 .f32) (v22 : FVec Ideal S8x4419360 .f32) : FVec Ideal S8x5000x4 .f32 :=
  Host.gather gather_S8x49104x4_S8x5000x1_S8x5000x4_2_1_0_0_1_2_114 v21 (RefEntry.wrap3 (broadcastInDim S8x5000x1 ![0, 1] bcast_S8x5000_S8x5000x1_0_1 (ids v22)))

def anchors (A : FVec Ideal S49104x4 .f32) (v22 : FVec Ideal S8x4419360 .f32) : FVec Ideal S8x5000x4 .f32 :=
  Host.gather gather_S49104x4_S8x5000x1_S8x5000x4_2_0_n_n_0_2_14 A (RefEntry.wrap2 (ids v22))

theorem stageB (A : FVec Ideal S49104x4 .f32) (v21 : FVec Ideal S8x49104x4 .f32) (v22 : FVec Ideal S8x4419360 .f32) (vals : FVec Ideal S8x5000 .f32) :
    fn_part1 (F := Ideal) A v21 v22 vals = fn_part2 (F := Ideal) vals (offsets v21 v22) (anchors A v22)
      (addf (shapeCast S8x5000 (extractStridedSlice S8x5000x1 ![0, 0, 0] (anchors A v22) slices_S8x5000x4_S8x5000x1_0_0_0) shapeCasts_S8x5000x1_S8x5000)
          (shapeCast S8x5000 (extractStridedSlice S8x5000x1 ![0, 0, 2] (anchors A v22) slices_S8x5000x4_S8x5000x1_0_0_2) shapeCasts_S8x5000x1_S8x5000)) (constant (F := Ideal) S_ .f32 0x40000000#32) := rfl

theorem ids_apply (v22 : FVec Ideal S8x4419360 .f32) (b : Fin 8) (K : Fin 4419360 → EReal) (hK : (fun q => v22 (ix2 b q)) = K) (j : Fin 5000) :
    ids v22 (ix2 b j) = BitVec.ofNat 32 (anc (rank (by decide : 5000 ≤ 4419360) K j)).val := by
  unfold ids
  pointwise []
  refine (congrArg (fun w => IntOp.divsi .host w 90#32) (topK_places (by decide : 5000 ≤ 4419360) v22 sliceFits_S8x4419360_S8x5000 b j)).trans ?_
  rw [hK]
  exact RefEntry.word_div _

theorem offsets_apply (v21 : FVec Ideal S8x49104x4 .f32) (v22 : FVec Ideal S8x4419360 .f32) (b : Fin 8) (j : Fin 5000) (l : Fin 4) (n : Fin 49104)
    (hn : ids v22 (ix2 b j) = BitVec.ofNat 32 n.val) : offsets v21 v22 (ix3 b j l) = v21 (ix3 b n l) := by
  refine gather4 _ _ _ b j l n ?_
  rw [RefEntry.wrap3_apply _ b j n ?_]
  · exact RefEntry.word_toInt n
  · refine Eq.trans ?_ hn
    pointwise []

theorem anchors_apply (A : FVec Ideal S49104x4 .f32) (v22 : FVec Ideal S8x4419360 .f32) (b : Fin 8) (j : Fin 5000) (l : Fin 4) (n : Fin 49104)
    (hn : ids v22 (ix2 b j) = BitVec.ofNat 32 n.val) : anchors A v22 (ix3 b j l) = A (ix2 n l) := by
  refine gather2 _ _ _ b j l n ?_
  rw [RefEntry.wrap2_apply _ b j n hn]
  exact RefEntry.word_toInt n

/-- From the candidates' logits and the anchors' offsets on. -/
theorem of_arrays (A : FVec Ideal S49104x4 .f32) (v21 : FVec Ideal S8x49104x4 .f32) (v22 : FVec Ideal S8x4419360 .f32) (vals : FVec Ideal S8x5000 .f32)
    (h : fn_part1 (F := Ideal) A v21 v22 vals = fun _ => 1#1) (b : Fin 8) (L : Fin 810 → Fin 5456 → EReal) (B : Fin 36 → Fin 5456 → EReal)
    (hL : ∀ q, v22 (ix2 b q) = key L q) (hB : ∀ r l, v21 (ix3 b r l) = B (brow (shape r) l) (place r)) (i : Fin 5000) :
    Over (abox B A (anc (rank (by decide : 5000 ≤ 4419360) (key L) i))) (abox B A (anc (rank (by decide : 5000 ≤ 4419360) (key L) i)))
      ∧ ∃ D : Finset (Fin 5000), (∀ j, Over (abox B A (anc (rank (by decide : 5000 ≤ 4419360) (key L) i))) (abox B A (anc (rank (by decide : 5000 ≤ 4419360) (key L) j))) → j ∈ D) ∧ D.card ≤ 50 := by
  obtain ⟨P0, P1, P2, P3, e, hP⟩ := stageA vals (offsets v21 v22) (anchors A v22)
  rw [stageB, e] at h
  have hb : ∀ j, fam4 P0 P1 P2 P3 b j = abox B A (anc (rank (by decide : 5000 ≤ 4419360) (key L) j)) := by
    intro j
    have hid := ids_apply v22 b (key L) (funext hL) j
    rw [hP b j]
    unfold abox
    refine congrArg₂ decode (funext fun l => ?_) (funext fun l => ?_)
    · exact (offsets_apply v21 v22 b j l _ hid).trans (hB _ l)
    · exact anchors_apply A v22 b j l _ hid
  have := overlaps P0 P1 P2 P3 b i (congrFun h (ix2 b i))
  simp only [hb] at this
  exact this

/-- The precondition, image by image. -/
theorem sparse (a0 : FVec Ideal S8x810x64x64 .f32) (a1 : FVec Ideal S8x810x32x32 .f32) (a2 : FVec Ideal S8x810x16x16 .f32) (a3 : FVec Ideal S8x810x8x8 .f32)
    (a4 : FVec Ideal S8x810x4x4 .f32) (a5 : FVec Ideal S8x36x64x64 .f32) (a6 : FVec Ideal S8x36x32x32 .f32) (a7 : FVec Ideal S8x36x16x16 .f32)
    (a8 : FVec Ideal S8x36x8x8 .f32) (a9 : FVec Ideal S8x36x4x4 .f32) (a10 : FVec Ideal S8 .f32) (A : FVec Ideal S49104x4 .f32)
    (h : fn (F := Ideal) a0 a1 a2 a3 a4 a5 a6 a7 a8 a9 a10 A = fun _ => 1#1) (b : Fin 8) (i : Fin 5000) :
    Over (abox (chan a5 a6 a7 a8 a9 b) A (anc (rank (by decide : 5000 ≤ 4419360) (key (chan a0 a1 a2 a3 a4 b)) i))) (abox (chan a5 a6 a7 a8 a9 b) A (anc (rank (by decide : 5000 ≤ 4419360) (key (chan a0 a1 a2 a3 a4 b)) i)))
      ∧ ∃ D : Finset (Fin 5000), (∀ j, Over (abox (chan a5 a6 a7 a8 a9 b) A (anc (rank (by decide : 5000 ≤ 4419360) (key (chan a0 a1 a2 a3 a4 b)) i))) (abox (chan a5 a6 a7 a8 a9 b) A (anc (rank (by decide : 5000 ≤ 4419360) (key (chan a0 a1 a2 a3 a4 b)) j))) → j ∈ D) ∧ D.card ≤ 50 := by
  unfold fn at h
  dsimp only at h
  refine of_arrays A _ _ _ h b (chan a0 a1 a2 a3 a4 b) (chan a5 a6 a7 a8 a9 b) (fun q => ?_) (fun r l => ?_) i
  · pointwise []
    exact Rows.rows90 _ _ _ _ _ b ⟨q.val / 90, by omega⟩ ⟨q.val % 90, by omega⟩
  · pointwise []
    exact Rows.rows4 _ _ _ _ _ b r l

end

end Cert.Sparse

end
-- ==== Proof.Match.lean ====
/-
  The two results are equal: both selections are greedy over the same boxes, and the precondition keeps the reference's
  candidates from running out.
-/
module

public import proofs.«01_k».proof.Defs
public import proofs.«01_k».proof.Proof.KernelOut
public import proofs.«01_k».proof.Proof.RefOut
public import proofs.«01_k».proof.Proof.Sparse
public import proofs.«01_k».proof.Proof.Gen.Pre_sparse_overlaps

@[expose] public section

set_option maxRecDepth 16384

noncomputable section

namespace Cert.Match

open Idealize.ShloMosaic Idealize.ShloMosaic.TcCoe Cert.Pick Cert.Data Cert.Box

/-- Detection by detection, over one image's logits, offsets and anchors. -/
theorem agree (L : Fin 810 → Fin 5456 → EReal) (B : Fin 36 → Fin 5456 → EReal) (A : (⟨2, ![49104, 4]⟩ : Shape).Idx → EReal) (sc : EReal)
    (he : 5000 ≤ 4419360) (hf : 5120 ≤ 49104)
    (hs : ∀ i, Over (abox B A (anc (rank he (key L) i))) (abox B A (anc (rank he (key L) i)))
      ∧ ∃ D : Finset (Fin 5000), (∀ j, Over (abox B A (anc (rank he (key L) i))) (abox B A (anc (rank he (key L) j))) → j ∈ D) ∧ D.card ≤ 50)
    (s : ℕ → Fin 5000 → EReal) (pick : ℕ → Fin 5000)
    (G : Greedy (fun i j => Over (abox B A (anc (rank he (key L) i))) (abox B A (anc (rank he (key L) j)))) (fun j => Ideal.logistic (key L (rank he (key L) j))) low 100 s pick)
    (s' : ℕ → Fin 5120 → EReal) (pick' : ℕ → Fin 5120)
    (G' : Greedy (fun i j => Over (abox B A (rank hf (top L) i)) (abox B A (rank hf (top L) j))) (fun j => Ideal.logistic (top L (rank hf (top L) j))) low 100 s' pick')
    (t : ℕ) (ht : t < 100) (l : Fin 6) :
    NmsStep.det (abox B A (rank hf (top L) (pick' t))) sc (s' t (pick' t)) (FloatOps.sitofp (F := Ideal) FTy.f32 (BitVec.ofNat 32 (cls L (rank hf (top L) (pick' t))).val) + 1) l
      = NmsStep.det (abox B A (anc (rank he (key L) (pick t)))) sc (s t (pick t)) (FloatOps.sitofp (F := Ideal) FTy.f32 (BitVec.ofNat 32 ((rank he (key L) (pick t)).val % 90)) + 1) l := by
  obtain ⟨h1, h2⟩ := picks_agree (fam L) (rank_isTop he (key L)) (rank_isTop hf (top L)) (by decide) (fun r r' => Over (abox B A r) (abox B A r'))
    Ideal.logistic logistic_mono low_lt_logistic (T := 100) (d := 50) (fun i => (hs i).1) (fun i => (hs i).2) (by decide) G G' t ht
  have hc : (bestOf L (rank hf (top L) (pick' t))).val % 90 = (cls L (rank hf (top L) (pick' t))).val := by
    show ((rank hf (top L) (pick' t)).val * 90 + (cls L (rank hf (top L) (pick' t))).val) % 90 = _
    have := (cls L (rank hf (top L) (pick' t))).isLt
    omega
  rw [h1, h2, (fam L).anc_best, hc]

/-- Equal arrays have equal channels. -/
theorem chan_congr {n : ℕ} {a0 a0' : FVec Ideal ⟨4, ![8, n, 64, 64]⟩ .f32} {a1 a1' : FVec Ideal ⟨4, ![8, n, 32, 32]⟩ .f32}
    {a2 a2' : FVec Ideal ⟨4, ![8, n, 16, 16]⟩ .f32} {a3 a3' : FVec Ideal ⟨4, ![8, n, 8, 8]⟩ .f32} {a4 a4' : FVec Ideal ⟨4, ![8, n, 4, 4]⟩ .f32}
    (h0 : a0 = a0') (h1 : a1 = a1') (h2 : a2 = a2') (h3 : a3 = a3') (h4 : a4 = a4') (b : Fin 8) : chan a0 a1 a2 a3 a4 b = chan a0' a1' a2' a3' a4' b := by
  rw [h0, h1, h2, h3, h4]

/-- One detection of the reference, over whatever the logits, offsets, anchors and scale of the image are called. -/
def IsOut (L : Fin 810 → Fin 5456 → EReal) (B : Fin 36 → Fin 5456 → EReal) (A : (⟨2, ![49104, 4]⟩ : Shape).Idx → EReal) (sc : EReal) (o : Fin 100 → Fin 6 → EReal) : Prop :=
  ∃ (s : ℕ → Fin 5000 → EReal) (pick : ℕ → Fin 5000),
    Greedy (fun i j => Over (abox B A (anc (rank (by decide : 5000 ≤ 4419360) (key L) i))) (abox B A (anc (rank (by decide : 5000 ≤ 4419360) (key L) j))))
      (fun j => Ideal.logistic (key L (rank (by decide : 5000 ≤ 4419360) (key L) j))) low 100 s pick
    ∧ ∀ (i : Fin 100) (l : Fin 6), o i l = NmsStep.det (abox B A (anc (rank (by decide : 5000 ≤ 4419360) (key L) (pick i.val)))) sc (s i.val (pick i.val))
        (FloatOps.sitofp (F := Ideal) FTy.f32 (BitVec.ofNat 32 ((rank (by decide : 5000 ≤ 4419360) (key L) (pick i.val)).val % 90)) + 1) l

section
variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

theorem entry_eq : StableHlo.entryContents Cert.ReferenceIdeal.Value.preI m' c = RefStart.U10 (StableHlo.launchContents m' c) := by
  simp only [StableHlo.entryContents, StableHlo.afterL_cons, StableHlo.afterL_nil]
  rfl

theorem ref_isOut (V : Valuation Cert.ReferenceIdeal.τ Cert.ReferenceIdeal.sig (Elt Ideal)) (b : Fin 8) :
    IsOut (RefStart.logits V b) (RefStart.offs V b) (V (Proc.devRef .tc Cert.ReferenceIdeal.main_arg11)) (V (Proc.devRef .tc Cert.ReferenceIdeal.main_arg10) (ix1 b))
      (fun i l => Cert.ReferenceIdeal.Value.out_main_v101 (Cert.ReferenceIdeal.Value.STEP^[100] (RefStart.U10 V)) (ix3 b i l)) :=
  RefOut.result V b

/-- The whole result, at one device. -/
theorem results (hpre : Cert.Pre_KernelIdeal_sparse_overlaps (hPre_sparse_overlaps := Cert.Pre_sparse_overlaps.Gen.facts) m)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2))
    (h3 : m' (c.tc.loc Cert.ReferenceIdeal.main_arg3) = m (c.tc.loc Cert.KernelIdeal.main_arg3))
    (h4 : m' (c.tc.loc Cert.ReferenceIdeal.main_arg4) = m (c.tc.loc Cert.KernelIdeal.main_arg4))
    (h5 : m' (c.tc.loc Cert.ReferenceIdeal.main_arg5) = m (c.tc.loc Cert.KernelIdeal.main_arg5))
    (h6 : m' (c.tc.loc Cert.ReferenceIdeal.main_arg6) = m (c.tc.loc Cert.KernelIdeal.main_arg6))
    (h7 : m' (c.tc.loc Cert.ReferenceIdeal.main_arg7) = m (c.tc.loc Cert.KernelIdeal.main_arg7))
    (h8 : m' (c.tc.loc Cert.ReferenceIdeal.main_arg8) = m (c.tc.loc Cert.KernelIdeal.main_arg8))
    (h9 : m' (c.tc.loc Cert.ReferenceIdeal.main_arg9) = m (c.tc.loc Cert.KernelIdeal.main_arg9))
    (h10 : m' (c.tc.loc Cert.ReferenceIdeal.main_arg10) = m (c.tc.loc Cert.KernelIdeal.main_arg10))
    (h11 : m' (c.tc.loc Cert.ReferenceIdeal.main_arg11) = m (c.tc.loc Cert.KernelIdeal.main_arg11))
    (b : Fin 8) (i : Fin 100) (l : Fin 6) :
    Cert.KernelIdeal.Gen.W18 m g c (Proc.devRef .tc Cert.KernelIdeal.main_v49) (ix3 b i l)
      = Cert.ReferenceIdeal.Value.out_main_v101 (Cert.ReferenceIdeal.Value.STEP^[100] (RefStart.U10 (StableHlo.launchContents m' c))) (ix3 b i l) := by
  have hR := ref_isOut (StableHlo.launchContents m' c) b
  have hL : RefStart.logits (StableHlo.launchContents m' c) b = KernelOut.logits m c b := chan_congr h0 h1 h2 h3 h4 b
  have hB : RefStart.offs (StableHlo.launchContents m' c) b = KernelOut.offs m c b := chan_congr h5 h6 h7 h8 h9 b
  have hA : StableHlo.launchContents m' c (Proc.devRef .tc Cert.ReferenceIdeal.main_arg11) = m (c.tc.loc Cert.KernelIdeal.main_arg11) := h11
  have hS : StableHlo.launchContents m' c (Proc.devRef .tc Cert.ReferenceIdeal.main_arg10) (ix1 b) = m (c.tc.loc Cert.KernelIdeal.main_arg10) (ix1 b) := congrFun h10 (ix1 b)
  rw [hL, hB, hA, hS] at hR
  obtain ⟨s, pick, G, h⟩ := hR
  obtain ⟨s', pick', G', h'⟩ := KernelOut.result m g c b
  exact (h' i l).trans ((agree (KernelOut.logits m c b) (KernelOut.offs m c b) (m (c.tc.loc Cert.KernelIdeal.main_arg11)) _ _ _
    (Sparse.sparse _ _ _ _ _ _ _ _ _ _ _ _ (hpre c) b) s pick G s' pick' G' i.val i.isLt l).trans (h i l).symm)

/-- The same, as one equation between the two result arrays. -/
theorem at_device (hpre : Cert.Pre_KernelIdeal_sparse_overlaps (hPre_sparse_overlaps := Cert.Pre_sparse_overlaps.Gen.facts) m)
    (h : m' (c.tc.loc Cert.ReferenceIdeal.main_arg0) = m (c.tc.loc Cert.KernelIdeal.main_arg0)
      ∧ m' (c.tc.loc Cert.ReferenceIdeal.main_arg1) = m (c.tc.loc Cert.KernelIdeal.main_arg1)
      ∧ m' (c.tc.loc Cert.ReferenceIdeal.main_arg2) = m (c.tc.loc Cert.KernelIdeal.main_arg2)
      ∧ m' (c.tc.loc Cert.ReferenceIdeal.main_arg3) = m (c.tc.loc Cert.KernelIdeal.main_arg3)
      ∧ m' (c.tc.loc Cert.ReferenceIdeal.main_arg4) = m (c.tc.loc Cert.KernelIdeal.main_arg4)
      ∧ m' (c.tc.loc Cert.ReferenceIdeal.main_arg5) = m (c.tc.loc Cert.KernelIdeal.main_arg5)
      ∧ m' (c.tc.loc Cert.ReferenceIdeal.main_arg6) = m (c.tc.loc Cert.KernelIdeal.main_arg6)
      ∧ m' (c.tc.loc Cert.ReferenceIdeal.main_arg7) = m (c.tc.loc Cert.KernelIdeal.main_arg7)
      ∧ m' (c.tc.loc Cert.ReferenceIdeal.main_arg8) = m (c.tc.loc Cert.KernelIdeal.main_arg8)
      ∧ m' (c.tc.loc Cert.ReferenceIdeal.main_arg9) = m (c.tc.loc Cert.KernelIdeal.main_arg9)
      ∧ m' (c.tc.loc Cert.ReferenceIdeal.main_arg10) = m (c.tc.loc Cert.KernelIdeal.main_arg10)
      ∧ m' (c.tc.loc Cert.ReferenceIdeal.main_arg11) = m (c.tc.loc Cert.KernelIdeal.main_arg11)) :
    Cert.ReferenceIdeal.Value.out_main_v101 (Cert.ReferenceIdeal.Value.STEP^[100] (StableHlo.entryContents Cert.ReferenceIdeal.Value.preI m' c))
      = Cert.KernelIdeal.Gen.W18 m g c (Proc.devRef .tc Cert.KernelIdeal.main_v49) := by
  obtain ⟨h0, h1, h2, h3, h4, h5, h6, h7, h8, h9, h10, h11⟩ := h
  rw [entry_eq]
  funext i
  obtain ⟨b, k, l, rfl⟩ : ∃ (b : Fin 8) (k : Fin 100) (l : Fin 6), i = ix3 b k l := ⟨i 0, i 1, i 2, by funext t; fin_cases t <;> rfl⟩
  exact (results m g m' c hpre h0 h1 h2 h3 h4 h5 h6 h7 h8 h9 h10 h11 b k l).symm

end

end Cert.Match

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_sparse_overlaps
public import proofs.«01_k».proof.Proof.KernelRun
public import proofs.«01_k».proof.Proof.Match
public import Idealize.ShloMosaic.Adequacy
public import Idealize.ShloMosaic.Lib.Claim
public import Idealize.ShloMosaic.Init

@[expose] public section

noncomputable section

namespace Cert.Proof

open Idealize.ShloMosaic Idealize.SL.Sem Cert.Kernel

/-- The reference runs, its arguments end unchanged, and it declares no semaphore. -/
theorem frame_reference : Cert.quiescent_ReferenceIdeal (hReferenceIdeal := Cert.ReferenceIdeal.Gen.facts) := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- Both programs end with the detections the kernel leaves. -/
theorem algebraic : Cert.algebraic_KernelIdeal_ReferenceIdeal_pre_sparse_overlaps (hKernelIdeal := Cert.KernelIdeal.Gen.facts)
    (hReferenceIdeal := Cert.ReferenceIdeal.Gen.facts) (hPre_sparse_overlaps := Cert.Pre_sparse_overlaps.Gen.facts) := by
  intro m g m' g' hpre hagree
  refine ⟨fun c => Cert.KernelIdeal.Gen.W18 m g c (Proc.devRef .tc Cert.KernelIdeal.main_v49),
    (θ_run Cert.KernelIdeal.defs _ _).mono (fun r h => h.1) (Cert.KernelRun.run m g),
    (θ_run Cert.ReferenceIdeal.defs _ _).mono (fun r h c => ⟨(h c).1.trans ?_, (h c).2⟩) (Cert.ReferenceIdeal.Value.run (F := Ideal) m' g')⟩
  exact Cert.Match.at_device m g m' c hpre (hagree c)

theorem claim : Cert.Claim :=
  ⟨Cert.Kernel.Gen.facts, Cert.KernelIdeal.Gen.facts, Cert.ReferenceIdeal.Gen.facts, Cert.Pre_sparse_overlaps.Gen.facts,
    fun m g _ => Cert.Kernel.Gen.frame m g,
    fun m g _ => Cert.KernelIdeal.Gen.frame m g,
    fun m g _ => Cert.KernelIdeal.Gen.frame m g,
    frame_reference,
    fun m g _ => frame_reference m g trivial,
    trivial,
    algebraic⟩

end Cert.Proof

end
